-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_resolvable [hPre_resolvable : Cert.Pre_resolvable.Facts] (m : (ℓ : Loc Cert.KernelIdeal.nD Cert.KernelIdeal.τ Cert.KernelIdeal.sig) → Buf (Elt Ideal) ℓ) : Prop :=
  ∀ c : Dev Cert.KernelIdeal.nD,
    (Cert.Pre_resolvable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_resolvable [hPre_resolvable : Cert.Pre_resolvable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_resolvable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_resolvable [hKernelIdeal : Cert.KernelIdeal.Facts] [hPre_resolvable : Cert.Pre_resolvable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_resolvable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_resolvable [hReferenceIdeal : Cert.ReferenceIdeal.Facts] [hPre_resolvable : Cert.Pre_resolvable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_resolvable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_resolvable [hKernelIdeal : Cert.KernelIdeal.Facts] [hReferenceIdeal : Cert.ReferenceIdeal.Facts] [hPre_resolvable : Cert.Pre_resolvable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_resolvable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_resolvable : Cert.Pre_resolvable.Facts),
    quiescent_Kernel (hKernel := hKernel)
    ∧ quiescent_KernelIdeal (hKernelIdeal := hKernelIdeal)
    ∧ quiescent_KernelIdeal_pre_resolvable (hKernelIdeal := hKernelIdeal) (hPre_resolvable := hPre_resolvable)
    ∧ quiescent_ReferenceIdeal (hReferenceIdeal := hReferenceIdeal)
    ∧ quiescent_ReferenceIdeal_pre_resolvable (hReferenceIdeal := hReferenceIdeal) (hPre_resolvable := hPre_resolvable)
    ∧ preserves_Kernel_KernelIdeal
    ∧ algebraic_KernelIdeal_ReferenceIdeal_pre_resolvable (hKernelIdeal := hKernelIdeal) (hReferenceIdeal := hReferenceIdeal) (hPre_resolvable := hPre_resolvable)
-- ==== Pre_resolvable.lean ====
abbrev S64x100000 : Shape := ⟨2, ![64, 100000]⟩
abbrev S64x1 : Shape := ⟨2, ![64, 1]⟩
abbrev S_ : Shape := ⟨0, ![]⟩
abbrev S64 : Shape := ⟨1, ![64]⟩
abbrev S64x100000x1 : Shape := ⟨3, ![64, 100000, 1]⟩
abbrev S1 : Shape := ⟨1, ![1]⟩
abbrev S1x1x1 : Shape := ⟨3, ![1, 1, 1]⟩
abbrev S64x99999 : Shape := ⟨2, ![64, 99999]⟩
abbrev S2 : Shape := ⟨1, ![2]⟩
abbrev S1x1 : Shape := ⟨2, ![1, 1]⟩
abbrev S64x1x1 : Shape := ⟨3, ![64, 1, 1]⟩

class Facts : Prop where
  bcast_S_S64x1 : S_.BroadcastsInDim S64x1 (![] : Fin 0 → Fin S64x1.rank)
  bcast_S64x1_S64x100000_0_1 : S64x1.BroadcastsInDim S64x100000 (![0, 1] : Fin 2 → Fin S64x100000.rank)
  reducesTo_S64x100000_S64_d1 : S64x100000.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S_S64x100000 : S_.BroadcastsInDim S64x100000 (![] : Fin 0 → Fin S64x100000.rank)
  shapeCasts_S64x100000_S64x100000x1 : S64x100000.ShapeCasts S64x100000x1
  bcast_S_S64x100000x1 : S_.BroadcastsInDim S64x100000x1 (![] : Fin 0 → Fin S64x100000x1.rank)
  bcast_S1_S1x1x1_2 : S1.BroadcastsInDim S1x1x1 (![2] : Fin 1 → Fin S1x1x1.rank)
  bcast_S1x1x1_S64x100000x1_0_1_2 : S1x1x1.BroadcastsInDim S64x100000x1 (![0, 1, 2] : Fin 3 → Fin S64x100000x1.rank)
  reducesTo_S64x100000x1_S64x100000_d2 : S64x100000x1.ReducesTo [2] S64x100000
  bcast_S_S_ : S_.BroadcastsInDim S_ (![] : Fin 0 → Fin S_.rank)
  reduceWindows_S64x100000_S64x100000_w1s1p0_0_w100000s1p99999_0 : S64x100000.ReduceWindows (![1, 100000] : Fin 2 → Nat) ![1, 1] ![0, 99999] ![0, 0] S64x100000
  slices_S64x100000_S64x1_0_0 : S64x100000.Slices ![0, 0] S64x1
  slices_S64x100000_S64x99999_0_0 : S64x100000.Slices ![0, 0] S64x99999
  concatenates_S64x1_S64x99999_S64x100000_d1 : Shape.Concatenates [S64x1, S64x99999] S64x100000 1
  bcast_S_S1 : S_.BroadcastsInDim S1 (![] : Fin 0 → Fin S1.rank)
  concatenates_S1_S1_S2_d0 : Shape.Concatenates [S1, S1] S2 0
  bcast_S_S1x1 : S_.BroadcastsInDim S1x1 (![] : Fin 0 → Fin S1x1.rank)
  slices_S2_S1_0 : S2.Slices ![0] S1
  shapeCasts_S1_S_ : S1.ShapeCasts S_
  slices_S2_S1_1 : S2.Slices ![1] S1
  natLt_32_64 : 32 < 64
  bcast_S1x1_S64x1_0_1 : S1x1.BroadcastsInDim S64x1 (![0, 1] : Fin 2 → Fin S64x1.rank)
  natLt_1_32 : 1 < 32
  shapeCasts_S64x1_S64x1x1 : S64x1.ShapeCasts S64x1x1
  bcast_S_S64x1x1 : S_.BroadcastsInDim S64x1x1 (![] : Fin 0 → Fin S64x1x1.rank)
  bcast_S1x1x1_S64x1x1_0_1_2 : S1x1x1.BroadcastsInDim S64x1x1 (![0, 1, 2] : Fin 3 → Fin S64x1x1.rank)
  reducesTo_S64x1x1_S64x1_d2 : S64x1x1.ReducesTo [2] S64x1
  gather_S64x100000_S64x100000x1_S64x100000_n_1_0_0_1_2_11_wf : GatherDims.WF S64x100000 S64x100000x1 S64x100000 [] [1] [0] [1] [0] 2 ![1, 1]
  gather_S64x100000_S64x1x1_S64x1_n_1_0_0_1_2_11_wf : GatherDims.WF S64x100000 S64x1x1 S64x1 [] [1] [0] [1] [0] 2 ![1, 1]

variable [Facts]

variable {F : FTy → Type} [FloatOps F]
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def gather_S64x100000_S64x100000x1_S64x100000_n_1_0_0_1_2_11 : GatherDims S64x100000 S64x100000x1 S64x100000 where
  offsetDims := []
  collapsedSliceDims := [1]
  operandBatchingDims := [0]
  startIndicesBatchingDims := [0]
  startIndexMap := [1]
  indexVectorDim := 2
  sliceSizes := ![1, 1]
  wf := gather_S64x100000_S64x100000x1_S64x100000_n_1_0_0_1_2_11_wf
def gather_S64x100000_S64x1x1_S64x1_n_1_0_0_1_2_11 : GatherDims S64x100000 S64x1x1 S64x1 where
  offsetDims := []
  collapsedSliceDims := [1]
  operandBatchingDims := [0]
  startIndicesBatchingDims := [0]
  startIndexMap := [1]
  indexVectorDim := 2
  sliceSizes := ![1, 1]
  wf := gather_S64x100000_S64x1x1_S64x1_n_1_0_0_1_2_11_wf

def fn_clip {F : FTy → Type} [FloatOps F] (arg0 : FVec F S64x1 .f32) (arg1 : FVec F S_ .f32) : FVec F S64x1 .f32 :=
  let v0 : FVec F S_ .f32 := id arg1
  let v1 : FVec F S64x1 .f32 := broadcastInDim S64x1 ![] bcast_S_S64x1 v0
  let v2 : FVec F S64x1 .f32 := maximumf v1 arg0
  v2

def fn_argsort {F : FTy → Type} [FloatOps F] (arg0 : FVec F S64x100000 .f32) : IVec S64x100000 32 :=
  let v0 : IVec S64x100000 32 := iotaInDim S64x100000 32 1
  let v1_0 : FVec F S64x100000 .f32 := (fun x y => (Host.sort2 S64x100000 1 comparator_f32_i32_d1 x y).1) arg0 v0
  let v1_1 : IVec S64x100000 32 := (fun x y => (Host.sort2 S64x100000 1 comparator_f32_i32_d1 x y).2) arg0 v0
  v1_1

def fn_take_along_axis {F : FTy → Type} [FloatOps F] (arg0 : FVec F S64x100000 .f32) (arg1 : IVec S64x100000 32) : FVec F S64x100000 .f32 :=
  let c : IVec S_ 32 := constantI S_ 32 0#32
  let v0 : IVec S64x100000 32 := broadcastInDim S64x100000 ![] bcast_S_S64x100000 c
  let v1 : IVec S64x100000 1 := cmpi .slt arg1 v0
  let c_0 : IVec S_ 32 := constantI S_ 32 100000#32
  let v2 : IVec S64x100000 32 := broadcastInDim S64x100000 ![] bcast_S_S64x100000 c_0
  let v3 : IVec S64x100000 32 := addi arg1 v2
  let v4 : IVec S64x100000 32 := select v1 v3 arg1
  let v5 : IVec S64x100000x1 32 := shapeCast S64x100000x1 v4 shapeCasts_S64x100000_S64x100000x1
  let c_1 : IVec S1 32 := constantI S1 32 99999#32
  let c_2 : IVec S_ 32 := constantI S_ 32 0#32
  let v6 : IVec S64x100000x1 32 := broadcastInDim S64x100000x1 ![] bcast_S_S64x100000x1 c_2
  let v7 : IVec S64x100000x1 1 := cmpi .sge v5 v6
  let v8 : IVec S1x1x1 32 := broadcastInDim S1x1x1 ![2] bcast_S1_S1x1x1_2 c_1
  let v9 : IVec S64x100000x1 32 := broadcastInDim S64x100000x1 ![0, 1, 2] bcast_S1x1x1_S64x100000x1_0_1_2 v8
  let v10 : IVec S64x100000x1 1 := cmpi .sle v5 v9
  let v11 : IVec S64x100000x1 1 := andi v7 v10
  let c_3 : IVec S_ 1 := constantI S_ 1 1#1
  let v12 : IVec S64x100000 1 := (fun x v => Host.reduce IntOp.andi x v reducesTo_S64x100000x1_S64x100000_d2 h_S_) v11 c_3
  let v13 : FVec F S64x100000 .f32 := (fun x i => Host.gather gather_S64x100000_S64x100000x1_S64x100000_n_1_0_0_1_2_11 x i) arg0 v5
  let cst : FVec F S_ .f32 := constant S_ .f32 0x7FC00000#32
  let v14 : FVec F S64x100000 .f32 := broadcastInDim S64x100000 ![] bcast_S_S64x100000 cst
  let v15 : FVec F S64x100000 .f32 := select v12 v13 v14
  v15

def fn_cumsum_0 {F : FTy → Type} [FloatOps F] (arg0 : FVec F S64x100000 .f32) : FVec F S64x100000 .f32 :=
  let cst : FVec F S_ .f32 := constant S_ .f32 0x00000000#32
  let v0 : FVec F S_ .f32 := broadcastInDim S_ ![] bcast_S_S_ cst
  let v1 : FVec F S64x100000 .f32 := (fun x v => Host.reduceWindowAdd ![1, 100000] ![1, 1] ![0, 99999] ![0, 0] x v reduceWindows_S64x100000_S64x100000_w1s1p0_0_w100000s1p99999_0 h_S_) arg0 v0
  v1

def fn_cumsum {F : FTy → Type} [FloatOps F] (arg0 : FVec F S64x100000 .f32) : FVec F S64x100000 .f32 :=
  let v0 : FVec F S64x100000 .f32 := fn_cumsum_0 (F := F) arg0
  v0

def fn_where {F : FTy → Type} [FloatOps F] (arg0 : IVec S64x100000 1) (arg1 : FVec F S_ .f32) (arg2 : FVec F S64x100000 .f32) : FVec F S64x100000 .f32 :=
  let v0 : FVec F S_ .f32 := id arg1
  let v1 : FVec F S64x100000 .f32 := broadcastInDim S64x100000 ![] bcast_S_S64x100000 v0
  let v2 : FVec F S64x100000 .f32 := select arg0 v1 arg2
  v2

def fn_threefry2x32_part9 {F : FTy → Type} [FloatOps F] (arg0 : IVec S_ 32) (v163 : IVec S64x1 32) (v169 : IVec S64x1 32) (v170 : IVec S64x1 32) : IVec S64x1 32 × IVec S64x1 32 :=
  let v171 : IVec S64x1 32 := addi v163 v170
  let v172 : IVec S64x1 32 := broadcastInDim S64x1 ![] bcast_S_S64x1 arg0
  let v173 : IVec S64x1 32 := addi v169 v172
  let c_44 : IVec S_ 32 := constantI S_ 32 5#32
  let v174 : IVec S64x1 32 := broadcastInDim S64x1 ![] bcast_S_S64x1 c_44
  let v175 : IVec S64x1 32 := addi v173 v174
  (v171, v175)

def fn_threefry2x32_part8 {F : FTy → Type} [FloatOps F] (arg0 : IVec S_ 32) (v1 : IVec S_ 32) (v148 : IVec S64x1 32) (v149 : IVec S64x1 32) (v151 : IVec S64x1 32) : IVec S64x1 32 × IVec S64x1 32 :=
  let c_39 : IVec S_ 32 := constantI S_ 32 17#32
  let v152 : IVec S64x1 32 := broadcastInDim S64x1 ![] bcast_S_S64x1 c_39
  let v153 : IVec S64x1 32 := Host.shrui v148 v152
  let v154 : IVec S64x1 32 := ori v151 v153
  let v155 : IVec S64x1 32 := xori v149 v154
  let v156 : IVec S64x1 32 := addi v149 v155
  let c_40 : IVec S_ 32 := constantI S_ 32 26#32
  let v157 : IVec S64x1 32 := broadcastInDim S64x1 ![] bcast_S_S64x1 c_40
  let v158 : IVec S64x1 32 := Host.shli v155 v157
  let c_41 : IVec S_ 32 := constantI S_ 32 6#32
  let v159 : IVec S64x1 32 := broadcastInDim S64x1 ![] bcast_S_S64x1 c_41
  let v160 : IVec S64x1 32 := Host.shrui v155 v159
  let v161 : IVec S64x1 32 := ori v158 v160
  let v162 : IVec S64x1 32 := xori v156 v161
  let v163 : IVec S64x1 32 := addi v156 v162
  let c_42 : IVec S_ 32 := constantI S_ 32 6#32
  let v164 : IVec S64x1 32 := broadcastInDim S64x1 ![] bcast_S_S64x1 c_42
  let v165 : IVec S64x1 32 := Host.shli v162 v164
  let c_43 : IVec S_ 32 := constantI S_ 32 26#32
  let v166 : IVec S64x1 32 := broadcastInDim S64x1 ![] bcast_S_S64x1 c_43
  let v167 : IVec S64x1 32 := Host.shrui v162 v166
  let v168 : IVec S64x1 32 := ori v165 v167
  let v169 : IVec S64x1 32 := xori v163 v168
  let v170 : IVec S64x1 32 := broadcastInDim S64x1 ![] bcast_S_S64x1 v1
  fn_threefry2x32_part9 (F := F) arg0 v163 v169 v170

def fn_threefry2x32_part7 {F : FTy → Type} [FloatOps F] (arg0 : IVec S_ 32) (arg1 : IVec S_ 32) (v1 : IVec S_ 32) (v128 : IVec S64x1 32) (v129 : IVec S64x1 32) (v131 : IVec S64x1 32) (c_34 : IVec S_ 32) : IVec S64x1 32 × IVec S64x1 32 :=
  let v132 : IVec S64x1 32 := broadcastInDim S64x1 ![] bcast_S_S64x1 c_34
  let v133 : IVec S64x1 32 := Host.shrui v128 v132
  let v134 : IVec S64x1 32 := ori v131 v133
  let v135 : IVec S64x1 32 := xori v129 v134
  let v136 : IVec S64x1 32 := broadcastInDim S64x1 ![] bcast_S_S64x1 arg1
  let v137 : IVec S64x1 32 := addi v129 v136
  let v138 : IVec S64x1 32 := broadcastInDim S64x1 ![] bcast_S_S64x1 v1
  let v139 : IVec S64x1 32 := addi v135 v138
  let c_35 : IVec S_ 32 := constantI S_ 32 4#32
  let v140 : IVec S64x1 32 := broadcastInDim S64x1 ![] bcast_S_S64x1 c_35
  let v141 : IVec S64x1 32 := addi v139 v140
  let v142 : IVec S64x1 32 := addi v137 v141
  let c_36 : IVec S_ 32 := constantI S_ 32 13#32
  let v143 : IVec S64x1 32 := broadcastInDim S64x1 ![] bcast_S_S64x1 c_36
  let v144 : IVec S64x1 32 := Host.shli v141 v143
  let c_37 : IVec S_ 32 := constantI S_ 32 19#32
  let v145 : IVec S64x1 32 := broadcastInDim S64x1 ![] bcast_S_S64x1 c_37
  let v146 : IVec S64x1 32 := Host.shrui v141 v145
  let v147 : IVec S64x1 32 := ori v144 v146
  let v148 : IVec S64x1 32 := xori v142 v147
  let v149 : IVec S64x1 32 := addi v142 v148
  let c_38 : IVec S_ 32 := constantI S_ 32 15#32
  let v150 : IVec S64x1 32 := broadcastInDim S64x1 ![] bcast_S_S64x1 c_38
  let v151 : IVec S64x1 32 := Host.shli v148 v150
  fn_threefry2x32_part8 (F := F) arg0 v1 v148 v149 v151

def fn_threefry2x32_part6 {F : FTy → Type} [FloatOps F] (arg0 : IVec S_ 32) (arg1 : IVec S_ 32) (v1 : IVec S_ 32) (v108 : IVec S64x1 32) (v113 : IVec S64x1 32) : IVec S64x1 32 × IVec S64x1 32 :=
  let v114 : IVec S64x1 32 := xori v108 v113
  let v115 : IVec S64x1 32 := addi v108 v114
  let c_29 : IVec S_ 32 := constantI S_ 32 29#32
  let v116 : IVec S64x1 32 := broadcastInDim S64x1 ![] bcast_S_S64x1 c_29
  let v117 : IVec S64x1 32 := Host.shli v114 v116
  let c_30 : IVec S_ 32 := constantI S_ 32 3#32
  let v118 : IVec S64x1 32 := broadcastInDim S64x1 ![] bcast_S_S64x1 c_30
  let v119 : IVec S64x1 32 := Host.shrui v114 v118
  let v120 : IVec S64x1 32 := ori v117 v119
  let v121 : IVec S64x1 32 := xori v115 v120
  let v122 : IVec S64x1 32 := addi v115 v121
  let c_31 : IVec S_ 32 := constantI S_ 32 16#32
  let v123 : IVec S64x1 32 := broadcastInDim S64x1 ![] bcast_S_S64x1 c_31
  let v124 : IVec S64x1 32 := Host.shli v121 v123
  let c_32 : IVec S_ 32 := constantI S_ 32 16#32
  let v125 : IVec S64x1 32 := broadcastInDim S64x1 ![] bcast_S_S64x1 c_32
  let v126 : IVec S64x1 32 := Host.shrui v121 v125
  let v127 : IVec S64x1 32 := ori v124 v126
  let v128 : IVec S64x1 32 := xori v122 v127
  let v129 : IVec S64x1 32 := addi v122 v128
  let c_33 : IVec S_ 32 := constantI S_ 32 24#32
  let v130 : IVec S64x1 32 := broadcastInDim S64x1 ![] bcast_S_S64x1 c_33
  let v131 : IVec S64x1 32 := Host.shli v128 v130
  let c_34 : IVec S_ 32 := constantI S_ 32 8#32
  fn_threefry2x32_part7 (F := F) arg0 arg1 v1 v128 v129 v131 c_34

def fn_threefry2x32_part5 {F : FTy → Type} [FloatOps F] (arg0 : IVec S_ 32) (arg1 : IVec S_ 32) (v1 : IVec S_ 32) (v88 : IVec S64x1 32) (v94 : IVec S64x1 32) : IVec S64x1 32 × IVec S64x1 32 :=
  let v95 : IVec S64x1 32 := addi v88 v94
  let c_24 : IVec S_ 32 := constantI S_ 32 6#32
  let v96 : IVec S64x1 32 := broadcastInDim S64x1 ![] bcast_S_S64x1 c_24
  let v97 : IVec S64x1 32 := Host.shli v94 v96
  let c_25 : IVec S_ 32 := constantI S_ 32 26#32
  let v98 : IVec S64x1 32 := broadcastInDim S64x1 ![] bcast_S_S64x1 c_25
  let v99 : IVec S64x1 32 := Host.shrui v94 v98
  let v100 : IVec S64x1 32 := ori v97 v99
  let v101 : IVec S64x1 32 := xori v95 v100
  let v102 : IVec S64x1 32 := broadcastInDim S64x1 ![] bcast_S_S64x1 arg0
  let v103 : IVec S64x1 32 := addi v95 v102
  let v104 : IVec S64x1 32 := broadcastInDim S64x1 ![] bcast_S_S64x1 arg1
  let v105 : IVec S64x1 32 := addi v101 v104
  let c_26 : IVec S_ 32 := constantI S_ 32 3#32
  let v106 : IVec S64x1 32 := broadcastInDim S64x1 ![] bcast_S_S64x1 c_26
  let v107 : IVec S64x1 32 := addi v105 v106
  let v108 : IVec S64x1 32 := addi v103 v107
  let c_27 : IVec S_ 32 := constantI S_ 32 17#32
  let v109 : IVec S64x1 32 := broadcastInDim S64x1 ![] bcast_S_S64x1 c_27
  let v110 : IVec S64x1 32 := Host.shli v107 v109
  let c_28 : IVec S_ 32 := constantI S_ 32 15#32
  let v111 : IVec S64x1 32 := broadcastInDim S64x1 ![] bcast_S_S64x1 c_28
  let v112 : IVec S64x1 32 := Host.shrui v107 v111
  let v113 : IVec S64x1 32 := ori v110 v112
  fn_threefry2x32_part6 (F := F) arg0 arg1 v1 v108 v113

def fn_threefry2x32_part4 {F : FTy → Type} [FloatOps F] (arg0 : IVec S_ 32) (arg1 : IVec S_ 32) (v1 : IVec S_ 32) (v73 : IVec S64x1 32) (v74 : IVec S64x1 32) (v75 : IVec S64x1 32) : IVec S64x1 32 × IVec S64x1 32 :=
  let v76 : IVec S64x1 32 := Host.shli v73 v75
  let c_19 : IVec S_ 32 := constantI S_ 32 19#32
  let v77 : IVec S64x1 32 := broadcastInDim S64x1 ![] bcast_S_S64x1 c_19
  let v78 : IVec S64x1 32 := Host.shrui v73 v77
  let v79 : IVec S64x1 32 := ori v76 v78
  let v80 : IVec S64x1 32 := xori v74 v79
  let v81 : IVec S64x1 32 := addi v74 v80
  let c_20 : IVec S_ 32 := constantI S_ 32 15#32
  let v82 : IVec S64x1 32 := broadcastInDim S64x1 ![] bcast_S_S64x1 c_20
  let v83 : IVec S64x1 32 := Host.shli v80 v82
  let c_21 : IVec S_ 32 := constantI S_ 32 17#32
  let v84 : IVec S64x1 32 := broadcastInDim S64x1 ![] bcast_S_S64x1 c_21
  let v85 : IVec S64x1 32 := Host.shrui v80 v84
  let v86 : IVec S64x1 32 := ori v83 v85
  let v87 : IVec S64x1 32 := xori v81 v86
  let v88 : IVec S64x1 32 := addi v81 v87
  let c_22 : IVec S_ 32 := constantI S_ 32 26#32
  let v89 : IVec S64x1 32 := broadcastInDim S64x1 ![] bcast_S_S64x1 c_22
  let v90 : IVec S64x1 32 := Host.shli v87 v89
  let c_23 : IVec S_ 32 := constantI S_ 32 6#32
  let v91 : IVec S64x1 32 := broadcastInDim S64x1 ![] bcast_S_S64x1 c_23
  let v92 : IVec S64x1 32 := Host.shrui v87 v91
  let v93 : IVec S64x1 32 := ori v90 v92
  let v94 : IVec S64x1 32 := xori v88 v93
  fn_threefry2x32_part5 (F := F) arg0 arg1 v1 v88 v94

def fn_threefry2x32_part3 {F : FTy → Type} [FloatOps F] (arg0 : IVec S_ 32) (arg1 : IVec S_ 32) (v1 : IVec S_ 32) (v53 : IVec S64x1 32) (v54 : IVec S64x1 32) (v56 : IVec S64x1 32) : IVec S64x1 32 × IVec S64x1 32 :=
  let c_14 : IVec S_ 32 := constantI S_ 32 16#32
  let v57 : IVec S64x1 32 := broadcastInDim S64x1 ![] bcast_S_S64x1 c_14
  let v58 : IVec S64x1 32 := Host.shrui v53 v57
  let v59 : IVec S64x1 32 := ori v56 v58
  let v60 : IVec S64x1 32 := xori v54 v59
  let v61 : IVec S64x1 32 := addi v54 v60
  let c_15 : IVec S_ 32 := constantI S_ 32 24#32
  let v62 : IVec S64x1 32 := broadcastInDim S64x1 ![] bcast_S_S64x1 c_15
  let v63 : IVec S64x1 32 := Host.shli v60 v62
  let c_16 : IVec S_ 32 := constantI S_ 32 8#32
  let v64 : IVec S64x1 32 := broadcastInDim S64x1 ![] bcast_S_S64x1 c_16
  let v65 : IVec S64x1 32 := Host.shrui v60 v64
  let v66 : IVec S64x1 32 := ori v63 v65
  let v67 : IVec S64x1 32 := xori v61 v66
  let v68 : IVec S64x1 32 := broadcastInDim S64x1 ![] bcast_S_S64x1 v1
  let v69 : IVec S64x1 32 := addi v61 v68
  let v70 : IVec S64x1 32 := broadcastInDim S64x1 ![] bcast_S_S64x1 arg0
  let v71 : IVec S64x1 32 := addi v67 v70
  let c_17 : IVec S_ 32 := constantI S_ 32 2#32
  let v72 : IVec S64x1 32 := broadcastInDim S64x1 ![] bcast_S_S64x1 c_17
  let v73 : IVec S64x1 32 := addi v71 v72
  let v74 : IVec S64x1 32 := addi v69 v73
  let c_18 : IVec S_ 32 := constantI S_ 32 13#32
  let v75 : IVec S64x1 32 := broadcastInDim S64x1 ![] bcast_S_S64x1 c_18
  fn_threefry2x32_part4 (F := F) arg0 arg1 v1 v73 v74 v75

def fn_threefry2x32_part2 {F : FTy → Type} [FloatOps F] (arg0 : IVec S_ 32) (arg1 : IVec S_ 32) (v1 : IVec S_ 32) (v35 : IVec S64x1 32) (v37 : IVec S64x1 32) (c_8 : IVec S_ 32) : IVec S64x1 32 × IVec S64x1 32 :=
  let v38 : IVec S64x1 32 := broadcastInDim S64x1 ![] bcast_S_S64x1 c_8
  let v39 : IVec S64x1 32 := addi v37 v38
  let v40 : IVec S64x1 32 := addi v35 v39
  let c_9 : IVec S_ 32 := constantI S_ 32 17#32
  let v41 : IVec S64x1 32 := broadcastInDim S64x1 ![] bcast_S_S64x1 c_9
  let v42 : IVec S64x1 32 := Host.shli v39 v41
  let c_10 : IVec S_ 32 := constantI S_ 32 15#32
  let v43 : IVec S64x1 32 := broadcastInDim S64x1 ![] bcast_S_S64x1 c_10
  let v44 : IVec S64x1 32 := Host.shrui v39 v43
  let v45 : IVec S64x1 32 := ori v42 v44
  let v46 : IVec S64x1 32 := xori v40 v45
  let v47 : IVec S64x1 32 := addi v40 v46
  let c_11 : IVec S_ 32 := constantI S_ 32 29#32
  let v48 : IVec S64x1 32 := broadcastInDim S64x1 ![] bcast_S_S64x1 c_11
  let v49 : IVec S64x1 32 := Host.shli v46 v48
  let c_12 : IVec S_ 32 := constantI S_ 32 3#32
  let v50 : IVec S64x1 32 := broadcastInDim S64x1 ![] bcast_S_S64x1 c_12
  let v51 : IVec S64x1 32 := Host.shrui v46 v50
  let v52 : IVec S64x1 32 := ori v49 v51
  let v53 : IVec S64x1 32 := xori v47 v52
  let v54 : IVec S64x1 32 := addi v47 v53
  let c_13 : IVec S_ 32 := constantI S_ 32 16#32
  let v55 : IVec S64x1 32 := broadcastInDim S64x1 ![] bcast_S_S64x1 c_13
  let v56 : IVec S64x1 32 := Host.shli v53 v55
  fn_threefry2x32_part3 (F := F) arg0 arg1 v1 v53 v54 v56

def fn_threefry2x32_part1 {F : FTy → Type} [FloatOps F] (arg0 : IVec S_ 32) (arg1 : IVec S_ 32) (v1 : IVec S_ 32) (v13 : IVec S64x1 32) (v18 : IVec S64x1 32) : IVec S64x1 32 × IVec S64x1 32 :=
  let v19 : IVec S64x1 32 := xori v13 v18
  let v20 : IVec S64x1 32 := addi v13 v19
  let c_4 : IVec S_ 32 := constantI S_ 32 26#32
  let v21 : IVec S64x1 32 := broadcastInDim S64x1 ![] bcast_S_S64x1 c_4
  let v22 : IVec S64x1 32 := Host.shli v19 v21
  let c_5 : IVec S_ 32 := constantI S_ 32 6#32
  let v23 : IVec S64x1 32 := broadcastInDim S64x1 ![] bcast_S_S64x1 c_5
  let v24 : IVec S64x1 32 := Host.shrui v19 v23
  let v25 : IVec S64x1 32 := ori v22 v24
  let v26 : IVec S64x1 32 := xori v20 v25
  let v27 : IVec S64x1 32 := addi v20 v26
  let c_6 : IVec S_ 32 := constantI S_ 32 6#32
  let v28 : IVec S64x1 32 := broadcastInDim S64x1 ![] bcast_S_S64x1 c_6
  let v29 : IVec S64x1 32 := Host.shli v26 v28
  let c_7 : IVec S_ 32 := constantI S_ 32 26#32
  let v30 : IVec S64x1 32 := broadcastInDim S64x1 ![] bcast_S_S64x1 c_7
  let v31 : IVec S64x1 32 := Host.shrui v26 v30
  let v32 : IVec S64x1 32 := ori v29 v31
  let v33 : IVec S64x1 32 := xori v27 v32
  let v34 : IVec S64x1 32 := broadcastInDim S64x1 ![] bcast_S_S64x1 arg1
  let v35 : IVec S64x1 32 := addi v27 v34
  let v36 : IVec S64x1 32 := broadcastInDim S64x1 ![] bcast_S_S64x1 v1
  let v37 : IVec S64x1 32 := addi v33 v36
  let c_8 : IVec S_ 32 := constantI S_ 32 1#32
  fn_threefry2x32_part2 (F := F) arg0 arg1 v1 v35 v37 c_8

def fn_threefry2x32 {F : FTy → Type} [FloatOps F] (arg0 : IVec S_ 32) (arg1 : IVec S_ 32) (arg2 : IVec S64x1 32) (arg3 : IVec S64x1 32) : IVec S64x1 32 × IVec S64x1 32 :=
  let v0 : IVec S_ 32 := xori arg0 arg1
  let c : IVec S_ 32 := constantI S_ 32 466688986#32
  let v1 : IVec S_ 32 := xori v0 c
  let v2 : IVec S64x1 32 := broadcastInDim S64x1 ![] bcast_S_S64x1 arg0
  let v3 : IVec S64x1 32 := addi arg2 v2
  let v4 : IVec S64x1 32 := broadcastInDim S64x1 ![] bcast_S_S64x1 arg1
  let v5 : IVec S64x1 32 := addi arg3 v4
  let v6 : IVec S64x1 32 := addi v3 v5
  let c_0 : IVec S_ 32 := constantI S_ 32 13#32
  let v7 : IVec S64x1 32 := broadcastInDim S64x1 ![] bcast_S_S64x1 c_0
  let v8 : IVec S64x1 32 := Host.shli v5 v7
  let c_1 : IVec S_ 32 := constantI S_ 32 19#32
  let v9 : IVec S64x1 32 := broadcastInDim S64x1 ![] bcast_S_S64x1 c_1
  let v10 : IVec S64x1 32 := Host.shrui v5 v9
  let v11 : IVec S64x1 32 := ori v8 v10
  let v12 : IVec S64x1 32 := xori v6 v11
  let v13 : IVec S64x1 32 := addi v6 v12
  let c_2 : IVec S_ 32 := constantI S_ 32 15#32
  let v14 : IVec S64x1 32 := broadcastInDim S64x1 ![] bcast_S_S64x1 c_2
  let v15 : IVec S64x1 32 := Host.shli v12 v14
  let c_3 : IVec S_ 32 := constantI S_ 32 17#32
  let v16 : IVec S64x1 32 := broadcastInDim S64x1 ![] bcast_S_S64x1 c_3
  let v17 : IVec S64x1 32 := Host.shrui v12 v16
  let v18 : IVec S64x1 32 := ori v15 v17
  fn_threefry2x32_part1 (F := F) arg0 arg1 v1 v13 v18

def fn_uniform_part1 {F : FTy → Type} [FloatOps F] (v2 : FVec F S1x1 .f32) (v3 : FVec F S1x1 .f32) (v19_0 : IVec S64x1 32) (v19_1 : IVec S64x1 32) : FVec F S64x1 .f32 :=
  let v20 : IVec S64x1 32 := xori v19_0 v19_1
  let c_2 : IVec S_ 32 := constantI S_ 32 9#32
  let v21 : IVec S64x1 32 := broadcastInDim S64x1 ![] bcast_S_S64x1 c_2
  let v22 : IVec S64x1 32 := Host.shrui v20 v21
  let c_3 : IVec S_ 32 := constantI S_ 32 1065353216#32
  let v23 : IVec S64x1 32 := broadcastInDim S64x1 ![] bcast_S_S64x1 c_3
  let v24 : IVec S64x1 32 := ori v22 v23
  let v25 : FVec F S64x1 .f32 := bitcastToFloat .f32 v24
  let cst : FVec F S_ .f32 := constant S_ .f32 0x3F800000#32
  let v26 : FVec F S64x1 .f32 := broadcastInDim S64x1 ![] bcast_S_S64x1 cst
  let v27 : FVec F S64x1 .f32 := subf v25 v26
  let v28 : FVec F S1x1 .f32 := subf v3 v2
  let v29 : FVec F S64x1 .f32 := broadcastInDim S64x1 ![0, 1] bcast_S1x1_S64x1_0_1 v28
  let v30 : FVec F S64x1 .f32 := mulf v27 v29
  let v31 : FVec F S64x1 .f32 := broadcastInDim S64x1 ![0, 1] bcast_S1x1_S64x1_0_1 v2
  let v32 : FVec F S64x1 .f32 := addf v30 v31
  let v33 : FVec F S64x1 .f32 := broadcastInDim S64x1 ![0, 1] bcast_S1x1_S64x1_0_1 v2
  let v34 : FVec F S64x1 .f32 := maximumf v33 v32
  v34

def fn_uniform {F : FTy → Type} [FloatOps F] (arg0 : IVec S2 32) (arg1 : FVec F S_ .f32) (arg2 : FVec F S_ .f32) : FVec F S64x1 .f32 :=
  let v0 : FVec F S_ .f32 := id arg1
  let v1 : FVec F S_ .f32 := id arg2
  let v2 : FVec F S1x1 .f32 := broadcastInDim S1x1 ![] bcast_S_S1x1 v0
  let v3 : FVec F S1x1 .f32 := broadcastInDim S1x1 ![] bcast_S_S1x1 v1
  let v4 : IVec S1 32 := (extractStridedSlice S1 ![0] · slices_S2_S1_0) arg0
  let v5 : IVec S_ 32 := shapeCast S_ v4 shapeCasts_S1_S_
  let v6 : IVec S1 32 := (extractStridedSlice S1 ![1] · slices_S2_S1_1) arg0
  let v7 : IVec S_ 32 := shapeCast S_ v6 shapeCasts_S1_S_
  let v8 : IVec S64x1 64 := iotaInDim S64x1 64 0
  let v9 : IVec S64x1 64 := iotaInDim S64x1 64 1
  let c : IVec S_ 64 := constantI S_ 64 1#64
  let v10 : IVec S64x1 64 := broadcastInDim S64x1 ![] bcast_S_S64x1 c
  let v11 : IVec S64x1 64 := muli v10 v8
  let c_0 : IVec S_ 64 := constantI S_ 64 1#64
  let v12 : IVec S64x1 64 := broadcastInDim S64x1 ![] bcast_S_S64x1 c_0
  let v13 : IVec S64x1 64 := muli v12 v9
  let v14 : IVec S64x1 64 := addi v11 v13
  let c_1 : IVec S_ 64 := constantI S_ 64 32#64
  let v15 : IVec S64x1 64 := broadcastInDim S64x1 ![] bcast_S_S64x1 c_1
  let v16 : IVec S64x1 64 := Host.shrui v14 v15
  let v17 : IVec S64x1 32 := (trunci 32 · natLt_32_64) v14
  let v18 : IVec S64x1 32 := (trunci 32 · natLt_32_64) v16
  let v19_0 : IVec S64x1 32 := (fn_threefry2x32 (F := F) v5 v7 v18 v17).1
  let v19_1 : IVec S64x1 32 := (fn_threefry2x32 (F := F) v5 v7 v18 v17).2
  fn_uniform_part1 (F := F) v2 v3 v19_0 v19_1

def fn_clip_1 {F : FTy → Type} [FloatOps F] (arg0 : IVec S64x1 32) (arg1 : IVec S_ 32) (arg2 : IVec S_ 32) : IVec S64x1 32 :=
  let v0 : IVec S_ 32 := id arg1
  let v1 : IVec S64x1 32 := broadcastInDim S64x1 ![] bcast_S_S64x1 v0
  let v2 : IVec S64x1 32 := maxsi v1 arg0
  let v3 : IVec S_ 32 := id arg2
  let v4 : IVec S64x1 32 := broadcastInDim S64x1 ![] bcast_S_S64x1 v3
  let v5 : IVec S64x1 32 := minsi v4 v2
  v5

def fn_take_along_axis_2 {F : FTy → Type} [FloatOps F] (arg0 : FVec F S64x100000 .f32) (arg1 : IVec S64x1 32) : FVec F S64x1 .f32 :=
  let c : IVec S_ 32 := constantI S_ 32 0#32
  let v0 : IVec S64x1 32 := broadcastInDim S64x1 ![] bcast_S_S64x1 c
  let v1 : IVec S64x1 1 := cmpi .slt arg1 v0
  let c_0 : IVec S_ 32 := constantI S_ 32 100000#32
  let v2 : IVec S64x1 32 := broadcastInDim S64x1 ![] bcast_S_S64x1 c_0
  let v3 : IVec S64x1 32 := addi arg1 v2
  let v4 : IVec S64x1 32 := select v1 v3 arg1
  let v5 : IVec S64x1x1 32 := shapeCast S64x1x1 v4 shapeCasts_S64x1_S64x1x1
  let c_1 : IVec S1 32 := constantI S1 32 99999#32
  let c_2 : IVec S_ 32 := constantI S_ 32 0#32
  let v6 : IVec S64x1x1 32 := broadcastInDim S64x1x1 ![] bcast_S_S64x1x1 c_2
  let v7 : IVec S64x1x1 1 := cmpi .sge v5 v6
  let v8 : IVec S1x1x1 32 := broadcastInDim S1x1x1 ![2] bcast_S1_S1x1x1_2 c_1
  let v9 : IVec S64x1x1 32 := broadcastInDim S64x1x1 ![0, 1, 2] bcast_S1x1x1_S64x1x1_0_1_2 v8
  let v10 : IVec S64x1x1 1 := cmpi .sle v5 v9
  let v11 : IVec S64x1x1 1 := andi v7 v10
  let c_3 : IVec S_ 1 := constantI S_ 1 1#1
  let v12 : IVec S64x1 1 := (fun x v => Host.reduce IntOp.andi x v reducesTo_S64x1x1_S64x1_d2 h_S_) v11 c_3
  let v13 : FVec F S64x1 .f32 := (fun x i => Host.gather gather_S64x100000_S64x1x1_S64x1_n_1_0_0_1_2_11 x i) arg0 v5
  let cst : FVec F S_ .f32 := constant S_ .f32 0x7FC00000#32
  let v14 : FVec F S64x1 .f32 := broadcastInDim S64x1 ![] bcast_S_S64x1 cst
  let v15 : FVec F S64x1 .f32 := select v12 v13 v14
  v15

def fn_part4 {F : FTy → Type} [FloatOps F] (main_v13 : FVec F S64x100000 .f32) (main_v47 : FVec F S64x1 .f32) (main_v49 : FVec F S64x1 .f32) (main_v59 : IVec S64x1 1) (main_v61 : IVec S64x1 1) (main_v64 : IVec S64x1 1) (main_v66 : IVec S64x100000 1) (main_v70 : IVec S64x100000 1) : IVec S64x1 1 :=
  let main_v71 : IVec S64x100000 1 := ori main_v66 main_v70
  let main_c_23 : IVec S_ 1 := constantI S_ 1 1#1
  let main_v72 : IVec S64 1 := (fun x v => Host.reduce IntOp.andi x v reducesTo_S64x100000_S64_d1 h_S_) main_v71 main_c_23
  let main_v73 : IVec S64x1 1 := broadcastInDim S64x1 ![0] bcast_S64_S64x1_0 main_v72
  let main_v74 : IVec S64x1 1 := andi main_v64 main_v73
  let main_v75 : IVec S64x1 1 := ori main_v61 main_v74
  let main_v76 : IVec S64x1 1 := andi main_v59 main_v75
  let main_cst_24 : FVec F S_ .f32 := constant S_ .f32 0x00800000#32
  let main_v77 : FVec F S64x1 .f32 := broadcastInDim S64x1 ![] bcast_S_S64x1 main_cst_24
  let main_v78 : FVec F S64x1 .f32 := mulf main_v49 main_v77
  let main_v79 : IVec S64x1 1 := cmpf .oge main_v47 main_v78
  let main_v80 : FVec F S64x100000 .f32 := broadcastInDim S64x100000 ![0, 1] bcast_S64x1_S64x100000_0_1 main_v47
  let main_v81 : IVec S64x100000 1 := cmpf .ole main_v13 main_v80
  let main_cst_25 : FVec F S_ .f32 := constant S_ .f32 0x3F800001#32
  let main_v82 : FVec F S64x1 .f32 := broadcastInDim S64x1 ![] bcast_S_S64x1 main_cst_25
  let main_v83 : FVec F S64x1 .f32 := mulf main_v47 main_v82
  let main_v84 : FVec F S64x100000 .f32 := broadcastInDim S64x100000 ![0, 1] bcast_S64x1_S64x100000_0_1 main_v83
  let main_v85 : IVec S64x100000 1 := cmpf .oge main_v13 main_v84
  let main_v86 : IVec S64x100000 1 := ori main_v81 main_v85
  let main_c_26 : IVec S_ 1 := constantI S_ 1 1#1
  let main_v87 : IVec S64 1 := (fun x v => Host.reduce IntOp.andi x v reducesTo_S64x100000_S64_d1 h_S_) main_v86 main_c_26
  let main_v88 : IVec S64x1 1 := broadcastInDim S64x1 ![0] bcast_S64_S64x1_0 main_v87
  let main_v89 : IVec S64x1 1 := andi main_v79 main_v88
  let main_v90 : IVec S64x1 1 := andi main_v76 main_v89
  main_v90

def fn_part3 {F : FTy → Type} [FloatOps F] (main_arg1 : FVec F S64x1 .f32) (main_arg2 : FVec F S64x1 .f32) (main_v13 : FVec F S64x100000 .f32) (main_v46 : FVec F S64x1 .f32) (main_v47 : FVec F S64x1 .f32) (main_v49 : FVec F S64x1 .f32) (main_v51 : FVec F S64x1 .f32) (main_cst_17 : FVec F S_ .f32) : IVec S64x1 1 :=
  let main_v52 : FVec F S64x1 .f32 := broadcastInDim S64x1 ![] bcast_S_S64x1 main_cst_17
  let main_v53 : IVec S64x1 1 := cmpf .ogt main_v51 main_v52
  let main_cst_18 : FVec F S_ .f32 := constant S_ .f32 0x7F800000#32
  let main_v54 : FVec F S64x1 .f32 := broadcastInDim S64x1 ![] bcast_S_S64x1 main_cst_18
  let main_v55 : IVec S64x1 1 := cmpf .olt main_v51 main_v54
  let main_v56 : IVec S64x1 1 := andi main_v53 main_v55
  let main_cst_19 : FVec F S_ .f32 := constant S_ .f32 0x7F800000#32
  let main_v57 : FVec F S64x1 .f32 := broadcastInDim S64x1 ![] bcast_S_S64x1 main_cst_19
  let main_v58 : IVec S64x1 1 := cmpf .olt main_arg1 main_v57
  let main_v59 : IVec S64x1 1 := andi main_v56 main_v58
  let main_cst_20 : FVec F S_ .f32 := constant S_ .f32 0x3F800000#32
  let main_v60 : FVec F S64x1 .f32 := broadcastInDim S64x1 ![] bcast_S_S64x1 main_cst_20
  let main_v61 : IVec S64x1 1 := cmpf .oge main_arg2 main_v60
  let main_cst_21 : FVec F S_ .f32 := constant S_ .f32 0x00800000#32
  let main_v62 : FVec F S64x1 .f32 := broadcastInDim S64x1 ![] bcast_S_S64x1 main_cst_21
  let main_v63 : FVec F S64x1 .f32 := mulf main_v49 main_v62
  let main_v64 : IVec S64x1 1 := cmpf .oge main_v46 main_v63
  let main_v65 : FVec F S64x100000 .f32 := broadcastInDim S64x100000 ![0, 1] bcast_S64x1_S64x100000_0_1 main_v46
  let main_v66 : IVec S64x100000 1 := cmpf .ole main_v13 main_v65
  let main_cst_22 : FVec F S_ .f32 := constant S_ .f32 0x3F800001#32
  let main_v67 : FVec F S64x1 .f32 := broadcastInDim S64x1 ![] bcast_S_S64x1 main_cst_22
  let main_v68 : FVec F S64x1 .f32 := mulf main_v46 main_v67
  let main_v69 : FVec F S64x100000 .f32 := broadcastInDim S64x100000 ![0, 1] bcast_S64x1_S64x100000_0_1 main_v68
  let main_v70 : IVec S64x100000 1 := cmpf .oge main_v13 main_v69
  fn_part4 (F := F) main_v13 main_v47 main_v49 main_v59 main_v61 main_v64 main_v66 main_v70

def fn_part2 {F : FTy → Type} [FloatOps F] (main_arg0 : FVec F S64x100000 .f32) (main_arg1 : FVec F S64x1 .f32) (main_arg2 : FVec F S64x1 .f32) (main_v13 : FVec F S64x100000 .f32) (main_v16 : FVec F S64x100000 .f32) (main_v23 : IVec S64x100000 1) (main_v29 : FVec F S64x100000 .f32) (main_v36 : IVec S2 32) (main_cst_8 : FVec F S_ .f32) : IVec S64x1 1 :=
  let main_cst_9 : FVec F S_ .f32 := constant S_ .f32 0x3F800000#32
  let main_v37 : FVec F S64x1 .f32 := fn_uniform (F := F) main_v36 main_cst_8 main_cst_9
  let main_v38 : FVec F S64x100000 .f32 := broadcastInDim S64x100000 ![0, 1] bcast_S64x1_S64x100000_0_1 main_v37
  let main_v39 : IVec S64x100000 1 := cmpf .olt main_v29 main_v38
  let main_v40 : IVec S64x100000 32 := (extui 32 · natLt_1_32) main_v39
  let main_c_10 : IVec S_ 32 := constantI S_ 32 0#32
  let main_v41 : IVec S64 32 := (fun x v => Host.reduce IntOp.addi x v reducesTo_S64x100000_S64_d1 h_S_) main_v40 main_c_10
  let main_v42 : IVec S64x1 32 := broadcastInDim S64x1 ![0] bcast_S64_S64x1_0 main_v41
  let main_c_11 : IVec S_ 32 := constantI S_ 32 0#32
  let main_c_12 : IVec S_ 32 := constantI S_ 32 99999#32
  let main_v43 : IVec S64x1 32 := fn_clip_1 (F := F) main_v42 main_c_11 main_c_12
  let main_cst_13 : FVec F S_ .f32 := constant S_ .f32 0x7F800000#32
  let main_v44 : FVec F S64x100000 .f32 := fn_where (F := F) main_v23 main_cst_13 main_v16
  let main_cst_14 : FVec F S_ .f32 := constant S_ .f32 0x7F800000#32
  let main_v45 : FVec F S64 .f32 := (fun x v => Host.reduce FloatOps.minimumf x v reducesTo_S64x100000_S64_d1 h_S_) main_v44 main_cst_14
  let main_v46 : FVec F S64x1 .f32 := broadcastInDim S64x1 ![0] bcast_S64_S64x1_0 main_v45
  let main_v47 : FVec F S64x1 .f32 := fn_take_along_axis_2 (F := F) main_v16 main_v43
  let main_cst_15 : FVec F S_ .f32 := constant S_ .f32 0xFF800000#32
  let main_v48 : FVec F S64 .f32 := (fun x v => Host.reduce FloatOps.maximumf x v reducesTo_S64x100000_S64_d1 h_S_) main_v13 main_cst_15
  let main_v49 : FVec F S64x1 .f32 := broadcastInDim S64x1 ![0] bcast_S64_S64x1_0 main_v48
  let main_cst_16 : FVec F S_ .f32 := constant S_ .f32 0xFF800000#32
  let main_v50 : FVec F S64 .f32 := (fun x v => Host.reduce FloatOps.maximumf x v reducesTo_S64x100000_S64_d1 h_S_) main_arg0 main_cst_16
  let main_v51 : FVec F S64x1 .f32 := broadcastInDim S64x1 ![0] bcast_S64_S64x1_0 main_v50
  let main_cst_17 : FVec F S_ .f32 := constant S_ .f32 0xFF800000#32
  fn_part3 (F := F) main_arg1 main_arg2 main_v13 main_v46 main_v47 main_v49 main_v51 main_cst_17

def fn_part1 {F : FTy → Type} [FloatOps F] (main_arg0 : FVec F S64x100000 .f32) (main_arg1 : FVec F S64x1 .f32) (main_arg2 : FVec F S64x1 .f32) (main_v13 : FVec F S64x100000 .f32) (main_v16 : FVec F S64x100000 .f32) (main_v19 : IVec S64x100000 1) : IVec S64x1 1 :=
  let main_v20 : IVec S64x1 1 := (extractStridedSlice S64x1 ![0, 0] · slices_S64x100000_S64x1_0_0) main_v19
  let main_c : IVec S_ 1 := constantI S_ 1 0#1
  let main_v21 : IVec S64x1 1 := broadcastInDim S64x1 ![] bcast_S_S64x1 main_c
  let main_v22 : IVec S64x99999 1 := (extractStridedSlice S64x99999 ![0, 0] · slices_S64x100000_S64x99999_0_0) main_v19
  let main_v23 : IVec S64x100000 1 := (fun a b => concatenate S64x100000 1 [⟨S64x1, a⟩, ⟨S64x99999, b⟩] concatenates_S64x1_S64x99999_S64x100000_d1) main_v21 main_v22
  let main_cst_3 : FVec F S_ .f32 := constant S_ .f32 0x00000000#32
  let main_v24 : FVec F S64x100000 .f32 := fn_where (F := F) main_v23 main_cst_3 main_v16
  let main_cst_4 : FVec F S_ .f32 := constant S_ .f32 0x00000000#32
  let main_v25 : FVec F S64 .f32 := (fun x v => Host.reduceAdd x v reducesTo_S64x100000_S64_d1 h_S_) main_v24 main_cst_4
  let main_v26 : FVec F S64x1 .f32 := broadcastInDim S64x1 ![0] bcast_S64_S64x1_0 main_v25
  let main_v27 : FVec F S64x100000 .f32 := broadcastInDim S64x100000 ![0, 1] bcast_S64x1_S64x100000_0_1 main_v26
  let main_v28 : FVec F S64x100000 .f32 := Host.divf main_v24 main_v27
  let main_v29 : FVec F S64x100000 .f32 := fn_cumsum (F := F) main_v28
  let main_c_5 : IVec S_ 32 := constantI S_ 32 42#32
  let main_c_6 : IVec S_ 32 := constantI S_ 32 32#32
  let main_v30 : IVec S_ 32 := Host.shrui main_c_5 main_c_6
  let main_v31 : IVec S_ 32 := id main_v30
  let main_v32 : IVec S1 32 := broadcastInDim S1 ![] bcast_S_S1 main_v31
  let main_c_7 : IVec S_ 32 := constantI S_ 32 4294967295#32
  let main_v33 : IVec S_ 32 := andi main_c_5 main_c_7
  let main_v34 : IVec S_ 32 := id main_v33
  let main_v35 : IVec S1 32 := broadcastInDim S1 ![] bcast_S_S1 main_v34
  let main_v36 : IVec S2 32 := (fun a b => concatenate S2 0 [⟨S1, a⟩, ⟨S1, b⟩] concatenates_S1_S1_S2_d0) main_v32 main_v35
  let main_cst_8 : FVec F S_ .f32 := constant S_ .f32 0x00000000#32
  fn_part2 (F := F) main_arg0 main_arg1 main_arg2 main_v13 main_v16 main_v23 main_v29 main_v36 main_cst_8

def fn {F : FTy → Type} [FloatOps F] (main_arg0 : FVec F S64x100000 .f32) (main_arg1 : FVec F S64x1 .f32) (main_arg2 : FVec F S64x1 .f32) : IVec S64x1 1 :=
  let main_cst : FVec F S_ .f32 := constant S_ .f32 0x322BCC77#32
  let main_v0 : FVec F S64x1 .f32 := fn_clip (F := F) main_arg1 main_cst
  let main_v1 : FVec F S64x100000 .f32 := broadcastInDim S64x100000 ![0, 1] bcast_S64x1_S64x100000_0_1 main_v0
  let main_v2 : FVec F S64x100000 .f32 := Host.divf main_arg0 main_v1
  let main_cst_0 : FVec F S_ .f32 := constant S_ .f32 0xFF800000#32
  let main_v3 : FVec F S64 .f32 := (fun x v => Host.reduce FloatOps.maximumf x v reducesTo_S64x100000_S64_d1 h_S_) main_v2 main_cst_0
  let main_cst_1 : FVec F S_ .f32 := constant S_ .f32 0xFF800000#32
  let main_v4 : FVec F S64 .f32 := broadcastInDim S64 ![] bcast_S_S64 main_cst_1
  let main_v5 : FVec F S64 .f32 := maximumf main_v4 main_v3
  let main_v6 : FVec F S64x1 .f32 := broadcastInDim S64x1 ![0] bcast_S64_S64x1_0 main_v5
  let main_v7 : FVec F S64x100000 .f32 := broadcastInDim S64x100000 ![0, 1] bcast_S64x1_S64x100000_0_1 main_v6
  let main_v8 : FVec F S64x100000 .f32 := subf main_v2 main_v7
  let main_v9 : FVec F S64x100000 .f32 := Host.exp main_v8
  let main_cst_2 : FVec F S_ .f32 := constant S_ .f32 0x00000000#32
  let main_v10 : FVec F S64 .f32 := (fun x v => Host.reduceAdd x v reducesTo_S64x100000_S64_d1 h_S_) main_v9 main_cst_2
  let main_v11 : FVec F S64x1 .f32 := broadcastInDim S64x1 ![0] bcast_S64_S64x1_0 main_v10
  let main_v12 : FVec F S64x100000 .f32 := broadcastInDim S64x100000 ![0, 1] bcast_S64x1_S64x100000_0_1 main_v11
  let main_v13 : FVec F S64x100000 .f32 := Host.divf main_v9 main_v12
  let main_v14 : FVec F S64x100000 .f32 := Host.negf main_v13
  let main_v15 : IVec S64x100000 32 := fn_argsort (F := F) main_v14
  let main_v16 : FVec F S64x100000 .f32 := fn_take_along_axis (F := F) main_v13 main_v15
  let main_v17 : FVec F S64x100000 .f32 := fn_cumsum (F := F) main_v16
  let main_v18 : FVec F S64x100000 .f32 := broadcastInDim S64x100000 ![0, 1] bcast_S64x1_S64x100000_0_1 main_arg2
  let main_v19 : IVec S64x100000 1 := cmpf .ogt main_v17 main_v18
  fn_part1 (F := F) main_arg0 main_arg1 main_arg2 main_v13 main_v16 main_v19
-- ==== Kernel.lean ====
abbrev S64x100000 : Shape := ⟨2, ![64, 100000]⟩
abbrev S64x1 : Shape := ⟨2, ![64, 1]⟩
abbrev S_ : Shape := ⟨0, ![]⟩
abbrev S64x100096 : Shape := ⟨2, ![64, 100096]⟩
abbrev S1 : Shape := ⟨1, ![1]⟩
abbrev S2 : Shape := ⟨1, ![2]⟩
abbrev S1x1 : Shape := ⟨2, ![1, 1]⟩
abbrev S64x128 : Shape := ⟨2, ![64, 128]⟩
abbrev S8x100096 : Shape := ⟨2, ![8, 100096]⟩
abbrev S8x128 : Shape := ⟨2, ![8, 128]⟩
abbrev S8x1 : Shape := ⟨2, ![8, 1]⟩
abbrev S8x6272 : Shape := ⟨2, ![8, 6272]⟩
abbrev S8 : Shape := ⟨1, ![8]⟩
abbrev S8x6016 : Shape := ⟨2, ![8, 6016]⟩

abbrev nBuf : Space → Nat
  | .hbm => 285
  | .vmem => 11
  | .smem => 0
  | _ => 0

abbrev hbmTy0_0 (i : Nat) : BufTy := match i % 128 with
  | 0 => ⟨S64x100000, .f32⟩
  | 1 => ⟨S64x1, .f32⟩
  | 2 => ⟨S64x1, .f32⟩
  | 3 => ⟨S_, .f32⟩
  | 4 => ⟨S_, .f32⟩
  | 5 => ⟨S64x100096, .f32⟩
  | 6 => ⟨S_, .i32⟩
  | 7 => ⟨S_, .i32⟩
  | 8 => ⟨S_, .i32⟩
  | 9 => ⟨S_, .i32⟩
  | 10 => ⟨S1, .i32⟩
  | 11 => ⟨S_, .i32⟩
  | 12 => ⟨S_, .i32⟩
  | 13 => ⟨S_, .i32⟩
  | 14 => ⟨S1, .i32⟩
  | 15 => ⟨S2, .i32⟩
  | 16 => ⟨S_, .f32⟩
  | 17 => ⟨S_, .f32⟩
  | 18 => ⟨S_, .f32⟩
  | 19 => ⟨S_, .f32⟩
  | 20 => ⟨S1x1, .f32⟩
  | 21 => ⟨S1x1, .f32⟩
  | 22 => ⟨S1, .i32⟩
  | 23 => ⟨S_, .i32⟩
  | 24 => ⟨S1, .i32⟩
  | 25 => ⟨S_, .i32⟩
  | 26 => ⟨S64x1, .i64⟩
  | 27 => ⟨S64x1, .i64⟩
  | 28 => ⟨S_, .i64⟩
  | 29 => ⟨S64x1, .i64⟩
  | 30 => ⟨S64x1, .i64⟩
  | 31 => ⟨S_, .i64⟩
  | 32 => ⟨S64x1, .i64⟩
  | 33 => ⟨S64x1, .i64⟩
  | 34 => ⟨S64x1, .i64⟩
  | 35 => ⟨S_, .i64⟩
  | 36 => ⟨S64x1, .i64⟩
  | 37 => ⟨S64x1, .i64⟩
  | 38 => ⟨S64x1, .i32⟩
  | 39 => ⟨S64x1, .i32⟩
  | 40 => ⟨S_, .i32⟩
  | 41 => ⟨S_, .i32⟩
  | 42 => ⟨S_, .i32⟩
  | 43 => ⟨S64x1, .i32⟩
  | 44 => ⟨S64x1, .i32⟩
  | 45 => ⟨S64x1, .i32⟩
  | 46 => ⟨S64x1, .i32⟩
  | 47 => ⟨S64x1, .i32⟩
  | 48 => ⟨S_, .i32⟩
  | 49 => ⟨S64x1, .i32⟩
  | 50 => ⟨S64x1, .i32⟩
  | 51 => ⟨S_, .i32⟩
  | 52 => ⟨S64x1, .i32⟩
  | 53 => ⟨S64x1, .i32⟩
  | 54 => ⟨S64x1, .i32⟩
  | 55 => ⟨S64x1, .i32⟩
  | 56 => ⟨S64x1, .i32⟩
  | 57 => ⟨S_, .i32⟩
  | 58 => ⟨S64x1, .i32⟩
  | 59 => ⟨S64x1, .i32⟩
  | 60 => ⟨S_, .i32⟩
  | 61 => ⟨S64x1, .i32⟩
  | 62 => ⟨S64x1, .i32⟩
  | 63 => ⟨S64x1, .i32⟩
  | 64 => ⟨S64x1, .i32⟩
  | 65 => ⟨S64x1, .i32⟩
  | 66 => ⟨S_, .i32⟩
  | 67 => ⟨S64x1, .i32⟩
  | 68 => ⟨S64x1, .i32⟩
  | 69 => ⟨S_, .i32⟩
  | 70 => ⟨S64x1, .i32⟩
  | 71 => ⟨S64x1, .i32⟩
  | 72 => ⟨S64x1, .i32⟩
  | 73 => ⟨S64x1, .i32⟩
  | 74 => ⟨S64x1, .i32⟩
  | 75 => ⟨S_, .i32⟩
  | 76 => ⟨S64x1, .i32⟩
  | 77 => ⟨S64x1, .i32⟩
  | 78 => ⟨S_, .i32⟩
  | 79 => ⟨S64x1, .i32⟩
  | 80 => ⟨S64x1, .i32⟩
  | 81 => ⟨S64x1, .i32⟩
  | 82 => ⟨S64x1, .i32⟩
  | 83 => ⟨S64x1, .i32⟩
  | 84 => ⟨S64x1, .i32⟩
  | 85 => ⟨S64x1, .i32⟩
  | 86 => ⟨S64x1, .i32⟩
  | 87 => ⟨S_, .i32⟩
  | 88 => ⟨S64x1, .i32⟩
  | 89 => ⟨S64x1, .i32⟩
  | 90 => ⟨S64x1, .i32⟩
  | 91 => ⟨S_, .i32⟩
  | 92 => ⟨S64x1, .i32⟩
  | 93 => ⟨S64x1, .i32⟩
  | 94 => ⟨S_, .i32⟩
  | 95 => ⟨S64x1, .i32⟩
  | 96 => ⟨S64x1, .i32⟩
  | 97 => ⟨S64x1, .i32⟩
  | 98 => ⟨S64x1, .i32⟩
  | 99 => ⟨S64x1, .i32⟩
  | 100 => ⟨S_, .i32⟩
  | 101 => ⟨S64x1, .i32⟩
  | 102 => ⟨S64x1, .i32⟩
  | 103 => ⟨S_, .i32⟩
  | 104 => ⟨S64x1, .i32⟩
  | 105 => ⟨S64x1, .i32⟩
  | 106 => ⟨S64x1, .i32⟩
  | 107 => ⟨S64x1, .i32⟩
  | 108 => ⟨S64x1, .i32⟩
  | 109 => ⟨S_, .i32⟩
  | 110 => ⟨S64x1, .i32⟩
  | 111 => ⟨S64x1, .i32⟩
  | 112 => ⟨S_, .i32⟩
  | 113 => ⟨S64x1, .i32⟩
  | 114 => ⟨S64x1, .i32⟩
  | 115 => ⟨S64x1, .i32⟩
  | 116 => ⟨S64x1, .i32⟩
  | 117 => ⟨S64x1, .i32⟩
  | 118 => ⟨S_, .i32⟩
  | 119 => ⟨S64x1, .i32⟩
  | 120 => ⟨S64x1, .i32⟩
  | 121 => ⟨S_, .i32⟩
  | 122 => ⟨S64x1, .i32⟩
  | 123 => ⟨S64x1, .i32⟩
  | 124 => ⟨S64x1, .i32⟩
  | 125 => ⟨S64x1, .i32⟩
  | 126 => ⟨S64x1, .i32⟩
  | 127 => ⟨S64x1, .i32⟩
  | _ => ⟨S64x100000, .f32⟩

abbrev hbmTy0_1 (i : Nat) : BufTy := match i % 128 with
  | 0 => ⟨S64x1, .i32⟩
  | 1 => ⟨S64x1, .i32⟩
  | 2 => ⟨S_, .i32⟩
  | 3 => ⟨S64x1, .i32⟩
  | 4 => ⟨S64x1, .i32⟩
  | 5 => ⟨S64x1, .i32⟩
  | 6 => ⟨S_, .i32⟩
  | 7 => ⟨S64x1, .i32⟩
  | 8 => ⟨S64x1, .i32⟩
  | 9 => ⟨S_, .i32⟩
  | 10 => ⟨S64x1, .i32⟩
  | 11 => ⟨S64x1, .i32⟩
  | 12 => ⟨S64x1, .i32⟩
  | 13 => ⟨S64x1, .i32⟩
  | 14 => ⟨S64x1, .i32⟩
  | 15 => ⟨S_, .i32⟩
  | 16 => ⟨S64x1, .i32⟩
  | 17 => ⟨S64x1, .i32⟩
  | 18 => ⟨S_, .i32⟩
  | 19 => ⟨S64x1, .i32⟩
  | 20 => ⟨S64x1, .i32⟩
  | 21 => ⟨S64x1, .i32⟩
  | 22 => ⟨S64x1, .i32⟩
  | 23 => ⟨S64x1, .i32⟩
  | 24 => ⟨S_, .i32⟩
  | 25 => ⟨S64x1, .i32⟩
  | 26 => ⟨S64x1, .i32⟩
  | 27 => ⟨S_, .i32⟩
  | 28 => ⟨S64x1, .i32⟩
  | 29 => ⟨S64x1, .i32⟩
  | 30 => ⟨S64x1, .i32⟩
  | 31 => ⟨S64x1, .i32⟩
  | 32 => ⟨S64x1, .i32⟩
  | 33 => ⟨S_, .i32⟩
  | 34 => ⟨S64x1, .i32⟩
  | 35 => ⟨S64x1, .i32⟩
  | 36 => ⟨S_, .i32⟩
  | 37 => ⟨S64x1, .i32⟩
  | 38 => ⟨S64x1, .i32⟩
  | 39 => ⟨S64x1, .i32⟩
  | 40 => ⟨S64x1, .i32⟩
  | 41 => ⟨S64x1, .i32⟩
  | 42 => ⟨S64x1, .i32⟩
  | 43 => ⟨S64x1, .i32⟩
  | 44 => ⟨S64x1, .i32⟩
  | 45 => ⟨S_, .i32⟩
  | 46 => ⟨S64x1, .i32⟩
  | 47 => ⟨S64x1, .i32⟩
  | 48 => ⟨S64x1, .i32⟩
  | 49 => ⟨S_, .i32⟩
  | 50 => ⟨S64x1, .i32⟩
  | 51 => ⟨S64x1, .i32⟩
  | 52 => ⟨S_, .i32⟩
  | 53 => ⟨S64x1, .i32⟩
  | 54 => ⟨S64x1, .i32⟩
  | 55 => ⟨S64x1, .i32⟩
  | 56 => ⟨S64x1, .i32⟩
  | 57 => ⟨S64x1, .i32⟩
  | 58 => ⟨S_, .i32⟩
  | 59 => ⟨S64x1, .i32⟩
  | 60 => ⟨S64x1, .i32⟩
  | 61 => ⟨S_, .i32⟩
  | 62 => ⟨S64x1, .i32⟩
  | 63 => ⟨S64x1, .i32⟩
  | 64 => ⟨S64x1, .i32⟩
  | 65 => ⟨S64x1, .i32⟩
  | 66 => ⟨S64x1, .i32⟩
  | 67 => ⟨S_, .i32⟩
  | 68 => ⟨S64x1, .i32⟩
  | 69 => ⟨S64x1, .i32⟩
  | 70 => ⟨S_, .i32⟩
  | 71 => ⟨S64x1, .i32⟩
  | 72 => ⟨S64x1, .i32⟩
  | 73 => ⟨S64x1, .i32⟩
  | 74 => ⟨S64x1, .i32⟩
  | 75 => ⟨S64x1, .i32⟩
  | 76 => ⟨S_, .i32⟩
  | 77 => ⟨S64x1, .i32⟩
  | 78 => ⟨S64x1, .i32⟩
  | 79 => ⟨S_, .i32⟩
  | 80 => ⟨S64x1, .i32⟩
  | 81 => ⟨S64x1, .i32⟩
  | 82 => ⟨S64x1, .i32⟩
  | 83 => ⟨S64x1, .i32⟩
  | 84 => ⟨S64x1, .i32⟩
  | 85 => ⟨S64x1, .i32⟩
  | 86 => ⟨S64x1, .i32⟩
  | 87 => ⟨S64x1, .i32⟩
  | 88 => ⟨S_, .i32⟩
  | 89 => ⟨S64x1, .i32⟩
  | 90 => ⟨S64x1, .i32⟩
  | 91 => ⟨S64x1, .i32⟩
  | 92 => ⟨S_, .i32⟩
  | 93 => ⟨S64x1, .i32⟩
  | 94 => ⟨S64x1, .i32⟩
  | 95 => ⟨S_, .i32⟩
  | 96 => ⟨S64x1, .i32⟩
  | 97 => ⟨S64x1, .i32⟩
  | 98 => ⟨S64x1, .i32⟩
  | 99 => ⟨S64x1, .i32⟩
  | 100 => ⟨S64x1, .i32⟩
  | 101 => ⟨S_, .i32⟩
  | 102 => ⟨S64x1, .i32⟩
  | 103 => ⟨S64x1, .i32⟩
  | 104 => ⟨S_, .i32⟩
  | 105 => ⟨S64x1, .i32⟩
  | 106 => ⟨S64x1, .i32⟩
  | 107 => ⟨S64x1, .i32⟩
  | 108 => ⟨S64x1, .i32⟩
  | 109 => ⟨S64x1, .i32⟩
  | 110 => ⟨S_, .i32⟩
  | 111 => ⟨S64x1, .i32⟩
  | 112 => ⟨S64x1, .i32⟩
  | 113 => ⟨S_, .i32⟩
  | 114 => ⟨S64x1, .i32⟩
  | 115 => ⟨S64x1, .i32⟩
  | 116 => ⟨S64x1, .i32⟩
  | 117 => ⟨S64x1, .i32⟩
  | 118 => ⟨S64x1, .i32⟩
  | 119 => ⟨S_, .i32⟩
  | 120 => ⟨S64x1, .i32⟩
  | 121 => ⟨S64x1, .i32⟩
  | 122 => ⟨S_, .i32⟩
  | 123 => ⟨S64x1, .i32⟩
  | 124 => ⟨S64x1, .i32⟩
  | 125 => ⟨S64x1, .i32⟩
  | 126 => ⟨S64x1, .i32⟩
  | 127 => ⟨S64x1, .i32⟩
  | _ => ⟨S64x100000, .f32⟩

abbrev hbmTy0_2 (i : Nat) : BufTy := match i % 128 with
  | 0 => ⟨S64x1, .i32⟩
  | 1 => ⟨S64x1, .i32⟩
  | 2 => ⟨S64x1, .i32⟩
  | 3 => ⟨S_, .i32⟩
  | 4 => ⟨S64x1, .i32⟩
  | 5 => ⟨S64x1, .i32⟩
  | 6 => ⟨S64x1, .i32⟩
  | 7 => ⟨S_, .i32⟩
  | 8 => ⟨S64x1, .i32⟩
  | 9 => ⟨S64x1, .i32⟩
  | 10 => ⟨S_, .i32⟩
  | 11 => ⟨S64x1, .i32⟩
  | 12 => ⟨S64x1, .i32⟩
  | 13 => ⟨S64x1, .f32⟩
  | 14 => ⟨S_, .f32⟩
  | 15 => ⟨S64x1, .f32⟩
  | 16 => ⟨S64x1, .f32⟩
  | 17 => ⟨S1x1, .f32⟩
  | 18 => ⟨S64x1, .f32⟩
  | 19 => ⟨S64x1, .f32⟩
  | 20 => ⟨S64x1, .f32⟩
  | 21 => ⟨S64x1, .f32⟩
  | 22 => ⟨S64x1, .f32⟩
  | 23 => ⟨S64x1, .f32⟩
  | 24 => ⟨S64x128, .f32⟩
  | 25 => ⟨S64x128, .f32⟩
  | 26 => ⟨S64x128, .f32⟩
  | 27 => ⟨S64x128, .i32⟩
  | 28 => ⟨S64x1, .i32⟩
  | _ => ⟨S64x100000, .f32⟩

abbrev hbmTy (i : Nat) : BufTy := match i / 128 with
  | 0 => hbmTy0_0 i
  | 1 => hbmTy0_1 i
  | 2 => hbmTy0_2 i
  | _ => ⟨S64x100000, .f32⟩

abbrev bufTy : (tb : Table) → Fin (tcTables nBuf tb) → BufTy
  | .hbm, ⟨i, _⟩ => hbmTy i
  | .local _ .vmem, ⟨0, _⟩ => ⟨S8x100096, .f32⟩
  | .local _ .vmem, ⟨1, _⟩ => ⟨S8x100096, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .i32⟩
  | .local _ .vmem, ⟨9, _⟩ => ⟨S8x128, .i32⟩
  | .local _ .vmem, ⟨10, _⟩ => ⟨S8x100096, .f32⟩
  | _, _ => ⟨S64x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_v0 : Ref sig .tc := ⟨.hbm, 4, rfl⟩
abbrev main_v0 : Ref sig .tc := ⟨.hbm, 5, rfl⟩
abbrev main_c : Ref sig .tc := ⟨.hbm, 6, rfl⟩
abbrev main_c_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_v9 : Ref sig .tc := ⟨.hbm, 27, rfl⟩
abbrev main_call1_c : Ref sig .tc := ⟨.hbm, 28, rfl⟩
abbrev main_call1_v10 : Ref sig .tc := ⟨.hbm, 29, rfl⟩
abbrev main_call1_v11 : Ref sig .tc := ⟨.hbm, 30, rfl⟩
abbrev main_call1_c_0 : Ref sig .tc := ⟨.hbm, 31, rfl⟩
abbrev main_call1_v12 : Ref sig .tc := ⟨.hbm, 32, rfl⟩
abbrev main_call1_v13 : Ref sig .tc := ⟨.hbm, 33, rfl⟩
abbrev main_call1_v14 : Ref sig .tc := ⟨.hbm, 34, rfl⟩
abbrev main_call1_c_1 : Ref sig .tc := ⟨.hbm, 35, rfl⟩
abbrev main_call1_v15 : Ref sig .tc := ⟨.hbm, 36, rfl⟩
abbrev main_call1_v16 : Ref sig .tc := ⟨.hbm, 37, rfl⟩
abbrev main_call1_v17 : Ref sig .tc := ⟨.hbm, 38, rfl⟩
abbrev main_call1_v18 : Ref sig .tc := ⟨.hbm, 39, rfl⟩
abbrev main_call1_call0_v0 : Ref sig .tc := ⟨.hbm, 40, rfl⟩
abbrev main_call1_call0_c : Ref sig .tc := ⟨.hbm, 41, rfl⟩
abbrev main_call1_call0_v1 : Ref sig .tc := ⟨.hbm, 42, rfl⟩
abbrev main_call1_call0_v2 : Ref sig .tc := ⟨.hbm, 43, rfl⟩
abbrev main_call1_call0_v3 : Ref sig .tc := ⟨.hbm, 44, rfl⟩
abbrev main_call1_call0_v4 : Ref sig .tc := ⟨.hbm, 45, rfl⟩
abbrev main_call1_call0_v5 : Ref sig .tc := ⟨.hbm, 46, rfl⟩
abbrev main_call1_call0_v6 : Ref sig .tc := ⟨.hbm, 47, rfl⟩
abbrev main_call1_call0_c_0 : Ref sig .tc := ⟨.hbm, 48, rfl⟩
abbrev main_call1_call0_v7 : Ref sig .tc := ⟨.hbm, 49, rfl⟩
abbrev main_call1_call0_v8 : Ref sig .tc := ⟨.hbm, 50, rfl⟩
abbrev main_call1_call0_c_1 : Ref sig .tc := ⟨.hbm, 51, rfl⟩
abbrev main_call1_call0_v9 : Ref sig .tc := ⟨.hbm, 52, rfl⟩
abbrev main_call1_call0_v10 : Ref sig .tc := ⟨.hbm, 53, rfl⟩
abbrev main_call1_call0_v11 : Ref sig .tc := ⟨.hbm, 54, rfl⟩
abbrev main_call1_call0_v12 : Ref sig .tc := ⟨.hbm, 55, rfl⟩
abbrev main_call1_call0_v13 : Ref sig .tc := ⟨.hbm, 56, rfl⟩
abbrev main_call1_call0_c_2 : Ref sig .tc := ⟨.hbm, 57, rfl⟩
abbrev main_call1_call0_v14 : Ref sig .tc := ⟨.hbm, 58, rfl⟩
abbrev main_call1_call0_v15 : Ref sig .tc := ⟨.hbm, 59, rfl⟩
abbrev main_call1_call0_c_3 : Ref sig .tc := ⟨.hbm, 60, rfl⟩
abbrev main_call1_call0_v16 : Ref sig .tc := ⟨.hbm, 61, rfl⟩
abbrev main_call1_call0_v17 : Ref sig .tc := ⟨.hbm, 62, rfl⟩
abbrev main_call1_call0_v18 : Ref sig .tc := ⟨.hbm, 63, rfl⟩
abbrev main_call1_call0_v19 : Ref sig .tc := ⟨.hbm, 64, rfl⟩
abbrev main_call1_call0_v20 : Ref sig .tc := ⟨.hbm, 65, rfl⟩
abbrev main_call1_call0_c_4 : Ref sig .tc := ⟨.hbm, 66, rfl⟩
abbrev main_call1_call0_v21 : Ref sig .tc := ⟨.hbm, 67, rfl⟩
abbrev main_call1_call0_v22 : Ref sig .tc := ⟨.hbm, 68, rfl⟩
abbrev main_call1_call0_c_5 : Ref sig .tc := ⟨.hbm, 69, rfl⟩
abbrev main_call1_call0_v23 : Ref sig .tc := ⟨.hbm, 70, rfl⟩
abbrev main_call1_call0_v24 : Ref sig .tc := ⟨.hbm, 71, rfl⟩
abbrev main_call1_call0_v25 : Ref sig .tc := ⟨.hbm, 72, rfl⟩
abbrev main_call1_call0_v26 : Ref sig .tc := ⟨.hbm, 73, rfl⟩
abbrev main_call1_call0_v27 : Ref sig .tc := ⟨.hbm, 74, rfl⟩
abbrev main_call1_call0_c_6 : Ref sig .tc := ⟨.hbm, 75, rfl⟩
abbrev main_call1_call0_v28 : Ref sig .tc := ⟨.hbm, 76, rfl⟩
abbrev main_call1_call0_v29 : Ref sig .tc := ⟨.hbm, 77, rfl⟩
abbrev main_call1_call0_c_7 : Ref sig .tc := ⟨.hbm, 78, rfl⟩
abbrev main_call1_call0_v30 : Ref sig .tc := ⟨.hbm, 79, rfl⟩
abbrev main_call1_call0_v31 : Ref sig .tc := ⟨.hbm, 80, rfl⟩
abbrev main_call1_call0_v32 : Ref sig .tc := ⟨.hbm, 81, rfl⟩
abbrev main_call1_call0_v33 : Ref sig .tc := ⟨.hbm, 82, rfl⟩
abbrev main_call1_call0_v34 : Ref sig .tc := ⟨.hbm, 83, rfl⟩
abbrev main_call1_call0_v35 : Ref sig .tc := ⟨.hbm, 84, rfl⟩
abbrev main_call1_call0_v36 : Ref sig .tc := ⟨.hbm, 85, rfl⟩
abbrev main_call1_call0_v37 : Ref sig .tc := ⟨.hbm, 86, rfl⟩
abbrev main_call1_call0_c_8 : Ref sig .tc := ⟨.hbm, 87, rfl⟩
abbrev main_call1_call0_v38 : Ref sig .tc := ⟨.hbm, 88, rfl⟩
abbrev main_call1_call0_v39 : Ref sig .tc := ⟨.hbm, 89, rfl⟩
abbrev main_call1_call0_v40 : Ref sig .tc := ⟨.hbm, 90, rfl⟩
abbrev main_call1_call0_c_9 : Ref sig .tc := ⟨.hbm, 91, rfl⟩
abbrev main_call1_call0_v41 : Ref sig .tc := ⟨.hbm, 92, rfl⟩
abbrev main_call1_call0_v42 : Ref sig .tc := ⟨.hbm, 93, rfl⟩
abbrev main_call1_call0_c_10 : Ref sig .tc := ⟨.hbm, 94, rfl⟩
abbrev main_call1_call0_v43 : Ref sig .tc := ⟨.hbm, 95, rfl⟩
abbrev main_call1_call0_v44 : Ref sig .tc := ⟨.hbm, 96, rfl⟩
abbrev main_call1_call0_v45 : Ref sig .tc := ⟨.hbm, 97, rfl⟩
abbrev main_call1_call0_v46 : Ref sig .tc := ⟨.hbm, 98, rfl⟩
abbrev main_call1_call0_v47 : Ref sig .tc := ⟨.hbm, 99, rfl⟩
abbrev main_call1_call0_c_11 : Ref sig .tc := ⟨.hbm, 100, rfl⟩
abbrev main_call1_call0_v48 : Ref sig .tc := ⟨.hbm, 101, rfl⟩
abbrev main_call1_call0_v49 : Ref sig .tc := ⟨.hbm, 102, rfl⟩
abbrev main_call1_call0_c_12 : Ref sig .tc := ⟨.hbm, 103, rfl⟩
abbrev main_call1_call0_v50 : Ref sig .tc := ⟨.hbm, 104, rfl⟩
abbrev main_call1_call0_v51 : Ref sig .tc := ⟨.hbm, 105, rfl⟩
abbrev main_call1_call0_v52 : Ref sig .tc := ⟨.hbm, 106, rfl⟩
abbrev main_call1_call0_v53 : Ref sig .tc := ⟨.hbm, 107, rfl⟩
abbrev main_call1_call0_v54 : Ref sig .tc := ⟨.hbm, 108, rfl⟩
abbrev main_call1_call0_c_13 : Ref sig .tc := ⟨.hbm, 109, rfl⟩
abbrev main_call1_call0_v55 : Ref sig .tc := ⟨.hbm, 110, rfl⟩
abbrev main_call1_call0_v56 : Ref sig .tc := ⟨.hbm, 111, rfl⟩
abbrev main_call1_call0_c_14 : Ref sig .tc := ⟨.hbm, 112, rfl⟩
abbrev main_call1_call0_v57 : Ref sig .tc := ⟨.hbm, 113, rfl⟩
abbrev main_call1_call0_v58 : Ref sig .tc := ⟨.hbm, 114, rfl⟩
abbrev main_call1_call0_v59 : Ref sig .tc := ⟨.hbm, 115, rfl⟩
abbrev main_call1_call0_v60 : Ref sig .tc := ⟨.hbm, 116, rfl⟩
abbrev main_call1_call0_v61 : Ref sig .tc := ⟨.hbm, 117, rfl⟩
abbrev main_call1_call0_c_15 : Ref sig .tc := ⟨.hbm, 118, rfl⟩
abbrev main_call1_call0_v62 : Ref sig .tc := ⟨.hbm, 119, rfl⟩
abbrev main_call1_call0_v63 : Ref sig .tc := ⟨.hbm, 120, rfl⟩
abbrev main_call1_call0_c_16 : Ref sig .tc := ⟨.hbm, 121, rfl⟩
abbrev main_call1_call0_v64 : Ref sig .tc := ⟨.hbm, 122, rfl⟩
abbrev main_call1_call0_v65 : Ref sig .tc := ⟨.hbm, 123, rfl⟩
abbrev main_call1_call0_v66 : Ref sig .tc := ⟨.hbm, 124, rfl⟩
abbrev main_call1_call0_v67 : Ref sig .tc := ⟨.hbm, 125, rfl⟩
abbrev main_call1_call0_v68 : Ref sig .tc := ⟨.hbm, 126, rfl⟩
abbrev main_call1_call0_v69 : Ref sig .tc := ⟨.hbm, 127, rfl⟩
abbrev main_call1_call0_v70 : Ref sig .tc := ⟨.hbm, 128, rfl⟩
abbrev main_call1_call0_v71 : Ref sig .tc := ⟨.hbm, 129, rfl⟩
abbrev main_call1_call0_c_17 : Ref sig .tc := ⟨.hbm, 130, rfl⟩
abbrev main_call1_call0_v72 : Ref sig .tc := ⟨.hbm, 131, rfl⟩
abbrev main_call1_call0_v73 : Ref sig .tc := ⟨.hbm, 132, rfl⟩
abbrev main_call1_call0_v74 : Ref sig .tc := ⟨.hbm, 133, rfl⟩
abbrev main_call1_call0_c_18 : Ref sig .tc := ⟨.hbm, 134, rfl⟩
abbrev main_call1_call0_v75 : Ref sig .tc := ⟨.hbm, 135, rfl⟩
abbrev main_call1_call0_v76 : Ref sig .tc := ⟨.hbm, 136, rfl⟩
abbrev main_call1_call0_c_19 : Ref sig .tc := ⟨.hbm, 137, rfl⟩
abbrev main_call1_call0_v77 : Ref sig .tc := ⟨.hbm, 138, rfl⟩
abbrev main_call1_call0_v78 : Ref sig .tc := ⟨.hbm, 139, rfl⟩
abbrev main_call1_call0_v79 : Ref sig .tc := ⟨.hbm, 140, rfl⟩
abbrev main_call1_call0_v80 : Ref sig .tc := ⟨.hbm, 141, rfl⟩
abbrev main_call1_call0_v81 : Ref sig .tc := ⟨.hbm, 142, rfl⟩
abbrev main_call1_call0_c_20 : Ref sig .tc := ⟨.hbm, 143, rfl⟩
abbrev main_call1_call0_v82 : Ref sig .tc := ⟨.hbm, 144, rfl⟩
abbrev main_call1_call0_v83 : Ref sig .tc := ⟨.hbm, 145, rfl⟩
abbrev main_call1_call0_c_21 : Ref sig .tc := ⟨.hbm, 146, rfl⟩
abbrev main_call1_call0_v84 : Ref sig .tc := ⟨.hbm, 147, rfl⟩
abbrev main_call1_call0_v85 : Ref sig .tc := ⟨.hbm, 148, rfl⟩
abbrev main_call1_call0_v86 : Ref sig .tc := ⟨.hbm, 149, rfl⟩
abbrev main_call1_call0_v87 : Ref sig .tc := ⟨.hbm, 150, rfl⟩
abbrev main_call1_call0_v88 : Ref sig .tc := ⟨.hbm, 151, rfl⟩
abbrev main_call1_call0_c_22 : Ref sig .tc := ⟨.hbm, 152, rfl⟩
abbrev main_call1_call0_v89 : Ref sig .tc := ⟨.hbm, 153, rfl⟩
abbrev main_call1_call0_v90 : Ref sig .tc := ⟨.hbm, 154, rfl⟩
abbrev main_call1_call0_c_23 : Ref sig .tc := ⟨.hbm, 155, rfl⟩
abbrev main_call1_call0_v91 : Ref sig .tc := ⟨.hbm, 156, rfl⟩
abbrev main_call1_call0_v92 : Ref sig .tc := ⟨.hbm, 157, rfl⟩
abbrev main_call1_call0_v93 : Ref sig .tc := ⟨.hbm, 158, rfl⟩
abbrev main_call1_call0_v94 : Ref sig .tc := ⟨.hbm, 159, rfl⟩
abbrev main_call1_call0_v95 : Ref sig .tc := ⟨.hbm, 160, rfl⟩
abbrev main_call1_call0_c_24 : Ref sig .tc := ⟨.hbm, 161, rfl⟩
abbrev main_call1_call0_v96 : Ref sig .tc := ⟨.hbm, 162, rfl⟩
abbrev main_call1_call0_v97 : Ref sig .tc := ⟨.hbm, 163, rfl⟩
abbrev main_call1_call0_c_25 : Ref sig .tc := ⟨.hbm, 164, rfl⟩
abbrev main_call1_call0_v98 : Ref sig .tc := ⟨.hbm, 165, rfl⟩
abbrev main_call1_call0_v99 : Ref sig .tc := ⟨.hbm, 166, rfl⟩
abbrev main_call1_call0_v100 : Ref sig .tc := ⟨.hbm, 167, rfl⟩
abbrev main_call1_call0_v101 : Ref sig .tc := ⟨.hbm, 168, rfl⟩
abbrev main_call1_call0_v102 : Ref sig .tc := ⟨.hbm, 169, rfl⟩
abbrev main_call1_call0_v103 : Ref sig .tc := ⟨.hbm, 170, rfl⟩
abbrev main_call1_call0_v104 : Ref sig .tc := ⟨.hbm, 171, rfl⟩
abbrev main_call1_call0_v105 : Ref sig .tc := ⟨.hbm, 172, rfl⟩
abbrev main_call1_call0_c_26 : Ref sig .tc := ⟨.hbm, 173, rfl⟩
abbrev main_call1_call0_v106 : Ref sig .tc := ⟨.hbm, 174, rfl⟩
abbrev main_call1_call0_v107 : Ref sig .tc := ⟨.hbm, 175, rfl⟩
abbrev main_call1_call0_v108 : Ref sig .tc := ⟨.hbm, 176, rfl⟩
abbrev main_call1_call0_c_27 : Ref sig .tc := ⟨.hbm, 177, rfl⟩
abbrev main_call1_call0_v109 : Ref sig .tc := ⟨.hbm, 178, rfl⟩
abbrev main_call1_call0_v110 : Ref sig .tc := ⟨.hbm, 179, rfl⟩
abbrev main_call1_call0_c_28 : Ref sig .tc := ⟨.hbm, 180, rfl⟩
abbrev main_call1_call0_v111 : Ref sig .tc := ⟨.hbm, 181, rfl⟩
abbrev main_call1_call0_v112 : Ref sig .tc := ⟨.hbm, 182, rfl⟩
abbrev main_call1_call0_v113 : Ref sig .tc := ⟨.hbm, 183, rfl⟩
abbrev main_call1_call0_v114 : Ref sig .tc := ⟨.hbm, 184, rfl⟩
abbrev main_call1_call0_v115 : Ref sig .tc := ⟨.hbm, 185, rfl⟩
abbrev main_call1_call0_c_29 : Ref sig .tc := ⟨.hbm, 186, rfl⟩
abbrev main_call1_call0_v116 : Ref sig .tc := ⟨.hbm, 187, rfl⟩
abbrev main_call1_call0_v117 : Ref sig .tc := ⟨.hbm, 188, rfl⟩
abbrev main_call1_call0_c_30 : Ref sig .tc := ⟨.hbm, 189, rfl⟩
abbrev main_call1_call0_v118 : Ref sig .tc := ⟨.hbm, 190, rfl⟩
abbrev main_call1_call0_v119 : Ref sig .tc := ⟨.hbm, 191, rfl⟩
abbrev main_call1_call0_v120 : Ref sig .tc := ⟨.hbm, 192, rfl⟩
abbrev main_call1_call0_v121 : Ref sig .tc := ⟨.hbm, 193, rfl⟩
abbrev main_call1_call0_v122 : Ref sig .tc := ⟨.hbm, 194, rfl⟩
abbrev main_call1_call0_c_31 : Ref sig .tc := ⟨.hbm, 195, rfl⟩
abbrev main_call1_call0_v123 : Ref sig .tc := ⟨.hbm, 196, rfl⟩
abbrev main_call1_call0_v124 : Ref sig .tc := ⟨.hbm, 197, rfl⟩
abbrev main_call1_call0_c_32 : Ref sig .tc := ⟨.hbm, 198, rfl⟩
abbrev main_call1_call0_v125 : Ref sig .tc := ⟨.hbm, 199, rfl⟩
abbrev main_call1_call0_v126 : Ref sig .tc := ⟨.hbm, 200, rfl⟩
abbrev main_call1_call0_v127 : Ref sig .tc := ⟨.hbm, 201, rfl⟩
abbrev main_call1_call0_v128 : Ref sig .tc := ⟨.hbm, 202, rfl⟩
abbrev main_call1_call0_v129 : Ref sig .tc := ⟨.hbm, 203, rfl⟩
abbrev main_call1_call0_c_33 : Ref sig .tc := ⟨.hbm, 204, rfl⟩
abbrev main_call1_call0_v130 : Ref sig .tc := ⟨.hbm, 205, rfl⟩
abbrev main_call1_call0_v131 : Ref sig .tc := ⟨.hbm, 206, rfl⟩
abbrev main_call1_call0_c_34 : Ref sig .tc := ⟨.hbm, 207, rfl⟩
abbrev main_call1_call0_v132 : Ref sig .tc := ⟨.hbm, 208, rfl⟩
abbrev main_call1_call0_v133 : Ref sig .tc := ⟨.hbm, 209, rfl⟩
abbrev main_call1_call0_v134 : Ref sig .tc := ⟨.hbm, 210, rfl⟩
abbrev main_call1_call0_v135 : Ref sig .tc := ⟨.hbm, 211, rfl⟩
abbrev main_call1_call0_v136 : Ref sig .tc := ⟨.hbm, 212, rfl⟩
abbrev main_call1_call0_v137 : Ref sig .tc := ⟨.hbm, 213, rfl⟩
abbrev main_call1_call0_v138 : Ref sig .tc := ⟨.hbm, 214, rfl⟩
abbrev main_call1_call0_v139 : Ref sig .tc := ⟨.hbm, 215, rfl⟩
abbrev main_call1_call0_c_35 : Ref sig .tc := ⟨.hbm, 216, rfl⟩
abbrev main_call1_call0_v140 : Ref sig .tc := ⟨.hbm, 217, rfl⟩
abbrev main_call1_call0_v141 : Ref sig .tc := ⟨.hbm, 218, rfl⟩
abbrev main_call1_call0_v142 : Ref sig .tc := ⟨.hbm, 219, rfl⟩
abbrev main_call1_call0_c_36 : Ref sig .tc := ⟨.hbm, 220, rfl⟩
abbrev main_call1_call0_v143 : Ref sig .tc := ⟨.hbm, 221, rfl⟩
abbrev main_call1_call0_v144 : Ref sig .tc := ⟨.hbm, 222, rfl⟩
abbrev main_call1_call0_c_37 : Ref sig .tc := ⟨.hbm, 223, rfl⟩
abbrev main_call1_call0_v145 : Ref sig .tc := ⟨.hbm, 224, rfl⟩
abbrev main_call1_call0_v146 : Ref sig .tc := ⟨.hbm, 225, rfl⟩
abbrev main_call1_call0_v147 : Ref sig .tc := ⟨.hbm, 226, rfl⟩
abbrev main_call1_call0_v148 : Ref sig .tc := ⟨.hbm, 227, rfl⟩
abbrev main_call1_call0_v149 : Ref sig .tc := ⟨.hbm, 228, rfl⟩
abbrev main_call1_call0_c_38 : Ref sig .tc := ⟨.hbm, 229, rfl⟩
abbrev main_call1_call0_v150 : Ref sig .tc := ⟨.hbm, 230, rfl⟩
abbrev main_call1_call0_v151 : Ref sig .tc := ⟨.hbm, 231, rfl⟩
abbrev main_call1_call0_c_39 : Ref sig .tc := ⟨.hbm, 232, rfl⟩
abbrev main_call1_call0_v152 : Ref sig .tc := ⟨.hbm, 233, rfl⟩
abbrev main_call1_call0_v153 : Ref sig .tc := ⟨.hbm, 234, rfl⟩
abbrev main_call1_call0_v154 : Ref sig .tc := ⟨.hbm, 235, rfl⟩
abbrev main_call1_call0_v155 : Ref sig .tc := ⟨.hbm, 236, rfl⟩
abbrev main_call1_call0_v156 : Ref sig .tc := ⟨.hbm, 237, rfl⟩
abbrev main_call1_call0_c_40 : Ref sig .tc := ⟨.hbm, 238, rfl⟩
abbrev main_call1_call0_v157 : Ref sig .tc := ⟨.hbm, 239, rfl⟩
abbrev main_call1_call0_v158 : Ref sig .tc := ⟨.hbm, 240, rfl⟩
abbrev main_call1_call0_c_41 : Ref sig .tc := ⟨.hbm, 241, rfl⟩
abbrev main_call1_call0_v159 : Ref sig .tc := ⟨.hbm, 242, rfl⟩
abbrev main_call1_call0_v160 : Ref sig .tc := ⟨.hbm, 243, rfl⟩
abbrev main_call1_call0_v161 : Ref sig .tc := ⟨.hbm, 244, rfl⟩
abbrev main_call1_call0_v162 : Ref sig .tc := ⟨.hbm, 245, rfl⟩
abbrev main_call1_call0_v163 : Ref sig .tc := ⟨.hbm, 246, rfl⟩
abbrev main_call1_call0_c_42 : Ref sig .tc := ⟨.hbm, 247, rfl⟩
abbrev main_call1_call0_v164 : Ref sig .tc := ⟨.hbm, 248, rfl⟩
abbrev main_call1_call0_v165 : Ref sig .tc := ⟨.hbm, 249, rfl⟩
abbrev main_call1_call0_c_43 : Ref sig .tc := ⟨.hbm, 250, rfl⟩
abbrev main_call1_call0_v166 : Ref sig .tc := ⟨.hbm, 251, rfl⟩
abbrev main_call1_call0_v167 : Ref sig .tc := ⟨.hbm, 252, rfl⟩
abbrev main_call1_call0_v168 : Ref sig .tc := ⟨.hbm, 253, rfl⟩
abbrev main_call1_call0_v169 : Ref sig .tc := ⟨.hbm, 254, rfl⟩
abbrev main_call1_call0_v170 : Ref sig .tc := ⟨.hbm, 255, rfl⟩
abbrev main_call1_v19_0 : Ref sig .tc := ⟨.hbm, 256, rfl⟩
abbrev main_call1_call0_v172 : Ref sig .tc := ⟨.hbm, 257, rfl⟩
abbrev main_call1_call0_v173 : Ref sig .tc := ⟨.hbm, 258, rfl⟩
abbrev main_call1_call0_c_44 : Ref sig .tc := ⟨.hbm, 259, rfl⟩
abbrev main_call1_call0_v174 : Ref sig .tc := ⟨.hbm, 260, rfl⟩
abbrev main_call1_v19_1 : Ref sig .tc := ⟨.hbm, 261, rfl⟩
abbrev main_call1_v20 : Ref sig .tc := ⟨.hbm, 262, rfl⟩
abbrev main_call1_c_2 : Ref sig .tc := ⟨.hbm, 263, rfl⟩
abbrev main_call1_v21 : Ref sig .tc := ⟨.hbm, 264, rfl⟩
abbrev main_call1_v22 : Ref sig .tc := ⟨.hbm, 265, rfl⟩
abbrev main_call1_c_3 : Ref sig .tc := ⟨.hbm, 266, rfl⟩
abbrev main_call1_v23 : Ref sig .tc := ⟨.hbm, 267, rfl⟩
abbrev main_call1_v24 : Ref sig .tc := ⟨.hbm, 268, rfl⟩
abbrev main_call1_v25 : Ref sig .tc := ⟨.hbm, 269, rfl⟩
abbrev main_call1_cst : Ref sig .tc := ⟨.hbm, 270, rfl⟩
abbrev main_call1_v26 : Ref sig .tc := ⟨.hbm, 271, rfl⟩
abbrev main_call1_v27 : Ref sig .tc := ⟨.hbm, 272, rfl⟩
abbrev main_call1_v28 : Ref sig .tc := ⟨.hbm, 273, rfl⟩
abbrev main_call1_v29 : Ref sig .tc := ⟨.hbm, 274, rfl⟩
abbrev main_call1_v30 : Ref sig .tc := ⟨.hbm, 275, rfl⟩
abbrev main_call1_v31 : Ref sig .tc := ⟨.hbm, 276, rfl⟩
abbrev main_call1_v32 : Ref sig .tc := ⟨.hbm, 277, rfl⟩
abbrev main_call1_v33 : Ref sig .tc := ⟨.hbm, 278, rfl⟩
abbrev main_v8 : Ref sig .tc := ⟨.hbm, 279, rfl⟩
abbrev main_v9 : Ref sig .tc := ⟨.hbm, 280, rfl⟩
abbrev main_v10 : Ref sig .tc := ⟨.hbm, 281, rfl⟩
abbrev main_v11 : Ref sig .tc := ⟨.hbm, 282, rfl⟩
abbrev main_v12 : Ref sig .tc := ⟨.hbm, 283, rfl⟩
abbrev main_v13 : Ref sig .tc := ⟨.hbm, 284, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_41 : BitVec 32 := 0#32
  let c30_i32 : BitVec 32 := 30#32
  let v148 : BitVec 32 := Scalar.addi c0_i32_41 c30_i32
  let c1_i32 : BitVec 32 := 1#32
  ⟨c0_i32_41, v148, c1_i32⟩
@[reducible] def k0_t2_loop : Scf.Loop 32 :=
  let c0_i32_101 : BitVec 32 := 0#32
  let c30_i32_102 : BitVec 32 := 30#32
  let v375 : BitVec 32 := Scalar.addi c0_i32_101 c30_i32_102
  let c1_i32_103 : BitVec 32 := 1#32
  ⟨c0_i32_101, v375, c1_i32_103⟩
@[reducible] def k0_t3_loop : Scf.Loop 32 :=
  let c0_i32_159 : BitVec 32 := 0#32
  let c17_i32 : BitVec 32 := 17#32
  let v606 : BitVec 32 := Scalar.addi c0_i32_159 c17_i32
  let c1_i32_160 : BitVec 32 := 1#32
  ⟨c0_i32_159, v606, c1_i32_160⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x100096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S64x100000 : Shape := ⟨2, ![64, 100000]⟩
abbrev S64x1 : Shape := ⟨2, ![64, 1]⟩
abbrev S_ : Shape := ⟨0, ![]⟩
abbrev S64 : Shape := ⟨1, ![64]⟩
abbrev S64x100000x1 : Shape := ⟨3, ![64, 100000, 1]⟩
abbrev S1 : Shape := ⟨1, ![1]⟩
abbrev S1x1x1 : Shape := ⟨3, ![1, 1, 1]⟩
abbrev S64x99999 : Shape := ⟨2, ![64, 99999]⟩
abbrev S2 : Shape := ⟨1, ![2]⟩
abbrev S1x1 : Shape := ⟨2, ![1, 1]⟩
abbrev S64x1x1 : Shape := ⟨3, ![64, 1, 1]⟩

abbrev nBuf : Space → Nat
  | .hbm => 381
  | .vmem => 0
  | .smem => 0
  | _ => 0

abbrev hbmTy0_0 (i : Nat) : BufTy := match i % 128 with
  | 0 => ⟨S64x100000, .f32⟩
  | 1 => ⟨S64x1, .f32⟩
  | 2 => ⟨S64x1, .f32⟩
  | 3 => ⟨S_, .f32⟩
  | 4 => ⟨S_, .f32⟩
  | 5 => ⟨S64x1, .f32⟩
  | 6 => ⟨S64x1, .f32⟩
  | 7 => ⟨S64x100000, .f32⟩
  | 8 => ⟨S64x100000, .f32⟩
  | 9 => ⟨S_, .f32⟩
  | 10 => ⟨S64, .f32⟩
  | 11 => ⟨S_, .f32⟩
  | 12 => ⟨S64, .f32⟩
  | 13 => ⟨S64, .f32⟩
  | 14 => ⟨S64x1, .f32⟩
  | 15 => ⟨S64x100000, .f32⟩
  | 16 => ⟨S64x100000, .f32⟩
  | 17 => ⟨S64x100000, .f32⟩
  | 18 => ⟨S_, .f32⟩
  | 19 => ⟨S64, .f32⟩
  | 20 => ⟨S64x1, .f32⟩
  | 21 => ⟨S64x100000, .f32⟩
  | 22 => ⟨S64x100000, .f32⟩
  | 23 => ⟨S64x100000, .f32⟩
  | 24 => ⟨S64x100000, .i32⟩
  | 25 => ⟨S64x100000, .f32⟩
  | 26 => ⟨S64x100000, .i32⟩
  | 27 => ⟨S_, .i32⟩
  | 28 => ⟨S64x100000, .i32⟩
  | 29 => ⟨S64x100000, .i1⟩
  | 30 => ⟨S_, .i32⟩
  | 31 => ⟨S64x100000, .i32⟩
  | 32 => ⟨S64x100000, .i32⟩
  | 33 => ⟨S64x100000, .i32⟩
  | 34 => ⟨S64x100000x1, .i32⟩
  | 35 => ⟨S1, .i32⟩
  | 36 => ⟨S_, .i32⟩
  | 37 => ⟨S64x100000x1, .i32⟩
  | 38 => ⟨S64x100000x1, .i1⟩
  | 39 => ⟨S1x1x1, .i32⟩
  | 40 => ⟨S64x100000x1, .i32⟩
  | 41 => ⟨S64x100000x1, .i1⟩
  | 42 => ⟨S64x100000x1, .i1⟩
  | 43 => ⟨S_, .i1⟩
  | 44 => ⟨S64x100000, .i1⟩
  | 45 => ⟨S64x100000, .f32⟩
  | 46 => ⟨S_, .f32⟩
  | 47 => ⟨S64x100000, .f32⟩
  | 48 => ⟨S64x100000, .f32⟩
  | 49 => ⟨S_, .f32⟩
  | 50 => ⟨S_, .f32⟩
  | 51 => ⟨S64x100000, .f32⟩
  | 52 => ⟨S64x100000, .f32⟩
  | 53 => ⟨S64x100000, .i1⟩
  | 54 => ⟨S64x1, .i1⟩
  | 55 => ⟨S_, .i1⟩
  | 56 => ⟨S64x1, .i1⟩
  | 57 => ⟨S64x99999, .i1⟩
  | 58 => ⟨S64x100000, .i1⟩
  | 59 => ⟨S_, .f32⟩
  | 60 => ⟨S_, .f32⟩
  | 61 => ⟨S64x100000, .f32⟩
  | 62 => ⟨S64x100000, .f32⟩
  | 63 => ⟨S_, .f32⟩
  | 64 => ⟨S64, .f32⟩
  | 65 => ⟨S64x1, .f32⟩
  | 66 => ⟨S64x100000, .f32⟩
  | 67 => ⟨S64x100000, .f32⟩
  | 68 => ⟨S_, .f32⟩
  | 69 => ⟨S_, .f32⟩
  | 70 => ⟨S64x100000, .f32⟩
  | 71 => ⟨S_, .i32⟩
  | 72 => ⟨S_, .i32⟩
  | 73 => ⟨S_, .i32⟩
  | 74 => ⟨S_, .i32⟩
  | 75 => ⟨S1, .i32⟩
  | 76 => ⟨S_, .i32⟩
  | 77 => ⟨S_, .i32⟩
  | 78 => ⟨S_, .i32⟩
  | 79 => ⟨S1, .i32⟩
  | 80 => ⟨S2, .i32⟩
  | 81 => ⟨S_, .f32⟩
  | 82 => ⟨S_, .f32⟩
  | 83 => ⟨S_, .f32⟩
  | 84 => ⟨S_, .f32⟩
  | 85 => ⟨S1x1, .f32⟩
  | 86 => ⟨S1x1, .f32⟩
  | 87 => ⟨S1, .i32⟩
  | 88 => ⟨S_, .i32⟩
  | 89 => ⟨S1, .i32⟩
  | 90 => ⟨S_, .i32⟩
  | 91 => ⟨S64x1, .i64⟩
  | 92 => ⟨S64x1, .i64⟩
  | 93 => ⟨S_, .i64⟩
  | 94 => ⟨S64x1, .i64⟩
  | 95 => ⟨S64x1, .i64⟩
  | 96 => ⟨S_, .i64⟩
  | 97 => ⟨S64x1, .i64⟩
  | 98 => ⟨S64x1, .i64⟩
  | 99 => ⟨S64x1, .i64⟩
  | 100 => ⟨S_, .i64⟩
  | 101 => ⟨S64x1, .i64⟩
  | 102 => ⟨S64x1, .i64⟩
  | 103 => ⟨S64x1, .i32⟩
  | 104 => ⟨S64x1, .i32⟩
  | 105 => ⟨S_, .i32⟩
  | 106 => ⟨S_, .i32⟩
  | 107 => ⟨S_, .i32⟩
  | 108 => ⟨S64x1, .i32⟩
  | 109 => ⟨S64x1, .i32⟩
  | 110 => ⟨S64x1, .i32⟩
  | 111 => ⟨S64x1, .i32⟩
  | 112 => ⟨S64x1, .i32⟩
  | 113 => ⟨S_, .i32⟩
  | 114 => ⟨S64x1, .i32⟩
  | 115 => ⟨S64x1, .i32⟩
  | 116 => ⟨S_, .i32⟩
  | 117 => ⟨S64x1, .i32⟩
  | 118 => ⟨S64x1, .i32⟩
  | 119 => ⟨S64x1, .i32⟩
  | 120 => ⟨S64x1, .i32⟩
  | 121 => ⟨S64x1, .i32⟩
  | 122 => ⟨S_, .i32⟩
  | 123 => ⟨S64x1, .i32⟩
  | 124 => ⟨S64x1, .i32⟩
  | 125 => ⟨S_, .i32⟩
  | 126 => ⟨S64x1, .i32⟩
  | 127 => ⟨S64x1, .i32⟩
  | _ => ⟨S64x100000, .f32⟩

abbrev hbmTy0_1 (i : Nat) : BufTy := match i % 128 with
  | 0 => ⟨S64x1, .i32⟩
  | 1 => ⟨S64x1, .i32⟩
  | 2 => ⟨S64x1, .i32⟩
  | 3 => ⟨S_, .i32⟩
  | 4 => ⟨S64x1, .i32⟩
  | 5 => ⟨S64x1, .i32⟩
  | 6 => ⟨S_, .i32⟩
  | 7 => ⟨S64x1, .i32⟩
  | 8 => ⟨S64x1, .i32⟩
  | 9 => ⟨S64x1, .i32⟩
  | 10 => ⟨S64x1, .i32⟩
  | 11 => ⟨S64x1, .i32⟩
  | 12 => ⟨S_, .i32⟩
  | 13 => ⟨S64x1, .i32⟩
  | 14 => ⟨S64x1, .i32⟩
  | 15 => ⟨S_, .i32⟩
  | 16 => ⟨S64x1, .i32⟩
  | 17 => ⟨S64x1, .i32⟩
  | 18 => ⟨S64x1, .i32⟩
  | 19 => ⟨S64x1, .i32⟩
  | 20 => ⟨S64x1, .i32⟩
  | 21 => ⟨S64x1, .i32⟩
  | 22 => ⟨S64x1, .i32⟩
  | 23 => ⟨S64x1, .i32⟩
  | 24 => ⟨S_, .i32⟩
  | 25 => ⟨S64x1, .i32⟩
  | 26 => ⟨S64x1, .i32⟩
  | 27 => ⟨S64x1, .i32⟩
  | 28 => ⟨S_, .i32⟩
  | 29 => ⟨S64x1, .i32⟩
  | 30 => ⟨S64x1, .i32⟩
  | 31 => ⟨S_, .i32⟩
  | 32 => ⟨S64x1, .i32⟩
  | 33 => ⟨S64x1, .i32⟩
  | 34 => ⟨S64x1, .i32⟩
  | 35 => ⟨S64x1, .i32⟩
  | 36 => ⟨S64x1, .i32⟩
  | 37 => ⟨S_, .i32⟩
  | 38 => ⟨S64x1, .i32⟩
  | 39 => ⟨S64x1, .i32⟩
  | 40 => ⟨S_, .i32⟩
  | 41 => ⟨S64x1, .i32⟩
  | 42 => ⟨S64x1, .i32⟩
  | 43 => ⟨S64x1, .i32⟩
  | 44 => ⟨S64x1, .i32⟩
  | 45 => ⟨S64x1, .i32⟩
  | 46 => ⟨S_, .i32⟩
  | 47 => ⟨S64x1, .i32⟩
  | 48 => ⟨S64x1, .i32⟩
  | 49 => ⟨S_, .i32⟩
  | 50 => ⟨S64x1, .i32⟩
  | 51 => ⟨S64x1, .i32⟩
  | 52 => ⟨S64x1, .i32⟩
  | 53 => ⟨S64x1, .i32⟩
  | 54 => ⟨S64x1, .i32⟩
  | 55 => ⟨S_, .i32⟩
  | 56 => ⟨S64x1, .i32⟩
  | 57 => ⟨S64x1, .i32⟩
  | 58 => ⟨S_, .i32⟩
  | 59 => ⟨S64x1, .i32⟩
  | 60 => ⟨S64x1, .i32⟩
  | 61 => ⟨S64x1, .i32⟩
  | 62 => ⟨S64x1, .i32⟩
  | 63 => ⟨S64x1, .i32⟩
  | 64 => ⟨S64x1, .i32⟩
  | 65 => ⟨S64x1, .i32⟩
  | 66 => ⟨S64x1, .i32⟩
  | 67 => ⟨S_, .i32⟩
  | 68 => ⟨S64x1, .i32⟩
  | 69 => ⟨S64x1, .i32⟩
  | 70 => ⟨S64x1, .i32⟩
  | 71 => ⟨S_, .i32⟩
  | 72 => ⟨S64x1, .i32⟩
  | 73 => ⟨S64x1, .i32⟩
  | 74 => ⟨S_, .i32⟩
  | 75 => ⟨S64x1, .i32⟩
  | 76 => ⟨S64x1, .i32⟩
  | 77 => ⟨S64x1, .i32⟩
  | 78 => ⟨S64x1, .i32⟩
  | 79 => ⟨S64x1, .i32⟩
  | 80 => ⟨S_, .i32⟩
  | 81 => ⟨S64x1, .i32⟩
  | 82 => ⟨S64x1, .i32⟩
  | 83 => ⟨S_, .i32⟩
  | 84 => ⟨S64x1, .i32⟩
  | 85 => ⟨S64x1, .i32⟩
  | 86 => ⟨S64x1, .i32⟩
  | 87 => ⟨S64x1, .i32⟩
  | 88 => ⟨S64x1, .i32⟩
  | 89 => ⟨S_, .i32⟩
  | 90 => ⟨S64x1, .i32⟩
  | 91 => ⟨S64x1, .i32⟩
  | 92 => ⟨S_, .i32⟩
  | 93 => ⟨S64x1, .i32⟩
  | 94 => ⟨S64x1, .i32⟩
  | 95 => ⟨S64x1, .i32⟩
  | 96 => ⟨S64x1, .i32⟩
  | 97 => ⟨S64x1, .i32⟩
  | 98 => ⟨S_, .i32⟩
  | 99 => ⟨S64x1, .i32⟩
  | 100 => ⟨S64x1, .i32⟩
  | 101 => ⟨S_, .i32⟩
  | 102 => ⟨S64x1, .i32⟩
  | 103 => ⟨S64x1, .i32⟩
  | 104 => ⟨S64x1, .i32⟩
  | 105 => ⟨S64x1, .i32⟩
  | 106 => ⟨S64x1, .i32⟩
  | 107 => ⟨S64x1, .i32⟩
  | 108 => ⟨S64x1, .i32⟩
  | 109 => ⟨S64x1, .i32⟩
  | 110 => ⟨S_, .i32⟩
  | 111 => ⟨S64x1, .i32⟩
  | 112 => ⟨S64x1, .i32⟩
  | 113 => ⟨S64x1, .i32⟩
  | 114 => ⟨S_, .i32⟩
  | 115 => ⟨S64x1, .i32⟩
  | 116 => ⟨S64x1, .i32⟩
  | 117 => ⟨S_, .i32⟩
  | 118 => ⟨S64x1, .i32⟩
  | 119 => ⟨S64x1, .i32⟩
  | 120 => ⟨S64x1, .i32⟩
  | 121 => ⟨S64x1, .i32⟩
  | 122 => ⟨S64x1, .i32⟩
  | 123 => ⟨S_, .i32⟩
  | 124 => ⟨S64x1, .i32⟩
  | 125 => ⟨S64x1, .i32⟩
  | 126 => ⟨S_, .i32⟩
  | 127 => ⟨S64x1, .i32⟩
  | _ => ⟨S64x100000, .f32⟩

abbrev hbmTy0_2 (i : Nat) : BufTy := match i % 128 with
  | 0 => ⟨S64x1, .i32⟩
  | 1 => ⟨S64x1, .i32⟩
  | 2 => ⟨S64x1, .i32⟩
  | 3 => ⟨S64x1, .i32⟩
  | 4 => ⟨S_, .i32⟩
  | 5 => ⟨S64x1, .i32⟩
  | 6 => ⟨S64x1, .i32⟩
  | 7 => ⟨S_, .i32⟩
  | 8 => ⟨S64x1, .i32⟩
  | 9 => ⟨S64x1, .i32⟩
  | 10 => ⟨S64x1, .i32⟩
  | 11 => ⟨S64x1, .i32⟩
  | 12 => ⟨S64x1, .i32⟩
  | 13 => ⟨S_, .i32⟩
  | 14 => ⟨S64x1, .i32⟩
  | 15 => ⟨S64x1, .i32⟩
  | 16 => ⟨S_, .i32⟩
  | 17 => ⟨S64x1, .i32⟩
  | 18 => ⟨S64x1, .i32⟩
  | 19 => ⟨S64x1, .i32⟩
  | 20 => ⟨S64x1, .i32⟩
  | 21 => ⟨S64x1, .i32⟩
  | 22 => ⟨S64x1, .i32⟩
  | 23 => ⟨S64x1, .i32⟩
  | 24 => ⟨S64x1, .i32⟩
  | 25 => ⟨S_, .i32⟩
  | 26 => ⟨S64x1, .i32⟩
  | 27 => ⟨S64x1, .i32⟩
  | 28 => ⟨S64x1, .i32⟩
  | 29 => ⟨S_, .i32⟩
  | 30 => ⟨S64x1, .i32⟩
  | 31 => ⟨S64x1, .i32⟩
  | 32 => ⟨S_, .i32⟩
  | 33 => ⟨S64x1, .i32⟩
  | 34 => ⟨S64x1, .i32⟩
  | 35 => ⟨S64x1, .i32⟩
  | 36 => ⟨S64x1, .i32⟩
  | 37 => ⟨S64x1, .i32⟩
  | 38 => ⟨S_, .i32⟩
  | 39 => ⟨S64x1, .i32⟩
  | 40 => ⟨S64x1, .i32⟩
  | 41 => ⟨S_, .i32⟩
  | 42 => ⟨S64x1, .i32⟩
  | 43 => ⟨S64x1, .i32⟩
  | 44 => ⟨S64x1, .i32⟩
  | 45 => ⟨S64x1, .i32⟩
  | 46 => ⟨S64x1, .i32⟩
  | 47 => ⟨S_, .i32⟩
  | 48 => ⟨S64x1, .i32⟩
  | 49 => ⟨S64x1, .i32⟩
  | 50 => ⟨S_, .i32⟩
  | 51 => ⟨S64x1, .i32⟩
  | 52 => ⟨S64x1, .i32⟩
  | 53 => ⟨S64x1, .i32⟩
  | 54 => ⟨S64x1, .i32⟩
  | 55 => ⟨S64x1, .i32⟩
  | 56 => ⟨S_, .i32⟩
  | 57 => ⟨S64x1, .i32⟩
  | 58 => ⟨S64x1, .i32⟩
  | 59 => ⟨S_, .i32⟩
  | 60 => ⟨S64x1, .i32⟩
  | 61 => ⟨S64x1, .i32⟩
  | 62 => ⟨S64x1, .i32⟩
  | 63 => ⟨S64x1, .i32⟩
  | 64 => ⟨S64x1, .i32⟩
  | 65 => ⟨S64x1, .i32⟩
  | 66 => ⟨S64x1, .i32⟩
  | 67 => ⟨S64x1, .i32⟩
  | 68 => ⟨S_, .i32⟩
  | 69 => ⟨S64x1, .i32⟩
  | 70 => ⟨S64x1, .i32⟩
  | 71 => ⟨S64x1, .i32⟩
  | 72 => ⟨S_, .i32⟩
  | 73 => ⟨S64x1, .i32⟩
  | 74 => ⟨S64x1, .i32⟩
  | 75 => ⟨S_, .i32⟩
  | 76 => ⟨S64x1, .i32⟩
  | 77 => ⟨S64x1, .i32⟩
  | 78 => ⟨S64x1, .f32⟩
  | 79 => ⟨S_, .f32⟩
  | 80 => ⟨S64x1, .f32⟩
  | 81 => ⟨S64x1, .f32⟩
  | 82 => ⟨S1x1, .f32⟩
  | 83 => ⟨S64x1, .f32⟩
  | 84 => ⟨S64x1, .f32⟩
  | 85 => ⟨S64x1, .f32⟩
  | 86 => ⟨S64x1, .f32⟩
  | 87 => ⟨S64x1, .f32⟩
  | 88 => ⟨S64x1, .f32⟩
  | 89 => ⟨S64x100000, .f32⟩
  | 90 => ⟨S64x100000, .i1⟩
  | 91 => ⟨S64x100000, .i32⟩
  | 92 => ⟨S_, .i32⟩
  | 93 => ⟨S64, .i32⟩
  | 94 => ⟨S64x1, .i32⟩
  | 95 => ⟨S_, .i32⟩
  | 96 => ⟨S_, .i32⟩
  | 97 => ⟨S_, .i32⟩
  | 98 => ⟨S64x1, .i32⟩
  | 99 => ⟨S64x1, .i32⟩
  | 100 => ⟨S_, .i32⟩
  | 101 => ⟨S64x1, .i32⟩
  | 102 => ⟨S64x1, .i32⟩
  | 103 => ⟨S_, .i32⟩
  | 104 => ⟨S64x1, .i32⟩
  | 105 => ⟨S64x1, .i1⟩
  | 106 => ⟨S_, .i32⟩
  | 107 => ⟨S64x1, .i32⟩
  | 108 => ⟨S64x1, .i32⟩
  | 109 => ⟨S64x1, .i32⟩
  | 110 => ⟨S64x1x1, .i32⟩
  | 111 => ⟨S1, .i32⟩
  | 112 => ⟨S_, .i32⟩
  | 113 => ⟨S64x1x1, .i32⟩
  | 114 => ⟨S64x1x1, .i1⟩
  | 115 => ⟨S1x1x1, .i32⟩
  | 116 => ⟨S64x1x1, .i32⟩
  | 117 => ⟨S64x1x1, .i1⟩
  | 118 => ⟨S64x1x1, .i1⟩
  | 119 => ⟨S_, .i1⟩
  | 120 => ⟨S64x1, .i1⟩
  | 121 => ⟨S64x1, .i32⟩
  | 122 => ⟨S_, .i32⟩
  | 123 => ⟨S64x1, .i32⟩
  | 124 => ⟨S64x1, .i32⟩
  | _ => ⟨S64x100000, .f32⟩

abbrev hbmTy (i : Nat) : BufTy := match i / 128 with
  | 0 => hbmTy0_0 i
  | 1 => hbmTy0_1 i
  | 2 => hbmTy0_2 i
  | _ => ⟨S64x100000, .f32⟩

abbrev bufTy : (tb : Table) → Fin (tcTables nBuf tb) → BufTy
  | .hbm, ⟨i, _⟩ => hbmTy i
  | _, _ => ⟨S64x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call1_v0 : Ref sig .tc := ⟨.hbm, 24, rfl⟩
abbrev main_call1_v1_0 : Ref sig .tc := ⟨.hbm, 25, rfl⟩
abbrev main_v15 : Ref sig .tc := ⟨.hbm, 26, rfl⟩
abbrev main_call2_c : Ref sig .tc := ⟨.hbm, 27, rfl⟩
abbrev main_call2_v0 : Ref sig .tc := ⟨.hbm, 28, rfl⟩
abbrev main_call2_v1 : Ref sig .tc := ⟨.hbm, 29, rfl⟩
abbrev main_call2_c_0 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_v5 : Ref sig .tc := ⟨.hbm, 34, rfl⟩
abbrev main_call2_c_1 : Ref sig .tc := ⟨.hbm, 35, rfl⟩
abbrev main_call2_c_2 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_v9 : Ref sig .tc := ⟨.hbm, 40, rfl⟩
abbrev main_call2_v10 : Ref sig .tc := ⟨.hbm, 41, rfl⟩
abbrev main_call2_v11 : Ref sig .tc := ⟨.hbm, 42, rfl⟩
abbrev main_call2_c_3 : Ref sig .tc := ⟨.hbm, 43, rfl⟩
abbrev main_call2_v12 : Ref sig .tc := ⟨.hbm, 44, rfl⟩
abbrev main_call2_v13 : Ref sig .tc := ⟨.hbm, 45, rfl⟩
abbrev main_call2_cst : Ref sig .tc := ⟨.hbm, 46, rfl⟩
abbrev main_call2_v14 : Ref sig .tc := ⟨.hbm, 47, rfl⟩
abbrev main_v16 : Ref sig .tc := ⟨.hbm, 48, rfl⟩
abbrev main_call3_call0_cst : Ref sig .tc := ⟨.hbm, 49, rfl⟩
abbrev main_call3_call0_v0 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_c : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_cst_3 : Ref sig .tc := ⟨.hbm, 59, rfl⟩
abbrev main_call4_v0 : Ref sig .tc := ⟨.hbm, 60, rfl⟩
abbrev main_call4_v1 : Ref sig .tc := ⟨.hbm, 61, rfl⟩
abbrev main_v24 : Ref sig .tc := ⟨.hbm, 62, rfl⟩
abbrev main_cst_4 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_call5_call0_cst : Ref sig .tc := ⟨.hbm, 68, rfl⟩
abbrev main_call5_call0_v0 : Ref sig .tc := ⟨.hbm, 69, rfl⟩
abbrev main_v29 : Ref sig .tc := ⟨.hbm, 70, rfl⟩
abbrev main_c_5 : Ref sig .tc := ⟨.hbm, 71, rfl⟩
abbrev main_c_6 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_c_7 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_cst_8 : Ref sig .tc := ⟨.hbm, 81, rfl⟩
abbrev main_cst_9 : Ref sig .tc := ⟨.hbm, 82, rfl⟩
abbrev main_call6_v0 : Ref sig .tc := ⟨.hbm, 83, rfl⟩
abbrev main_call6_v1 : Ref sig .tc := ⟨.hbm, 84, rfl⟩
abbrev main_call6_v2 : Ref sig .tc := ⟨.hbm, 85, rfl⟩
abbrev main_call6_v3 : Ref sig .tc := ⟨.hbm, 86, rfl⟩
abbrev main_call6_v4 : Ref sig .tc := ⟨.hbm, 87, rfl⟩
abbrev main_call6_v5 : Ref sig .tc := ⟨.hbm, 88, rfl⟩
abbrev main_call6_v6 : Ref sig .tc := ⟨.hbm, 89, rfl⟩
abbrev main_call6_v7 : Ref sig .tc := ⟨.hbm, 90, rfl⟩
abbrev main_call6_v8 : Ref sig .tc := ⟨.hbm, 91, rfl⟩
abbrev main_call6_v9 : Ref sig .tc := ⟨.hbm, 92, rfl⟩
abbrev main_call6_c : Ref sig .tc := ⟨.hbm, 93, rfl⟩
abbrev main_call6_v10 : Ref sig .tc := ⟨.hbm, 94, rfl⟩
abbrev main_call6_v11 : Ref sig .tc := ⟨.hbm, 95, rfl⟩
abbrev main_call6_c_0 : Ref sig .tc := ⟨.hbm, 96, rfl⟩
abbrev main_call6_v12 : Ref sig .tc := ⟨.hbm, 97, rfl⟩
abbrev main_call6_v13 : Ref sig .tc := ⟨.hbm, 98, rfl⟩
abbrev main_call6_v14 : Ref sig .tc := ⟨.hbm, 99, rfl⟩
abbrev main_call6_c_1 : Ref sig .tc := ⟨.hbm, 100, rfl⟩
abbrev main_call6_v15 : Ref sig .tc := ⟨.hbm, 101, rfl⟩
abbrev main_call6_v16 : Ref sig .tc := ⟨.hbm, 102, rfl⟩
abbrev main_call6_v17 : Ref sig .tc := ⟨.hbm, 103, rfl⟩
abbrev main_call6_v18 : Ref sig .tc := ⟨.hbm, 104, rfl⟩
abbrev main_call6_call0_v0 : Ref sig .tc := ⟨.hbm, 105, rfl⟩
abbrev main_call6_call0_c : Ref sig .tc := ⟨.hbm, 106, rfl⟩
abbrev main_call6_call0_v1 : Ref sig .tc := ⟨.hbm, 107, rfl⟩
abbrev main_call6_call0_v2 : Ref sig .tc := ⟨.hbm, 108, rfl⟩
abbrev main_call6_call0_v3 : Ref sig .tc := ⟨.hbm, 109, rfl⟩
abbrev main_call6_call0_v4 : Ref sig .tc := ⟨.hbm, 110, rfl⟩
abbrev main_call6_call0_v5 : Ref sig .tc := ⟨.hbm, 111, rfl⟩
abbrev main_call6_call0_v6 : Ref sig .tc := ⟨.hbm, 112, rfl⟩
abbrev main_call6_call0_c_0 : Ref sig .tc := ⟨.hbm, 113, rfl⟩
abbrev main_call6_call0_v7 : Ref sig .tc := ⟨.hbm, 114, rfl⟩
abbrev main_call6_call0_v8 : Ref sig .tc := ⟨.hbm, 115, rfl⟩
abbrev main_call6_call0_c_1 : Ref sig .tc := ⟨.hbm, 116, rfl⟩
abbrev main_call6_call0_v9 : Ref sig .tc := ⟨.hbm, 117, rfl⟩
abbrev main_call6_call0_v10 : Ref sig .tc := ⟨.hbm, 118, rfl⟩
abbrev main_call6_call0_v11 : Ref sig .tc := ⟨.hbm, 119, rfl⟩
abbrev main_call6_call0_v12 : Ref sig .tc := ⟨.hbm, 120, rfl⟩
abbrev main_call6_call0_v13 : Ref sig .tc := ⟨.hbm, 121, rfl⟩
abbrev main_call6_call0_c_2 : Ref sig .tc := ⟨.hbm, 122, rfl⟩
abbrev main_call6_call0_v14 : Ref sig .tc := ⟨.hbm, 123, rfl⟩
abbrev main_call6_call0_v15 : Ref sig .tc := ⟨.hbm, 124, rfl⟩
abbrev main_call6_call0_c_3 : Ref sig .tc := ⟨.hbm, 125, rfl⟩
abbrev main_call6_call0_v16 : Ref sig .tc := ⟨.hbm, 126, rfl⟩
abbrev main_call6_call0_v17 : Ref sig .tc := ⟨.hbm, 127, rfl⟩
abbrev main_call6_call0_v18 : Ref sig .tc := ⟨.hbm, 128, rfl⟩
abbrev main_call6_call0_v19 : Ref sig .tc := ⟨.hbm, 129, rfl⟩
abbrev main_call6_call0_v20 : Ref sig .tc := ⟨.hbm, 130, rfl⟩
abbrev main_call6_call0_c_4 : Ref sig .tc := ⟨.hbm, 131, rfl⟩
abbrev main_call6_call0_v21 : Ref sig .tc := ⟨.hbm, 132, rfl⟩
abbrev main_call6_call0_v22 : Ref sig .tc := ⟨.hbm, 133, rfl⟩
abbrev main_call6_call0_c_5 : Ref sig .tc := ⟨.hbm, 134, rfl⟩
abbrev main_call6_call0_v23 : Ref sig .tc := ⟨.hbm, 135, rfl⟩
abbrev main_call6_call0_v24 : Ref sig .tc := ⟨.hbm, 136, rfl⟩
abbrev main_call6_call0_v25 : Ref sig .tc := ⟨.hbm, 137, rfl⟩
abbrev main_call6_call0_v26 : Ref sig .tc := ⟨.hbm, 138, rfl⟩
abbrev main_call6_call0_v27 : Ref sig .tc := ⟨.hbm, 139, rfl⟩
abbrev main_call6_call0_c_6 : Ref sig .tc := ⟨.hbm, 140, rfl⟩
abbrev main_call6_call0_v28 : Ref sig .tc := ⟨.hbm, 141, rfl⟩
abbrev main_call6_call0_v29 : Ref sig .tc := ⟨.hbm, 142, rfl⟩
abbrev main_call6_call0_c_7 : Ref sig .tc := ⟨.hbm, 143, rfl⟩
abbrev main_call6_call0_v30 : Ref sig .tc := ⟨.hbm, 144, rfl⟩
abbrev main_call6_call0_v31 : Ref sig .tc := ⟨.hbm, 145, rfl⟩
abbrev main_call6_call0_v32 : Ref sig .tc := ⟨.hbm, 146, rfl⟩
abbrev main_call6_call0_v33 : Ref sig .tc := ⟨.hbm, 147, rfl⟩
abbrev main_call6_call0_v34 : Ref sig .tc := ⟨.hbm, 148, rfl⟩
abbrev main_call6_call0_v35 : Ref sig .tc := ⟨.hbm, 149, rfl⟩
abbrev main_call6_call0_v36 : Ref sig .tc := ⟨.hbm, 150, rfl⟩
abbrev main_call6_call0_v37 : Ref sig .tc := ⟨.hbm, 151, rfl⟩
abbrev main_call6_call0_c_8 : Ref sig .tc := ⟨.hbm, 152, rfl⟩
abbrev main_call6_call0_v38 : Ref sig .tc := ⟨.hbm, 153, rfl⟩
abbrev main_call6_call0_v39 : Ref sig .tc := ⟨.hbm, 154, rfl⟩
abbrev main_call6_call0_v40 : Ref sig .tc := ⟨.hbm, 155, rfl⟩
abbrev main_call6_call0_c_9 : Ref sig .tc := ⟨.hbm, 156, rfl⟩
abbrev main_call6_call0_v41 : Ref sig .tc := ⟨.hbm, 157, rfl⟩
abbrev main_call6_call0_v42 : Ref sig .tc := ⟨.hbm, 158, rfl⟩
abbrev main_call6_call0_c_10 : Ref sig .tc := ⟨.hbm, 159, rfl⟩
abbrev main_call6_call0_v43 : Ref sig .tc := ⟨.hbm, 160, rfl⟩
abbrev main_call6_call0_v44 : Ref sig .tc := ⟨.hbm, 161, rfl⟩
abbrev main_call6_call0_v45 : Ref sig .tc := ⟨.hbm, 162, rfl⟩
abbrev main_call6_call0_v46 : Ref sig .tc := ⟨.hbm, 163, rfl⟩
abbrev main_call6_call0_v47 : Ref sig .tc := ⟨.hbm, 164, rfl⟩
abbrev main_call6_call0_c_11 : Ref sig .tc := ⟨.hbm, 165, rfl⟩
abbrev main_call6_call0_v48 : Ref sig .tc := ⟨.hbm, 166, rfl⟩
abbrev main_call6_call0_v49 : Ref sig .tc := ⟨.hbm, 167, rfl⟩
abbrev main_call6_call0_c_12 : Ref sig .tc := ⟨.hbm, 168, rfl⟩
abbrev main_call6_call0_v50 : Ref sig .tc := ⟨.hbm, 169, rfl⟩
abbrev main_call6_call0_v51 : Ref sig .tc := ⟨.hbm, 170, rfl⟩
abbrev main_call6_call0_v52 : Ref sig .tc := ⟨.hbm, 171, rfl⟩
abbrev main_call6_call0_v53 : Ref sig .tc := ⟨.hbm, 172, rfl⟩
abbrev main_call6_call0_v54 : Ref sig .tc := ⟨.hbm, 173, rfl⟩
abbrev main_call6_call0_c_13 : Ref sig .tc := ⟨.hbm, 174, rfl⟩
abbrev main_call6_call0_v55 : Ref sig .tc := ⟨.hbm, 175, rfl⟩
abbrev main_call6_call0_v56 : Ref sig .tc := ⟨.hbm, 176, rfl⟩
abbrev main_call6_call0_c_14 : Ref sig .tc := ⟨.hbm, 177, rfl⟩
abbrev main_call6_call0_v57 : Ref sig .tc := ⟨.hbm, 178, rfl⟩
abbrev main_call6_call0_v58 : Ref sig .tc := ⟨.hbm, 179, rfl⟩
abbrev main_call6_call0_v59 : Ref sig .tc := ⟨.hbm, 180, rfl⟩
abbrev main_call6_call0_v60 : Ref sig .tc := ⟨.hbm, 181, rfl⟩
abbrev main_call6_call0_v61 : Ref sig .tc := ⟨.hbm, 182, rfl⟩
abbrev main_call6_call0_c_15 : Ref sig .tc := ⟨.hbm, 183, rfl⟩
abbrev main_call6_call0_v62 : Ref sig .tc := ⟨.hbm, 184, rfl⟩
abbrev main_call6_call0_v63 : Ref sig .tc := ⟨.hbm, 185, rfl⟩
abbrev main_call6_call0_c_16 : Ref sig .tc := ⟨.hbm, 186, rfl⟩
abbrev main_call6_call0_v64 : Ref sig .tc := ⟨.hbm, 187, rfl⟩
abbrev main_call6_call0_v65 : Ref sig .tc := ⟨.hbm, 188, rfl⟩
abbrev main_call6_call0_v66 : Ref sig .tc := ⟨.hbm, 189, rfl⟩
abbrev main_call6_call0_v67 : Ref sig .tc := ⟨.hbm, 190, rfl⟩
abbrev main_call6_call0_v68 : Ref sig .tc := ⟨.hbm, 191, rfl⟩
abbrev main_call6_call0_v69 : Ref sig .tc := ⟨.hbm, 192, rfl⟩
abbrev main_call6_call0_v70 : Ref sig .tc := ⟨.hbm, 193, rfl⟩
abbrev main_call6_call0_v71 : Ref sig .tc := ⟨.hbm, 194, rfl⟩
abbrev main_call6_call0_c_17 : Ref sig .tc := ⟨.hbm, 195, rfl⟩
abbrev main_call6_call0_v72 : Ref sig .tc := ⟨.hbm, 196, rfl⟩
abbrev main_call6_call0_v73 : Ref sig .tc := ⟨.hbm, 197, rfl⟩
abbrev main_call6_call0_v74 : Ref sig .tc := ⟨.hbm, 198, rfl⟩
abbrev main_call6_call0_c_18 : Ref sig .tc := ⟨.hbm, 199, rfl⟩
abbrev main_call6_call0_v75 : Ref sig .tc := ⟨.hbm, 200, rfl⟩
abbrev main_call6_call0_v76 : Ref sig .tc := ⟨.hbm, 201, rfl⟩
abbrev main_call6_call0_c_19 : Ref sig .tc := ⟨.hbm, 202, rfl⟩
abbrev main_call6_call0_v77 : Ref sig .tc := ⟨.hbm, 203, rfl⟩
abbrev main_call6_call0_v78 : Ref sig .tc := ⟨.hbm, 204, rfl⟩
abbrev main_call6_call0_v79 : Ref sig .tc := ⟨.hbm, 205, rfl⟩
abbrev main_call6_call0_v80 : Ref sig .tc := ⟨.hbm, 206, rfl⟩
abbrev main_call6_call0_v81 : Ref sig .tc := ⟨.hbm, 207, rfl⟩
abbrev main_call6_call0_c_20 : Ref sig .tc := ⟨.hbm, 208, rfl⟩
abbrev main_call6_call0_v82 : Ref sig .tc := ⟨.hbm, 209, rfl⟩
abbrev main_call6_call0_v83 : Ref sig .tc := ⟨.hbm, 210, rfl⟩
abbrev main_call6_call0_c_21 : Ref sig .tc := ⟨.hbm, 211, rfl⟩
abbrev main_call6_call0_v84 : Ref sig .tc := ⟨.hbm, 212, rfl⟩
abbrev main_call6_call0_v85 : Ref sig .tc := ⟨.hbm, 213, rfl⟩
abbrev main_call6_call0_v86 : Ref sig .tc := ⟨.hbm, 214, rfl⟩
abbrev main_call6_call0_v87 : Ref sig .tc := ⟨.hbm, 215, rfl⟩
abbrev main_call6_call0_v88 : Ref sig .tc := ⟨.hbm, 216, rfl⟩
abbrev main_call6_call0_c_22 : Ref sig .tc := ⟨.hbm, 217, rfl⟩
abbrev main_call6_call0_v89 : Ref sig .tc := ⟨.hbm, 218, rfl⟩
abbrev main_call6_call0_v90 : Ref sig .tc := ⟨.hbm, 219, rfl⟩
abbrev main_call6_call0_c_23 : Ref sig .tc := ⟨.hbm, 220, rfl⟩
abbrev main_call6_call0_v91 : Ref sig .tc := ⟨.hbm, 221, rfl⟩
abbrev main_call6_call0_v92 : Ref sig .tc := ⟨.hbm, 222, rfl⟩
abbrev main_call6_call0_v93 : Ref sig .tc := ⟨.hbm, 223, rfl⟩
abbrev main_call6_call0_v94 : Ref sig .tc := ⟨.hbm, 224, rfl⟩
abbrev main_call6_call0_v95 : Ref sig .tc := ⟨.hbm, 225, rfl⟩
abbrev main_call6_call0_c_24 : Ref sig .tc := ⟨.hbm, 226, rfl⟩
abbrev main_call6_call0_v96 : Ref sig .tc := ⟨.hbm, 227, rfl⟩
abbrev main_call6_call0_v97 : Ref sig .tc := ⟨.hbm, 228, rfl⟩
abbrev main_call6_call0_c_25 : Ref sig .tc := ⟨.hbm, 229, rfl⟩
abbrev main_call6_call0_v98 : Ref sig .tc := ⟨.hbm, 230, rfl⟩
abbrev main_call6_call0_v99 : Ref sig .tc := ⟨.hbm, 231, rfl⟩
abbrev main_call6_call0_v100 : Ref sig .tc := ⟨.hbm, 232, rfl⟩
abbrev main_call6_call0_v101 : Ref sig .tc := ⟨.hbm, 233, rfl⟩
abbrev main_call6_call0_v102 : Ref sig .tc := ⟨.hbm, 234, rfl⟩
abbrev main_call6_call0_v103 : Ref sig .tc := ⟨.hbm, 235, rfl⟩
abbrev main_call6_call0_v104 : Ref sig .tc := ⟨.hbm, 236, rfl⟩
abbrev main_call6_call0_v105 : Ref sig .tc := ⟨.hbm, 237, rfl⟩
abbrev main_call6_call0_c_26 : Ref sig .tc := ⟨.hbm, 238, rfl⟩
abbrev main_call6_call0_v106 : Ref sig .tc := ⟨.hbm, 239, rfl⟩
abbrev main_call6_call0_v107 : Ref sig .tc := ⟨.hbm, 240, rfl⟩
abbrev main_call6_call0_v108 : Ref sig .tc := ⟨.hbm, 241, rfl⟩
abbrev main_call6_call0_c_27 : Ref sig .tc := ⟨.hbm, 242, rfl⟩
abbrev main_call6_call0_v109 : Ref sig .tc := ⟨.hbm, 243, rfl⟩
abbrev main_call6_call0_v110 : Ref sig .tc := ⟨.hbm, 244, rfl⟩
abbrev main_call6_call0_c_28 : Ref sig .tc := ⟨.hbm, 245, rfl⟩
abbrev main_call6_call0_v111 : Ref sig .tc := ⟨.hbm, 246, rfl⟩
abbrev main_call6_call0_v112 : Ref sig .tc := ⟨.hbm, 247, rfl⟩
abbrev main_call6_call0_v113 : Ref sig .tc := ⟨.hbm, 248, rfl⟩
abbrev main_call6_call0_v114 : Ref sig .tc := ⟨.hbm, 249, rfl⟩
abbrev main_call6_call0_v115 : Ref sig .tc := ⟨.hbm, 250, rfl⟩
abbrev main_call6_call0_c_29 : Ref sig .tc := ⟨.hbm, 251, rfl⟩
abbrev main_call6_call0_v116 : Ref sig .tc := ⟨.hbm, 252, rfl⟩
abbrev main_call6_call0_v117 : Ref sig .tc := ⟨.hbm, 253, rfl⟩
abbrev main_call6_call0_c_30 : Ref sig .tc := ⟨.hbm, 254, rfl⟩
abbrev main_call6_call0_v118 : Ref sig .tc := ⟨.hbm, 255, rfl⟩
abbrev main_call6_call0_v119 : Ref sig .tc := ⟨.hbm, 256, rfl⟩
abbrev main_call6_call0_v120 : Ref sig .tc := ⟨.hbm, 257, rfl⟩
abbrev main_call6_call0_v121 : Ref sig .tc := ⟨.hbm, 258, rfl⟩
abbrev main_call6_call0_v122 : Ref sig .tc := ⟨.hbm, 259, rfl⟩
abbrev main_call6_call0_c_31 : Ref sig .tc := ⟨.hbm, 260, rfl⟩
abbrev main_call6_call0_v123 : Ref sig .tc := ⟨.hbm, 261, rfl⟩
abbrev main_call6_call0_v124 : Ref sig .tc := ⟨.hbm, 262, rfl⟩
abbrev main_call6_call0_c_32 : Ref sig .tc := ⟨.hbm, 263, rfl⟩
abbrev main_call6_call0_v125 : Ref sig .tc := ⟨.hbm, 264, rfl⟩
abbrev main_call6_call0_v126 : Ref sig .tc := ⟨.hbm, 265, rfl⟩
abbrev main_call6_call0_v127 : Ref sig .tc := ⟨.hbm, 266, rfl⟩
abbrev main_call6_call0_v128 : Ref sig .tc := ⟨.hbm, 267, rfl⟩
abbrev main_call6_call0_v129 : Ref sig .tc := ⟨.hbm, 268, rfl⟩
abbrev main_call6_call0_c_33 : Ref sig .tc := ⟨.hbm, 269, rfl⟩
abbrev main_call6_call0_v130 : Ref sig .tc := ⟨.hbm, 270, rfl⟩
abbrev main_call6_call0_v131 : Ref sig .tc := ⟨.hbm, 271, rfl⟩
abbrev main_call6_call0_c_34 : Ref sig .tc := ⟨.hbm, 272, rfl⟩
abbrev main_call6_call0_v132 : Ref sig .tc := ⟨.hbm, 273, rfl⟩
abbrev main_call6_call0_v133 : Ref sig .tc := ⟨.hbm, 274, rfl⟩
abbrev main_call6_call0_v134 : Ref sig .tc := ⟨.hbm, 275, rfl⟩
abbrev main_call6_call0_v135 : Ref sig .tc := ⟨.hbm, 276, rfl⟩
abbrev main_call6_call0_v136 : Ref sig .tc := ⟨.hbm, 277, rfl⟩
abbrev main_call6_call0_v137 : Ref sig .tc := ⟨.hbm, 278, rfl⟩
abbrev main_call6_call0_v138 : Ref sig .tc := ⟨.hbm, 279, rfl⟩
abbrev main_call6_call0_v139 : Ref sig .tc := ⟨.hbm, 280, rfl⟩
abbrev main_call6_call0_c_35 : Ref sig .tc := ⟨.hbm, 281, rfl⟩
abbrev main_call6_call0_v140 : Ref sig .tc := ⟨.hbm, 282, rfl⟩
abbrev main_call6_call0_v141 : Ref sig .tc := ⟨.hbm, 283, rfl⟩
abbrev main_call6_call0_v142 : Ref sig .tc := ⟨.hbm, 284, rfl⟩
abbrev main_call6_call0_c_36 : Ref sig .tc := ⟨.hbm, 285, rfl⟩
abbrev main_call6_call0_v143 : Ref sig .tc := ⟨.hbm, 286, rfl⟩
abbrev main_call6_call0_v144 : Ref sig .tc := ⟨.hbm, 287, rfl⟩
abbrev main_call6_call0_c_37 : Ref sig .tc := ⟨.hbm, 288, rfl⟩
abbrev main_call6_call0_v145 : Ref sig .tc := ⟨.hbm, 289, rfl⟩
abbrev main_call6_call0_v146 : Ref sig .tc := ⟨.hbm, 290, rfl⟩
abbrev main_call6_call0_v147 : Ref sig .tc := ⟨.hbm, 291, rfl⟩
abbrev main_call6_call0_v148 : Ref sig .tc := ⟨.hbm, 292, rfl⟩
abbrev main_call6_call0_v149 : Ref sig .tc := ⟨.hbm, 293, rfl⟩
abbrev main_call6_call0_c_38 : Ref sig .tc := ⟨.hbm, 294, rfl⟩
abbrev main_call6_call0_v150 : Ref sig .tc := ⟨.hbm, 295, rfl⟩
abbrev main_call6_call0_v151 : Ref sig .tc := ⟨.hbm, 296, rfl⟩
abbrev main_call6_call0_c_39 : Ref sig .tc := ⟨.hbm, 297, rfl⟩
abbrev main_call6_call0_v152 : Ref sig .tc := ⟨.hbm, 298, rfl⟩
abbrev main_call6_call0_v153 : Ref sig .tc := ⟨.hbm, 299, rfl⟩
abbrev main_call6_call0_v154 : Ref sig .tc := ⟨.hbm, 300, rfl⟩
abbrev main_call6_call0_v155 : Ref sig .tc := ⟨.hbm, 301, rfl⟩
abbrev main_call6_call0_v156 : Ref sig .tc := ⟨.hbm, 302, rfl⟩
abbrev main_call6_call0_c_40 : Ref sig .tc := ⟨.hbm, 303, rfl⟩
abbrev main_call6_call0_v157 : Ref sig .tc := ⟨.hbm, 304, rfl⟩
abbrev main_call6_call0_v158 : Ref sig .tc := ⟨.hbm, 305, rfl⟩
abbrev main_call6_call0_c_41 : Ref sig .tc := ⟨.hbm, 306, rfl⟩
abbrev main_call6_call0_v159 : Ref sig .tc := ⟨.hbm, 307, rfl⟩
abbrev main_call6_call0_v160 : Ref sig .tc := ⟨.hbm, 308, rfl⟩
abbrev main_call6_call0_v161 : Ref sig .tc := ⟨.hbm, 309, rfl⟩
abbrev main_call6_call0_v162 : Ref sig .tc := ⟨.hbm, 310, rfl⟩
abbrev main_call6_call0_v163 : Ref sig .tc := ⟨.hbm, 311, rfl⟩
abbrev main_call6_call0_c_42 : Ref sig .tc := ⟨.hbm, 312, rfl⟩
abbrev main_call6_call0_v164 : Ref sig .tc := ⟨.hbm, 313, rfl⟩
abbrev main_call6_call0_v165 : Ref sig .tc := ⟨.hbm, 314, rfl⟩
abbrev main_call6_call0_c_43 : Ref sig .tc := ⟨.hbm, 315, rfl⟩
abbrev main_call6_call0_v166 : Ref sig .tc := ⟨.hbm, 316, rfl⟩
abbrev main_call6_call0_v167 : Ref sig .tc := ⟨.hbm, 317, rfl⟩
abbrev main_call6_call0_v168 : Ref sig .tc := ⟨.hbm, 318, rfl⟩
abbrev main_call6_call0_v169 : Ref sig .tc := ⟨.hbm, 319, rfl⟩
abbrev main_call6_call0_v170 : Ref sig .tc := ⟨.hbm, 320, rfl⟩
abbrev main_call6_v19_0 : Ref sig .tc := ⟨.hbm, 321, rfl⟩
abbrev main_call6_call0_v172 : Ref sig .tc := ⟨.hbm, 322, rfl⟩
abbrev main_call6_call0_v173 : Ref sig .tc := ⟨.hbm, 323, rfl⟩
abbrev main_call6_call0_c_44 : Ref sig .tc := ⟨.hbm, 324, rfl⟩
abbrev main_call6_call0_v174 : Ref sig .tc := ⟨.hbm, 325, rfl⟩
abbrev main_call6_v19_1 : Ref sig .tc := ⟨.hbm, 326, rfl⟩
abbrev main_call6_v20 : Ref sig .tc := ⟨.hbm, 327, rfl⟩
abbrev main_call6_c_2 : Ref sig .tc := ⟨.hbm, 328, rfl⟩
abbrev main_call6_v21 : Ref sig .tc := ⟨.hbm, 329, rfl⟩
abbrev main_call6_v22 : Ref sig .tc := ⟨.hbm, 330, rfl⟩
abbrev main_call6_c_3 : Ref sig .tc := ⟨.hbm, 331, rfl⟩
abbrev main_call6_v23 : Ref sig .tc := ⟨.hbm, 332, rfl⟩
abbrev main_call6_v24 : Ref sig .tc := ⟨.hbm, 333, rfl⟩
abbrev main_call6_v25 : Ref sig .tc := ⟨.hbm, 334, rfl⟩
abbrev main_call6_cst : Ref sig .tc := ⟨.hbm, 335, rfl⟩
abbrev main_call6_v26 : Ref sig .tc := ⟨.hbm, 336, rfl⟩
abbrev main_call6_v27 : Ref sig .tc := ⟨.hbm, 337, rfl⟩
abbrev main_call6_v28 : Ref sig .tc := ⟨.hbm, 338, rfl⟩
abbrev main_call6_v29 : Ref sig .tc := ⟨.hbm, 339, rfl⟩
abbrev main_call6_v30 : Ref sig .tc := ⟨.hbm, 340, rfl⟩
abbrev main_call6_v31 : Ref sig .tc := ⟨.hbm, 341, rfl⟩
abbrev main_call6_v32 : Ref sig .tc := ⟨.hbm, 342, rfl⟩
abbrev main_call6_v33 : Ref sig .tc := ⟨.hbm, 343, rfl⟩
abbrev main_v37 : Ref sig .tc := ⟨.hbm, 344, rfl⟩
abbrev main_v38 : Ref sig .tc := ⟨.hbm, 345, rfl⟩
abbrev main_v39 : Ref sig .tc := ⟨.hbm, 346, rfl⟩
abbrev main_v40 : Ref sig .tc := ⟨.hbm, 347, rfl⟩
abbrev main_c_10 : Ref sig .tc := ⟨.hbm, 348, rfl⟩
abbrev main_v41 : Ref sig .tc := ⟨.hbm, 349, rfl⟩
abbrev main_v42 : Ref sig .tc := ⟨.hbm, 350, rfl⟩
abbrev main_c_11 : Ref sig .tc := ⟨.hbm, 351, rfl⟩
abbrev main_c_12 : Ref sig .tc := ⟨.hbm, 352, rfl⟩
abbrev main_call7_v0 : Ref sig .tc := ⟨.hbm, 353, rfl⟩
abbrev main_call7_v1 : Ref sig .tc := ⟨.hbm, 354, rfl⟩
abbrev main_call7_v2 : Ref sig .tc := ⟨.hbm, 355, rfl⟩
abbrev main_call7_v3 : Ref sig .tc := ⟨.hbm, 356, rfl⟩
abbrev main_call7_v4 : Ref sig .tc := ⟨.hbm, 357, rfl⟩
abbrev main_v43 : Ref sig .tc := ⟨.hbm, 358, rfl⟩
abbrev main_call8_c : Ref sig .tc := ⟨.hbm, 359, rfl⟩
abbrev main_call8_v0 : Ref sig .tc := ⟨.hbm, 360, rfl⟩
abbrev main_call8_v1 : Ref sig .tc := ⟨.hbm, 361, rfl⟩
abbrev main_call8_c_0 : Ref sig .tc := ⟨.hbm, 362, rfl⟩
abbrev main_call8_v2 : Ref sig .tc := ⟨.hbm, 363, rfl⟩
abbrev main_call8_v3 : Ref sig .tc := ⟨.hbm, 364, rfl⟩
abbrev main_call8_v4 : Ref sig .tc := ⟨.hbm, 365, rfl⟩
abbrev main_call8_v5 : Ref sig .tc := ⟨.hbm, 366, rfl⟩
abbrev main_call8_c_1 : Ref sig .tc := ⟨.hbm, 367, rfl⟩
abbrev main_call8_c_2 : Ref sig .tc := ⟨.hbm, 368, rfl⟩
abbrev main_call8_v6 : Ref sig .tc := ⟨.hbm, 369, rfl⟩
abbrev main_call8_v7 : Ref sig .tc := ⟨.hbm, 370, rfl⟩
abbrev main_call8_v8 : Ref sig .tc := ⟨.hbm, 371, rfl⟩
abbrev main_call8_v9 : Ref sig .tc := ⟨.hbm, 372, rfl⟩
abbrev main_call8_v10 : Ref sig .tc := ⟨.hbm, 373, rfl⟩
abbrev main_call8_v11 : Ref sig .tc := ⟨.hbm, 374, rfl⟩
abbrev main_call8_c_3 : Ref sig .tc := ⟨.hbm, 375, rfl⟩
abbrev main_call8_v12 : Ref sig .tc := ⟨.hbm, 376, rfl⟩
abbrev main_call8_v13 : Ref sig .tc := ⟨.hbm, 377, rfl⟩
abbrev main_call8_c_4 : Ref sig .tc := ⟨.hbm, 378, rfl⟩
abbrev main_call8_v14 : Ref sig .tc := ⟨.hbm, 379, rfl⟩
abbrev main_v44 : Ref sig .tc := ⟨.hbm, 380, rfl⟩

abbrev nD : Nat := 1
abbrev τ : Topo := Topo.v7x

variable {F : FTy → Type} [FloatOps F]
-- ==== Proof.Model.lean ====
module

public import proofs.«01_k».proof.Proof.Gen.KernelIdeal.Frame
public import proofs.«01_k».proof.Proof.Gen.KernelIdeal.Skeleton

@[expose] public section

set_option maxRecDepth 65536

/-!
The kernel's body as one pure function of its four input blocks, and the printed body rewritten as
a short program of loads and stores around it.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.Sem

variable {F : FTy → Type} [FloatOps F]

/-- The sum of each row of a block, in sixteen slices added as a tree. -/
def rsum (x : FVec F S8x100096 .f32) : FVec F S8x1 .f32 :=
  let a0 : FVec F S8x1 .f32 := shapeCast S8x1 (multiReduction .add [1] S8 (extractStridedSlice S8x6272 ![0, 0] x slices_S8x100096_o0_0_S8x6272) 0x00000000#32 reduces_S8x6272_S8 (.inl rfl) rfl) shapeCasts_S8_S8x1
  let a1 : FVec F S8x1 .f32 := shapeCast S8x1 (multiReduction .add [1] S8 (extractStridedSlice S8x6272 ![0, 6272] x slices_S8x100096_o0_6272_S8x6272) 0x00000000#32 reduces_S8x6272_S8 (.inl rfl) rfl) shapeCasts_S8_S8x1
  let a2 : FVec F S8x1 .f32 := shapeCast S8x1 (multiReduction .add [1] S8 (extractStridedSlice S8x6272 ![0, 12544] x slices_S8x100096_o0_12544_S8x6272) 0x00000000#32 reduces_S8x6272_S8 (.inl rfl) rfl) shapeCasts_S8_S8x1
  let a3 : FVec F S8x1 .f32 := shapeCast S8x1 (multiReduction .add [1] S8 (extractStridedSlice S8x6272 ![0, 18816] x slices_S8x100096_o0_18816_S8x6272) 0x00000000#32 reduces_S8x6272_S8 (.inl rfl) rfl) shapeCasts_S8_S8x1
  let a4 : FVec F S8x1 .f32 := shapeCast S8x1 (multiReduction .add [1] S8 (extractStridedSlice S8x6272 ![0, 25088] x slices_S8x100096_o0_25088_S8x6272) 0x00000000#32 reduces_S8x6272_S8 (.inl rfl) rfl) shapeCasts_S8_S8x1
  let a5 : FVec F S8x1 .f32 := shapeCast S8x1 (multiReduction .add [1] S8 (extractStridedSlice S8x6272 ![0, 31360] x slices_S8x100096_o0_31360_S8x6272) 0x00000000#32 reduces_S8x6272_S8 (.inl rfl) rfl) shapeCasts_S8_S8x1
  let a6 : FVec F S8x1 .f32 := shapeCast S8x1 (multiReduction .add [1] S8 (extractStridedSlice S8x6272 ![0, 37632] x slices_S8x100096_o0_37632_S8x6272) 0x00000000#32 reduces_S8x6272_S8 (.inl rfl) rfl) shapeCasts_S8_S8x1
  let a7 : FVec F S8x1 .f32 := shapeCast S8x1 (multiReduction .add [1] S8 (extractStridedSlice S8x6272 ![0, 43904] x slices_S8x100096_o0_43904_S8x6272) 0x00000000#32 reduces_S8x6272_S8 (.inl rfl) rfl) shapeCasts_S8_S8x1
  let a8 : FVec F S8x1 .f32 := shapeCast S8x1 (multiReduction .add [1] S8 (extractStridedSlice S8x6272 ![0, 50176] x slices_S8x100096_o0_50176_S8x6272) 0x00000000#32 reduces_S8x6272_S8 (.inl rfl) rfl) shapeCasts_S8_S8x1
  let a9 : FVec F S8x1 .f32 := shapeCast S8x1 (multiReduction .add [1] S8 (extractStridedSlice S8x6272 ![0, 56448] x slices_S8x100096_o0_56448_S8x6272) 0x00000000#32 reduces_S8x6272_S8 (.inl rfl) rfl) shapeCasts_S8_S8x1
  let a10 : FVec F S8x1 .f32 := shapeCast S8x1 (multiReduction .add [1] S8 (extractStridedSlice S8x6272 ![0, 62720] x slices_S8x100096_o0_62720_S8x6272) 0x00000000#32 reduces_S8x6272_S8 (.inl rfl) rfl) shapeCasts_S8_S8x1
  let a11 : FVec F S8x1 .f32 := shapeCast S8x1 (multiReduction .add [1] S8 (extractStridedSlice S8x6272 ![0, 68992] x slices_S8x100096_o0_68992_S8x6272) 0x00000000#32 reduces_S8x6272_S8 (.inl rfl) rfl) shapeCasts_S8_S8x1
  let a12 : FVec F S8x1 .f32 := shapeCast S8x1 (multiReduction .add [1] S8 (extractStridedSlice S8x6272 ![0, 75264] x slices_S8x100096_o0_75264_S8x6272) 0x00000000#32 reduces_S8x6272_S8 (.inl rfl) rfl) shapeCasts_S8_S8x1
  let a13 : FVec F S8x1 .f32 := shapeCast S8x1 (multiReduction .add [1] S8 (extractStridedSlice S8x6272 ![0, 81536] x slices_S8x100096_o0_81536_S8x6272) 0x00000000#32 reduces_S8x6272_S8 (.inl rfl) rfl) shapeCasts_S8_S8x1
  let a14 : FVec F S8x1 .f32 := shapeCast S8x1 (multiReduction .add [1] S8 (extractStridedSlice S8x6272 ![0, 87808] x slices_S8x100096_o0_87808_S8x6272) 0x00000000#32 reduces_S8x6272_S8 (.inl rfl) rfl) shapeCasts_S8_S8x1
  let a15 : FVec F S8x1 .f32 := shapeCast S8x1 (multiReduction .add [1] S8 (extractStridedSlice S8x6016 ![0, 94080] x slices_S8x100096_o0_94080_S8x6016) 0x00000000#32 reduces_S8x6016_S8 (.inl rfl) rfl) shapeCasts_S8_S8x1
  addf (addf (addf (addf a0 a1) (addf a2 a3)) (addf (addf a4 a5) (addf a6 a7))) (addf (addf (addf a8 a9) (addf a10 a11)) (addf (addf a12 a13) (addf a14 a15)))

/-- The maximum of each row of a block, in sixteen slices compared as a tree. -/
def rmax (x : FVec F S8x100096 .f32) : FVec F S8x1 .f32 :=
  let a0 : FVec F S8x1 .f32 := shapeCast S8x1 (multiReduction .maximumf [1] S8 (extractStridedSlice S8x6272 ![0, 0] x slices_S8x100096_o0_0_S8x6272) 0xFF800000#32 reduces_S8x6272_S8 (.inl rfl) rfl) shapeCasts_S8_S8x1
  let a1 : FVec F S8x1 .f32 := shapeCast S8x1 (multiReduction .maximumf [1] S8 (extractStridedSlice S8x6272 ![0, 6272] x slices_S8x100096_o0_6272_S8x6272) 0xFF800000#32 reduces_S8x6272_S8 (.inl rfl) rfl) shapeCasts_S8_S8x1
  let a2 : FVec F S8x1 .f32 := shapeCast S8x1 (multiReduction .maximumf [1] S8 (extractStridedSlice S8x6272 ![0, 12544] x slices_S8x100096_o0_12544_S8x6272) 0xFF800000#32 reduces_S8x6272_S8 (.inl rfl) rfl) shapeCasts_S8_S8x1
  let a3 : FVec F S8x1 .f32 := shapeCast S8x1 (multiReduction .maximumf [1] S8 (extractStridedSlice S8x6272 ![0, 18816] x slices_S8x100096_o0_18816_S8x6272) 0xFF800000#32 reduces_S8x6272_S8 (.inl rfl) rfl) shapeCasts_S8_S8x1
  let a4 : FVec F S8x1 .f32 := shapeCast S8x1 (multiReduction .maximumf [1] S8 (extractStridedSlice S8x6272 ![0, 25088] x slices_S8x100096_o0_25088_S8x6272) 0xFF800000#32 reduces_S8x6272_S8 (.inl rfl) rfl) shapeCasts_S8_S8x1
  let a5 : FVec F S8x1 .f32 := shapeCast S8x1 (multiReduction .maximumf [1] S8 (extractStridedSlice S8x6272 ![0, 31360] x slices_S8x100096_o0_31360_S8x6272) 0xFF800000#32 reduces_S8x6272_S8 (.inl rfl) rfl) shapeCasts_S8_S8x1
  let a6 : FVec F S8x1 .f32 := shapeCast S8x1 (multiReduction .maximumf [1] S8 (extractStridedSlice S8x6272 ![0, 37632] x slices_S8x100096_o0_37632_S8x6272) 0xFF800000#32 reduces_S8x6272_S8 (.inl rfl) rfl) shapeCasts_S8_S8x1
  let a7 : FVec F S8x1 .f32 := shapeCast S8x1 (multiReduction .maximumf [1] S8 (extractStridedSlice S8x6272 ![0, 43904] x slices_S8x100096_o0_43904_S8x6272) 0xFF800000#32 reduces_S8x6272_S8 (.inl rfl) rfl) shapeCasts_S8_S8x1
  let a8 : FVec F S8x1 .f32 := shapeCast S8x1 (multiReduction .maximumf [1] S8 (extractStridedSlice S8x6272 ![0, 50176] x slices_S8x100096_o0_50176_S8x6272) 0xFF800000#32 reduces_S8x6272_S8 (.inl rfl) rfl) shapeCasts_S8_S8x1
  let a9 : FVec F S8x1 .f32 := shapeCast S8x1 (multiReduction .maximumf [1] S8 (extractStridedSlice S8x6272 ![0, 56448] x slices_S8x100096_o0_56448_S8x6272) 0xFF800000#32 reduces_S8x6272_S8 (.inl rfl) rfl) shapeCasts_S8_S8x1
  let a10 : FVec F S8x1 .f32 := shapeCast S8x1 (multiReduction .maximumf [1] S8 (extractStridedSlice S8x6272 ![0, 62720] x slices_S8x100096_o0_62720_S8x6272) 0xFF800000#32 reduces_S8x6272_S8 (.inl rfl) rfl) shapeCasts_S8_S8x1
  let a11 : FVec F S8x1 .f32 := shapeCast S8x1 (multiReduction .maximumf [1] S8 (extractStridedSlice S8x6272 ![0, 68992] x slices_S8x100096_o0_68992_S8x6272) 0xFF800000#32 reduces_S8x6272_S8 (.inl rfl) rfl) shapeCasts_S8_S8x1
  let a12 : FVec F S8x1 .f32 := shapeCast S8x1 (multiReduction .maximumf [1] S8 (extractStridedSlice S8x6272 ![0, 75264] x slices_S8x100096_o0_75264_S8x6272) 0xFF800000#32 reduces_S8x6272_S8 (.inl rfl) rfl) shapeCasts_S8_S8x1
  let a13 : FVec F S8x1 .f32 := shapeCast S8x1 (multiReduction .maximumf [1] S8 (extractStridedSlice S8x6272 ![0, 81536] x slices_S8x100096_o0_81536_S8x6272) 0xFF800000#32 reduces_S8x6272_S8 (.inl rfl) rfl) shapeCasts_S8_S8x1
  let a14 : FVec F S8x1 .f32 := shapeCast S8x1 (multiReduction .maximumf [1] S8 (extractStridedSlice S8x6272 ![0, 87808] x slices_S8x100096_o0_87808_S8x6272) 0xFF800000#32 reduces_S8x6272_S8 (.inl rfl) rfl) shapeCasts_S8_S8x1
  let a15 : FVec F S8x1 .f32 := shapeCast S8x1 (multiReduction .maximumf [1] S8 (extractStridedSlice S8x6016 ![0, 94080] x slices_S8x100096_o0_94080_S8x6016) 0xFF800000#32 reduces_S8x6016_S8 (.inl rfl) rfl) shapeCasts_S8_S8x1
  maximumf (maximumf (maximumf (maximumf a0 a1) (maximumf a2 a3)) (maximumf (maximumf a4 a5) (maximumf a6 a7))) (maximumf (maximumf (maximumf a8 a9) (maximumf a10 a11)) (maximumf (maximumf a12 a13) (maximumf a14 a15)))

/-- A column laid along its row. -/
def spread (v : FVec F S8x1 .f32) : FVec F S8x100096 .f32 := broadcastTo S8x100096 v broadcasts_S8x1_S8x100096

/-- The column of one word. -/
def kcol (b : BitVec 32) : FVec F S8x1 .f32 := broadcast S8x1 (Scalar.ofBits .f32 b : F .f32)

/-- The first column of a side block. -/
def side (v : Vec F S8x128 .f32) : FVec F S8x1 .f32 :=
  extractStridedSlice S8x1 ![0, 0] (shapeCast S8x128 v shapeCasts_S8x128_S8x128) slices_S8x128_o0_0_S8x1

/-- The logits over the temperature, which the kernel keeps in its scratch. -/
def scaled (x1 : Vec F S8x128 .f32) (x0 : Vec F S8x100096 .f32) : FVec F S8x100096 .f32 :=
  shapeCast S8x100096 (divf (shapeCast S8x100096 x0 shapeCasts_S8x100096_S8x100096)
    (spread (maximumf (side x1) (kcol 0x322BCC77#32)))) shapeCasts_S8x100096_S8x100096

/-- The weights: the exponential of what lies below the row's largest. -/
def weights (s : FVec F S8x100096 .f32) : FVec F S8x100096 .f32 :=
  exp (subf s (spread (rmax s)))

/-- The mass of the weights above a threshold. -/
def massGt (w : FVec F S8x100096 .f32) (v : FVec F S8x1 .f32) : FVec F S8x1 .f32 :=
  rsum (mulf w (sitofp .f32 (extui 32 (cmpf .ogt w (spread v)) natLt_1_32)))

/-- The indicator of the weights that tie with a value. -/
def ties (w : FVec F S8x100096 .f32) (v : FVec F S8x1 .f32) : FVec F S8x100096 .f32 :=
  select (cmpf .oeq w (spread v)) (broadcast S8x100096 (Scalar.ofBits .f32 0x3F800000#32 : F .f32))
    (broadcast S8x100096 (Scalar.ofBits .f32 0x00000000#32 : F .f32))

/-- The largest weight at most a threshold. -/
def snap (w : FVec F S8x100096 .f32) (v : FVec F S8x1 .f32) : FVec F S8x1 .f32 :=
  rmax (select (cmpf .ole w (spread v)) w (broadcast S8x100096 (Scalar.ofBits .f32 0x00000000#32 : F .f32)))

/-- The middle of a search interval. -/
def middle (acc : IVec S8x1 32 × IVec S8x1 32) : IVec S8x1 32 :=
  shrui (addi acc.1 acc.2) (broadcast S8x1 1#32)

/-- One halving: keep the lower half where the condition holds. -/
def halve (acc : IVec S8x1 32 × IVec S8x1 32) (c : IVec S8x1 1) : IVec S8x1 32 × IVec S8x1 32 :=
  (select c acc.1 (addi (middle acc) (broadcast S8x1 1#32)), select c (middle acc) acc.2)

/-- A step of the first search: the mass above the middle is at most the target. -/
def stepLe (w : FVec F S8x100096 .f32) (t : FVec F S8x1 .f32) (acc : IVec S8x1 32 × IVec S8x1 32) :
    IVec S8x1 32 × IVec S8x1 32 :=
  halve acc (cmpf .ole (massGt w (bitcastToFloat .f32 (middle acc))) t)

/-- A step of the second search: the mass above the middle is below the target. -/
def stepLt (w : FVec F S8x100096 .f32) (t : FVec F S8x1 .f32) (acc : IVec S8x1 32 × IVec S8x1 32) :
    IVec S8x1 32 × IVec S8x1 32 :=
  halve acc (cmpf .olt (massGt w (bitcastToFloat .f32 (middle acc))) t)

/-- How many of the marked columns lie at or before an index. -/
def countUpTo (e : IVec S8x100096 1) (m : IVec S8x1 32) : FVec F S8x1 .f32 :=
  rsum (select (andi e (cmpi .sle (iota .tc S8x100096 32 [1] iota_S8x100096_d1_w32)
      (broadcastTo S8x100096 m broadcasts_S8x1_S8x100096)))
    (broadcast S8x100096 (Scalar.ofBits .f32 0x3F800000#32 : F .f32))
    (broadcast S8x100096 (Scalar.ofBits .f32 0x00000000#32 : F .f32)))

/-- A step of the index search: enough marked columns lie at or before the middle. -/
def stepIx (e : IVec S8x100096 1) (r : FVec F S8x1 .f32) (acc : IVec S8x1 32 × IVec S8x1 32) :
    IVec S8x1 32 × IVec S8x1 32 :=
  halve acc (cmpf .oge (countUpTo (F := F) e (middle acc)) r)

/-- The three searches, each from its printed interval. -/
def searchLe (w : FVec F S8x100096 .f32) (t : FVec F S8x1 .f32) : IVec S8x1 32 :=
  (Scf.fold (fun (_ : Fin k0_t1_loop.trips) acc => stepLe w t acc)
    (broadcast S8x1 0#32, broadcast S8x1 1069547520#32)).1
def searchLt (w : FVec F S8x100096 .f32) (t : FVec F S8x1 .f32) : IVec S8x1 32 :=
  (Scf.fold (fun (_ : Fin k0_t2_loop.trips) acc => stepLt w t acc)
    (broadcast S8x1 0#32, broadcast S8x1 1069547520#32)).1
def searchIx (e : IVec S8x100096 1) (r : FVec F S8x1 .f32) : IVec S8x1 32 :=
  (Scf.fold (fun (_ : Fin k0_t3_loop.trips) acc => stepIx (F := F) e r acc)
    (broadcast S8x1 0#32, broadcast S8x1 99999#32)).1

/-- The target of the first search. -/
def target1 (x2 : Vec F S8x128 .f32) (w : FVec F S8x100096 .f32) : FVec F S8x1 .f32 :=
  mulf (side x2) (rsum w)

/-- The last kept weight, and the mass above it. -/
def v1 (w : FVec F S8x100096 .f32) (t : FVec F S8x1 .f32) : FVec F S8x1 .f32 :=
  snap w (bitcastToFloat .f32 (searchLe w t))

/-- How many of the last kept weight's ties the target admits, before the count is capped. -/
def rank1 (t v ma ce : FVec F S8x1 .f32) : FVec F S8x1 .f32 :=
  minimumf ce (maximumf (kcol 0x3F800000#32) (addf (floor (divf (subf t ma) (maximumf v (kcol 0x00000001#32)))) (kcol 0x3F800000#32)))
def keptTies (v ce r : FVec F S8x1 .f32) : FVec F S8x1 .f32 :=
  select (cmpf .ogt v (kcol 0x00000000#32)) r ce

/-- The target of the second search. -/
def target2 (x3 : Vec F S8x128 .f32) (v ma r : FVec F S8x1 .f32) : FVec F S8x1 .f32 :=
  mulf (side x3) (addf ma (mulf r v))

def v2 (w : FVec F S8x100096 .f32) (t : FVec F S8x1 .f32) : FVec F S8x1 .f32 :=
  snap w (bitcastToFloat .f32 (searchLt w t))

/-- Which of the drawn weight's ties the draw falls on. -/
def rank2 (t v ma ce : FVec F S8x1 .f32) : FVec F S8x1 .f32 :=
  let q := ceil (divf (subf t ma) (maximumf v (kcol 0x00000001#32)))
  minimumf ce (maximumf (kcol 0x3F800000#32)
    (select (cmpf .olt (addf ma (mulf q v)) t) (addf q (kcol 0x3F800000#32)) q))

/-- The row's answer from its weights. -/
def pick (w : FVec F S8x100096 .f32) (x2 x3 : Vec F S8x128 .f32) : IVec S8x1 32 :=
  let t1 := target1 x2 w
  let a := v1 w t1
  let ma := massGt w a
  let ce := rsum (ties w a)
  let r1 := keptTies a ce (rank1 t1 a ma ce)
  let t2 := target2 x3 a ma r1
  let b := v2 w t2
  let r2 := rank2 t2 b (massGt w b) (rsum (ties w b))
  let c := cmpf .olt b a
  let v := select c a b
  let r := select c r1 (select (cmpf .oeq v a) (minimumf r2 r1) r2)
  shapeCast S8x1 (searchIx (cmpf .oeq w (spread v)) r) shapeCasts_S8x1_S8x1

/-- The block the body stores. -/
def bodyOut (x0 : Vec F S8x100096 .f32) (x1 x2 x3 : Vec F S8x128 .f32) : IVec S8x128 32 :=
  broadcastTo S8x128 (pick (weights (scaled x1 x0)) x2 x3) broadcasts_S8x1_S8x128
-- ==== Proof.Body.lean ====
module

public import proofs.«01_k».proof.Proof.Model
public import proofs.«01_k».proof.Proof.Gen.KernelIdeal.Skeleton

@[expose] public section

set_option maxRecDepth 65536

/-!
The printed body is the short program around its pure function: the searches' loops issue nothing.
-/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.Sem

variable {F : FTy → Type} [FloatOps F]

set_option maxHeartbeats 4000000 in
/-- The part with its search run to the end. -/
def k0_part7_run (i : grid0.Coords) (arg1 : Memref sig .tc .vmem S8x100096 .f32) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S8x100096 .f32) (harg6 : arg6.IsWhole) (v78 : FVec F S8x100096 .f32) (v131 : FVec F S8x1 .f32) (v132 : FVec F S8x1 .f32) (v133 : FVec F S8x1 .f32) (v134 : FVec F S8x1 .f32) (v135 : FVec F S8x1 .f32) (v136 : FVec F S8x1 .f32) :
    Prog (TpuEff nD τ sig (Elt F) Λ₀ .tc) (Σ' (v145 : FVec F S8x1 .f32) (v154 : FVec F S8x100096 .f32) (v157 : FVec F S8x1 .f32) (v160 : FVec F S8x1 .f32) (v163 : FVec F S8x1 .f32) (v166 : FVec F S8x1 .f32) (v169 : FVec F S8x1 .f32) (v172 : FVec F S8x1 .f32) (v175 : FVec F S8x1 .f32) (v178 : FVec F S8x1 .f32), FVec F S8x6272 .f32) := do
  let v142 : Vec F S8x128 .f32 ← Prog.lift (.load arg3 (Rect.unit (s := S8x128) ![0, 0] S8x128.size inb_S8x128_S8x128_0_0).toLoadRect (View.loadsAt_vmem h_S8x128))
  let r : IVec S8x1 32 := searchLe v78 (k0_pay67 v131 v132 v133 v134 v135 v136 v142)
  pure ⟨k0_pay67 v131 v132 v133 v134 v135 v136 v142, k0_pay73 v78 r, k0_pay74 v78 r, k0_pay75 v78 r, k0_pay76 v78 r, k0_pay77 v78 r, k0_pay78 v78 r, k0_pay79 v78 r, k0_pay80 v78 r, k0_pay81 v78 r, k0_pay82 v78 r⟩

set_option maxHeartbeats 4000000 in
theorem k0_part7_eq_run : k0_part7 (F := F) = k0_part7_run (F := F) := by
  rw [k0_part7_eq_skeleton]
  funext i arg1 harg1 arg2 harg2 arg3 harg3 arg4 harg4 arg5 harg5 arg6 harg6 v78 v131 v132 v133 v134 v135 v136
  unfold k0_part7_skel k0_part7_run
  refine congrArg (Prog.bind _) (funext fun v142 => ?_)
  exact Scf.for_pure_bind _ _ _ _ _ _ (fun _ acc => stepLe v78 (k0_pay67 v131 v132 v133 v134 v135 v136 v142) acc)
    (fun _ ⟨_, _⟩ => rfl) _

set_option maxHeartbeats 4000000 in
/-- The part with its search run to the end. -/
def k0_part12_run (i : grid0.Coords) (arg1 : Memref sig .tc .vmem S8x100096 .f32) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S8x100096 .f32) (harg6 : arg6.IsWhole) (v78 : FVec F S8x100096 .f32) (v372 : FVec F S8x1 .f32) :
    Prog (TpuEff nD τ sig (Elt F) Λ₀ .tc) (Σ' (v381 : FVec F S8x100096 .f32) (v384 : FVec F S8x1 .f32) (v387 : FVec F S8x1 .f32) (v390 : FVec F S8x1 .f32) (v393 : FVec F S8x1 .f32) (v396 : FVec F S8x1 .f32) (v399 : FVec F S8x1 .f32) (v402 : FVec F S8x1 .f32) (v405 : FVec F S8x1 .f32) (v408 : FVec F S8x1 .f32) (v411 : FVec F S8x1 .f32) (v414 : FVec F S8x1 .f32), FVec F S8x6272 .f32) := do
  let r : IVec S8x1 32 := searchLt v78 v372
  pure ⟨k0_pay118 v78 r, k0_pay119 v78 r, k0_pay120 v78 r, k0_pay121 v78 r, k0_pay122 v78 r, k0_pay123 v78 r, k0_pay124 v78 r, k0_pay125 v78 r, k0_pay126 v78 r, k0_pay127 v78 r, k0_pay128 v78 r, k0_pay129 v78 r, k0_pay130 v78 r⟩

set_option maxHeartbeats 4000000 in
theorem k0_part12_eq_run : k0_part12 (F := F) = k0_part12_run (F := F) := by
  rw [k0_part12_eq_skeleton]
  funext i arg1 harg1 arg2 harg2 arg3 harg3 arg4 harg4 arg5 harg5 arg6 harg6 v78 v372
  unfold k0_part12_skel k0_part12_run
  exact Scf.for_pure_bind _ _ _ _ _ _ (fun _ acc => stepLt v78 v372 acc) (fun _ ⟨_, _⟩ => rfl) _

set_option maxHeartbeats 4000000 in
/-- The part with its search run to the end. -/
def k0_part16_run (i : grid0.Coords) (arg1 : Memref sig .tc .vmem S8x100096 .f32) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S8x100096 .f32) (harg6 : arg6.IsWhole) (v78 : FVec F S8x100096 .f32) (v217 : FVec F S8x1 .f32) (v366 : FVec F S8x1 .f32) (v372 : FVec F S8x1 .f32) (v444 : FVec F S8x1 .f32) (v512 : FVec F S8x1 .f32) (v517 : FVec F S8x100096 .f32) (v520 : FVec F S8x1 .f32) (v523 : FVec F S8x1 .f32) (v526 : FVec F S8x1 .f32) (v529 : FVec F S8x1 .f32) (v532 : FVec F S8x1 .f32) (v535 : FVec F S8x1 .f32) (v538 : FVec F S8x1 .f32) (v541 : FVec F S8x1 .f32) (v544 : FVec F S8x1 .f32) (v547 : FVec F S8x1 .f32) (v550 : FVec F S8x1 .f32) (v553 : FVec F S8x1 .f32) (v556 : FVec F S8x1 .f32) (v558 : FVec F S8 .f32) :
    Prog (TpuEff nD τ sig (Elt F) Λ₀ .tc) (IVec S8x1 32) := do
  let r : IVec S8x1 32 := searchIx (F := F) (cmpf .oeq v78 (spread (k0_pay158 v217 v444))) (select (k0_pay157 v217 v444) v366 (select (cmpf .oeq (k0_pay158 v217 v444) v217) (minimumf (k0_pay156 v372 v444 v512 v517 v520 v523 v526 v529 v532 v535 v538 v541 v544 v547 v550 v553 v556 v558) v366) (k0_pay156 v372 v444 v512 v517 v520 v523 v526 v529 v532 v535 v538 v541 v544 v547 v550 v553 v556 v558)))
  pure (k0_pay165 r)

set_option maxHeartbeats 4000000 in
theorem k0_part16_eq_run : k0_part16 (F := F) = k0_part16_run (F := F) := by
  rw [k0_part16_eq_skeleton]
  funext i arg1 harg1 arg2 harg2 arg3 harg3 arg4 harg4 arg5 harg5 arg6 harg6 v78 v217 v366 v372 v444 v512 v517 v520 v523 v526 v529 v532 v535 v538 v541 v544 v547 v550 v553 v556 v558
  unfold k0_part16_skel k0_part16_run
  exact Scf.for_pure_bind _ _ _ _ _ _ (fun _ acc => stepIx (F := F) (cmpf .oeq v78 (spread (k0_pay158 v217 v444)))
      (select (k0_pay157 v217 v444) v366 (select (cmpf .oeq (k0_pay158 v217 v444) v217) (minimumf (k0_pay156 v372 v444 v512 v517 v520 v523 v526 v529 v532 v535 v538 v541 v544 v547 v550 v553 v556 v558) v366) (k0_pay156 v372 v444 v512 v517 v520 v523 v526 v529 v532 v535 v538 v541 v544 v547 v550 v553 v556 v558))) acc) (fun _ ⟨_, _⟩ => rfl) _

/-- The body as its loads, its stores and the pure function of what it loads. -/
def bodyRun (i : grid0.Coords) (arg1 : Memref sig .tc .vmem S8x100096 .f32) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S8x100096 .f32) (harg6 : arg6.IsWhole) :
    Prog (TpuEff nD τ sig (Elt F) Λ₀ .tc) PUnit := do
  let v0 : Vec F S8x128 .f32 ← Prog.lift (.load arg2 (Rect.unit (s := S8x128) ![0, 0] S8x128.size inb_S8x128_S8x128_0_0).toLoadRect (View.loadsAt_vmem h_S8x128))
  let v5 : Vec F S8x100096 .f32 ← Prog.lift (.load arg1 (Rect.unit (s := S8x100096) ![0, 0] S8x100096.size inb_S8x100096_S8x100096_0_0).toLoadRect (View.loadsAt_vmem h_S8x100096))
  let v9 : Vec F S8x100096 .f32 ← Prog.lift (.load arg6 (Rect.unit (s := S8x100096) ![0, 0] S8x100096.size inb_S8x100096_S8x100096_0_0).toLoadRect (View.loadsAt_vmem h_S8x100096))
  Prog.lift (.store arg6 (Rect.unit (s := S8x100096) ![0, 0] S8x100096.size inb_S8x100096_S8x100096_0_0) (scaled v0 v5) Finset.univ (View.stores_vmem_bits_univ h_S8x100096 rfl) (.inl rfl))
  let v12 : Vec F S8x100096 .f32 ← Prog.lift (.load arg6 (Rect.unit (s := S8x100096) ![0, 0] S8x100096.size inb_S8x100096_S8x100096_0_0).toLoadRect (View.loadsAt_vmem h_S8x100096))
  let v142 : Vec F S8x128 .f32 ← Prog.lift (.load arg3 (Rect.unit (s := S8x128) ![0, 0] S8x128.size inb_S8x128_S8x128_0_0).toLoadRect (View.loadsAt_vmem h_S8x128))
  let v369 : Vec F S8x128 .f32 ← Prog.lift (.load arg4 (Rect.unit (s := S8x128) ![0, 0] S8x128.size inb_S8x128_S8x128_0_0).toLoadRect (View.loadsAt_vmem h_S8x128))
  let v610 : Vec F S8x128 .i32 ← Prog.lift (.load arg5 (Rect.unit (s := S8x128) ![0, 0] S8x128.size inb_S8x128_S8x128_0_0).toLoadRect (View.loadsAt_vmem h_S8x128))
  Prog.lift (.store arg5 (Rect.unit (s := S8x128) ![0, 0] S8x128.size inb_S8x128_S8x128_0_0) (broadcastTo S8x128 (pick (weights v12) v142 v369) broadcasts_S8x1_S8x128) Finset.univ (View.stores_vmem_bits_univ h_S8x128 rfl) (.inl rfl))
  pure ⟨⟩

set_option maxHeartbeats 8000000 in
theorem body_eq_run : cc0__body (F := F) = bodyRun (F := F) := by
  rw [cc0__body_eq_skeleton]
  funext i arg1 harg1 arg2 harg2 arg3 harg3 arg4 harg4 arg5 harg5 arg6 harg6
  unfold cc0__body_skel bodyRun
  rw [k0_part7_eq_run, k0_part12_eq_run, k0_part16_eq_run]
  rfl

end Cert.KernelIdeal.Hand
-- ==== Proof.KRun.lean ====
module

public import proofs.«01_k».proof.Proof.Gen.KernelIdeal.Frame
public import proofs.«01_k».proof.Proof.Body
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 1000000 in
/-- The body on whole staging buffers: the inputs as they were, the output at the pure function's
    value, the scratch at something. -/
theorem body_run (c : Dev nD) (i : grid0.Coords) (arg1 : Memref sig .tc .vmem S8x100096 .f32) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S8x100096 .f32) (harg6 : arg6.IsWhole)
    (x0 : Vec F S8x100096 .f32) (x1 : Vec F S8x128 .f32) (x2 : Vec F S8x128 .f32) (x3 : Vec F S8x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (bodyOut x0 x1 x2 x3) ∗ (∃ d, owns (c : Thread nD τ) arg6 fullShare d)) -∗ K ⟨⟩))
      ⊢ wp frame (wpE (defs₀ (F := F)) Variants.none c none) E (cc0__body i arg1 harg1 arg2 harg2 arg3 harg3 arg4 harg4 arg5 harg5 arg6 harg6) K := by
  rw [body_eq_run]; unfold bodyRun
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
  obtain rfl := harg1.eq_unread hf0; obtain rfl := harg2.eq_unread hf1
  obtain rfl := harg3.eq_unread hf2; obtain rfl := harg4.eq_unread hf3
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    unfold body_run.sl.v12 body_run.sl.HS0_1
    rw [View.read_writes_full, View.readCov_full, View.readAt_full, View.readAt_full, View.readAt_full, View.readAt_full,
      hf0, hf1, hf2, hf3]
    rfl
  iexists _; iexists _; isplitr
  swap; · iexact HS0
  ipureintro; rfl

end Cert.KernelIdeal.Hand

end
-- ==== Proof.KFrame.lean ====
module

public import proofs.«01_k».proof.Proof.Gen.KernelIdeal.Frame
public import proofs.«01_k».proof.Proof.KRun
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.Rounds
open Idealize.ShloMosaic.Pipeline (Dat Cfg Window BodyObligation cellOf)

variable (m : (ℓ : Loc nD τ sig) → Buf (Elt F) ℓ) (ρ : Dev nD → PrngReg)

/-- The windows' staging buffers at a point, as the pipeline passes them. -/
abbrev stg0 (t : Fin cfg0.N) : Memref sig .tc .vmem S8x100096 .f32 := win0_0.stage (cfg0.slots t 0)
abbrev stg1 (t : Fin cfg0.N) : Memref sig .tc .vmem S8x128 .f32 := win0_1.stage (cfg0.slots t 1)
abbrev stg2 (t : Fin cfg0.N) : Memref sig .tc .vmem S8x128 .f32 := win0_2.stage (cfg0.slots t 2)
abbrev stg3 (t : Fin cfg0.N) : Memref sig .tc .vmem S8x128 .f32 := win0_3.stage (cfg0.slots t 3)
abbrev stg4 (t : Fin cfg0.N) : Memref sig .tc .vmem S8x128 .i32 := win0_4.stage (cfg0.slots t 4)

/-- The kernel's scratch. -/
abbrev scr : Memref sig .tc .vmem S8x100096 .f32 := Memref.whole cc0_scratch0

/-- The run's invariant with the scratch owned at some contents. -/
theorem inv_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-- What the output's staging buffer holds after a point: the pure function of the point's blocks. -/
def outBlk (c : Dev nD) (t : Fin cfg0.N) : Vec F S8x128 .i32 :=
  bodyOut (iblk m c 0 t : Vec F S8x100096 .f32) (iblk m c 1 t : Vec F S8x128 .f32) (iblk m c 2 t : Vec F S8x128 .f32) (iblk m c 3 t : Vec F S8x128 .f32)

/-- The pipeline's proof data: the inputs stay as found, the output is `outBlk`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outBlk m c t)
  Φ _ := Pipeline.ΦA spec0 c
  q _ := fullShare
  owed _ := 0

theorem dats_A (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (outBlk m c t) := by dsimp only [dats]

theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d
theorem before_2 (c : Dev nD) (t : Fin cfg0.N) (d) : (dats m 0 c).before 2 t d = iblk m c 2 t :=
  before0_2_of m (dats m 0 c) (dats_A m c 2) (after_2 m c) t d
theorem before_3 (c : Dev nD) (t : Fin cfg0.N) (d) : (dats m 0 c).before 3 t d = iblk m c 3 t :=
  before0_3_of m (dats m 0 c) (dats_A m c 3) (after_3 m c) t d

/-- What the body is called with at a point, and what it returns. -/
def pointPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d)))
def pointPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t))

/-- The body at any point. -/
theorem sound_point (c : Dev nD) (t : Fin cfg0.N) :
    pointPre m c t ⊢ wp frame (wpE (defs₀ (F := F)) Variants.none c none) Set.univ (bodyAt0 t) (fun _ => pointPost m c t) := by
  unfold pointPre pointPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  rw [show (dats m 0 c).Φ t.castSucc = Pipeline.ΦA spec0 c from rfl, inv_eq]
  unfold outBlk
  iintro ⟨⟨HS0, Hg⟩, Ho, ⟨%d0, H0⟩, ⟨%d1, H1⟩, ⟨%d2, H2⟩, ⟨%d3, H3⟩, ⟨%d4, H4⟩⟩
  iapply (body_run c (grid0.coords t) _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, H4, HS0⟩
  isplitl [HS0 Hg]
  · isplitl [HS0]; · iexact HS0
    iexact Hg
  isplitl [Ho]; · iexact Ho
  isplitl [H0]; · iexact H0
  isplitl [H1]; · iexact H1
  isplitl [H2]; · iexact H2
  isplitl [H3]; · iexact H3
  iexact H4

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound_point m c t) rfl .rfl fun _ => .rfl

set_option backward.isDefEq.respectTransparency.types false in
set_option maxHeartbeats 800000 in
/-- The launch: every execution ends, with the pipeline's arrays at the proof data's and no counter raised. -/
theorem run_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := dats_A m) (hΦ := fun _ _ => rfl)

theorem run_frame : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiescent m ρ)

/-- The frame: the arguments end unchanged and no counter is left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (dats_A m) (run_frame m ρ)) ((θ_run defs _ _).mono (fun _ h => h.2) (run_quiescent m ρ))

end Cert.KernelIdeal.Hand

end
-- ==== Proof.RefOps.lean ====
module

public import proofs.«01_k».proof.Proof.Gen.ReferenceIdeal
public import Idealize.ShloMosaic.Lib.StableHlo.Run

@[expose] public section

set_option maxRecDepth 65536

/-!
The reference program as lists of its host operations, one list for each stretch of its main and
one for each call.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A stretch of main. -/
abbrev ops0 : List (HloOp τ sig (Elt F)) :=
  [ StableHlo.nullary main_cst (constant S_ .f32 0x322BCC77#32) ]

/-- The call of clip. -/
abbrev ops1 : List (HloOp τ sig (Elt F)) :=
  [ StableHlo.TRef.unary (.of main_cst : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S64x1, .f32⟩) (broadcastInDim S64x1 ![] bcast_S_S64x1),
    StableHlo.TRef.binary (.of main_call0_v1 : StableHlo.TRef sig ⟨S64x1, .f32⟩) (.of main_arg1 : StableHlo.TRef sig ⟨S64x1, .f32⟩) (.of main_v0 : StableHlo.TRef sig ⟨S64x1, .f32⟩) maximumf ]

/-- A stretch of main. -/
abbrev ops2 : List (HloOp τ sig (Elt F)) :=
  [ StableHlo.unary main_v0 main_v1 (broadcastInDim S64x100000 ![0, 1] bcast_S64x1_S64x100000_0_1 : (⟨S64x1, .f32⟩ : BufTy).Contents (Elt F) → (⟨S64x100000, .f32⟩ : BufTy).Contents (Elt F)),
    StableHlo.binary main_arg0 main_v1 main_v2 (Host.divf : (⟨S64x100000, .f32⟩ : BufTy).Contents (Elt F) → (⟨S64x100000, .f32⟩ : BufTy).Contents (Elt F) → (⟨S64x100000, .f32⟩ : BufTy).Contents (Elt F)),
    StableHlo.nullary main_cst_0 (constant S_ .f32 0xFF800000#32),
    StableHlo.binary main_v2 main_cst_0 main_v3 ((fun x v => Host.reduce FloatOps.maximumf x v reducesTo_S64x100000_S64_d1 h_S_) : (⟨S64x100000, .f32⟩ : BufTy).Contents (Elt F) → (⟨S_, .f32⟩ : BufTy).Contents (Elt F) → (⟨S64, .f32⟩ : BufTy).Contents (Elt F)),
    StableHlo.nullary main_cst_1 (constant S_ .f32 0xFF800000#32),
    StableHlo.unary main_cst_1 main_v4 (broadcastInDim S64 ![] bcast_S_S64 : (⟨S_, .f32⟩ : BufTy).Contents (Elt F) → (⟨S64, .f32⟩ : BufTy).Contents (Elt F)),
    StableHlo.binary main_v4 main_v3 main_v5 (maximumf : (⟨S64, .f32⟩ : BufTy).Contents (Elt F) → (⟨S64, .f32⟩ : BufTy).Contents (Elt F) → (⟨S64, .f32⟩ : BufTy).Contents (Elt F)),
    StableHlo.unary main_v5 main_v6 (broadcastInDim S64x1 ![0] bcast_S64_S64x1_0 : (⟨S64, .f32⟩ : BufTy).Contents (Elt F) → (⟨S64x1, .f32⟩ : BufTy).Contents (Elt F)),
    StableHlo.unary main_v6 main_v7 (broadcastInDim S64x100000 ![0, 1] bcast_S64x1_S64x100000_0_1 : (⟨S64x1, .f32⟩ : BufTy).Contents (Elt F) → (⟨S64x100000, .f32⟩ : BufTy).Contents (Elt F)),
    StableHlo.binary main_v2 main_v7 main_v8 (subf : (⟨S64x100000, .f32⟩ : BufTy).Contents (Elt F) → (⟨S64x100000, .f32⟩ : BufTy).Contents (Elt F) → (⟨S64x100000, .f32⟩ : BufTy).Contents (Elt F)),
    StableHlo.unary main_v8 main_v9 (Host.exp : (⟨S64x100000, .f32⟩ : BufTy).Contents (Elt F) → (⟨S64x100000, .f32⟩ : BufTy).Contents (Elt F)),
    StableHlo.nullary main_cst_2 (constant S_ .f32 0x00000000#32),
    StableHlo.binary main_v9 main_cst_2 main_v10 ((fun x v => Host.reduceAdd x v reducesTo_S64x100000_S64_d1 h_S_) : (⟨S64x100000, .f32⟩ : BufTy).Contents (Elt F) → (⟨S_, .f32⟩ : BufTy).Contents (Elt F) → (⟨S64, .f32⟩ : BufTy).Contents (Elt F)),
    StableHlo.unary main_v10 main_v11 (broadcastInDim S64x1 ![0] bcast_S64_S64x1_0 : (⟨S64, .f32⟩ : BufTy).Contents (Elt F) → (⟨S64x1, .f32⟩ : BufTy).Contents (Elt F)),
    StableHlo.unary main_v11 main_v12 (broadcastInDim S64x100000 ![0, 1] bcast_S64x1_S64x100000_0_1 : (⟨S64x1, .f32⟩ : BufTy).Contents (Elt F) → (⟨S64x100000, .f32⟩ : BufTy).Contents (Elt F)),
    StableHlo.binary main_v9 main_v12 main_v13 (Host.divf : (⟨S64x100000, .f32⟩ : BufTy).Contents (Elt F) → (⟨S64x100000, .f32⟩ : BufTy).Contents (Elt F) → (⟨S64x100000, .f32⟩ : BufTy).Contents (Elt F)),
    StableHlo.unary main_v13 main_v14 (Host.negf : (⟨S64x100000, .f32⟩ : BufTy).Contents (Elt F) → (⟨S64x100000, .f32⟩ : BufTy).Contents (Elt F)) ]

/-- The call of argsort. -/
abbrev ops3 : List (HloOp τ sig (Elt F)) :=
  [ StableHlo.TRef.nullary (.of main_call1_v0 : StableHlo.TRef sig ⟨S64x100000, .i32⟩) (iotaInDim S64x100000 32 1),
    StableHlo.TRef.binary (.of main_v14 : StableHlo.TRef sig ⟨S64x100000, .f32⟩) (.of main_call1_v0 : StableHlo.TRef sig ⟨S64x100000, .i32⟩) (.of main_call1_v1_0 : StableHlo.TRef sig ⟨S64x100000, .f32⟩) (fun x y => (Host.sort2 S64x100000 1 comparator_f32_i32_d1 x y).1),
    StableHlo.TRef.binary (.of main_v14 : StableHlo.TRef sig ⟨S64x100000, .f32⟩) (.of main_call1_v0 : StableHlo.TRef sig ⟨S64x100000, .i32⟩) (.of main_v15 : StableHlo.TRef sig ⟨S64x100000, .i32⟩) (fun x y => (Host.sort2 S64x100000 1 comparator_f32_i32_d1 x y).2) ]

/-- The call of take_along_axis. -/
abbrev ops4 : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S64x100000, .i32⟩) (broadcastInDim S64x100000 ![] bcast_S_S64x100000),
    StableHlo.TRef.binary (.of main_v15 : StableHlo.TRef sig ⟨S64x100000, .i32⟩) (.of main_call2_v0 : StableHlo.TRef sig ⟨S64x100000, .i32⟩) (.of main_call2_v1 : StableHlo.TRef sig ⟨S64x100000, .i1⟩) (cmpi .slt),
    StableHlo.TRef.nullary (.of main_call2_c_0 : StableHlo.TRef sig ⟨S_, .i32⟩) (constantI S_ 32 100000#32),
    StableHlo.TRef.unary (.of main_call2_c_0 : StableHlo.TRef sig ⟨S_, .i32⟩) (.of main_call2_v2 : StableHlo.TRef sig ⟨S64x100000, .i32⟩) (broadcastInDim S64x100000 ![] bcast_S_S64x100000),
    StableHlo.TRef.binary (.of main_v15 : StableHlo.TRef sig ⟨S64x100000, .i32⟩) (.of main_call2_v2 : StableHlo.TRef sig ⟨S64x100000, .i32⟩) (.of main_call2_v3 : StableHlo.TRef sig ⟨S64x100000, .i32⟩) addi,
    StableHlo.TRef.ternary (.of main_call2_v1 : StableHlo.TRef sig ⟨S64x100000, .i1⟩) (.of main_call2_v3 : StableHlo.TRef sig ⟨S64x100000, .i32⟩) (.of main_v15 : StableHlo.TRef sig ⟨S64x100000, .i32⟩) (.of main_call2_v4 : StableHlo.TRef sig ⟨S64x100000, .i32⟩) select,
    StableHlo.TRef.reshape (.of main_call2_v4 : StableHlo.TRef sig ⟨S64x100000, .i32⟩) (.of main_call2_v5 : StableHlo.TRef sig ⟨S64x100000x1, .i32⟩) (rfl : (.i32 : EltTy) = .i32) shapeCasts_S64x100000_S64x100000x1,
    StableHlo.TRef.nullary (.of main_call2_c_1 : StableHlo.TRef sig ⟨S1, .i32⟩) (constantI S1 32 99999#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S64x100000x1, .i32⟩) (broadcastInDim S64x100000x1 ![] bcast_S_S64x100000x1),
    StableHlo.TRef.binary (.of main_call2_v5 : StableHlo.TRef sig ⟨S64x100000x1, .i32⟩) (.of main_call2_v6 : StableHlo.TRef sig ⟨S64x100000x1, .i32⟩) (.of main_call2_v7 : StableHlo.TRef sig ⟨S64x100000x1, .i1⟩) (cmpi .sge),
    StableHlo.TRef.unary (.of main_call2_c_1 : StableHlo.TRef sig ⟨S1, .i32⟩) (.of main_call2_v8 : StableHlo.TRef sig ⟨S1x1x1, .i32⟩) (broadcastInDim S1x1x1 ![2] bcast_S1_S1x1x1_2),
    StableHlo.TRef.unary (.of main_call2_v8 : StableHlo.TRef sig ⟨S1x1x1, .i32⟩) (.of main_call2_v9 : StableHlo.TRef sig ⟨S64x100000x1, .i32⟩) (broadcastInDim S64x100000x1 ![0, 1, 2] bcast_S1x1x1_S64x100000x1_0_1_2),
    StableHlo.TRef.binary (.of main_call2_v5 : StableHlo.TRef sig ⟨S64x100000x1, .i32⟩) (.of main_call2_v9 : StableHlo.TRef sig ⟨S64x100000x1, .i32⟩) (.of main_call2_v10 : StableHlo.TRef sig ⟨S64x100000x1, .i1⟩) (cmpi .sle),
    StableHlo.TRef.binary (.of main_call2_v7 : StableHlo.TRef sig ⟨S64x100000x1, .i1⟩) (.of main_call2_v10 : StableHlo.TRef sig ⟨S64x100000x1, .i1⟩) (.of main_call2_v11 : StableHlo.TRef sig ⟨S64x100000x1, .i1⟩) andi,
    StableHlo.TRef.nullary (.of main_call2_c_3 : StableHlo.TRef sig ⟨S_, .i1⟩) (constantI S_ 1 1#1),
    StableHlo.TRef.binary (.of main_call2_v11 : StableHlo.TRef sig ⟨S64x100000x1, .i1⟩) (.of main_call2_c_3 : StableHlo.TRef sig ⟨S_, .i1⟩) (.of main_call2_v12 : StableHlo.TRef sig ⟨S64x100000, .i1⟩) (fun x v => Host.reduce IntOp.andi x v reducesTo_S64x100000x1_S64x100000_d2 h_S_),
    StableHlo.TRef.binary (.of main_v13 : StableHlo.TRef sig ⟨S64x100000, .f32⟩) (.of main_call2_v5 : StableHlo.TRef sig ⟨S64x100000x1, .i32⟩) (.of main_call2_v13 : StableHlo.TRef sig ⟨S64x100000, .f32⟩) (fun x i => Host.gather gather_S64x100000_S64x100000x1_S64x100000_n_1_0_0_1_2_11 x i),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v14 : StableHlo.TRef sig ⟨S64x100000, .f32⟩) (broadcastInDim S64x100000 ![] bcast_S_S64x100000),
    StableHlo.TRef.ternary (.of main_call2_v12 : StableHlo.TRef sig ⟨S64x100000, .i1⟩) (.of main_call2_v13 : StableHlo.TRef sig ⟨S64x100000, .f32⟩) (.of main_call2_v14 : StableHlo.TRef sig ⟨S64x100000, .f32⟩) (.of main_v16 : StableHlo.TRef sig ⟨S64x100000, .f32⟩) select ]

/-- The call of cumsum. -/
abbrev ops5 : List (HloOp τ sig (Elt F)) :=
  [ StableHlo.TRef.nullary (.of main_call3_call0_cst : StableHlo.TRef sig ⟨S_, .f32⟩) (constant S_ .f32 0x00000000#32),
    StableHlo.TRef.unary (.of main_call3_call0_cst : StableHlo.TRef sig ⟨S_, .f32⟩) (.of main_call3_call0_v0 : StableHlo.TRef sig ⟨S_, .f32⟩) (broadcastInDim S_ ![] bcast_S_S_),
    StableHlo.TRef.binary (.of main_v16 : StableHlo.TRef sig ⟨S64x100000, .f32⟩) (.of main_call3_call0_v0 : StableHlo.TRef sig ⟨S_, .f32⟩) (.of main_v17 : StableHlo.TRef sig ⟨S64x100000, .f32⟩) (fun x v => Host.reduceWindowAdd ![1, 100000] ![1, 1] ![0, 99999] ![0, 0] x v reduceWindows_S64x100000_S64x100000_w1s1p0_0_w100000s1p99999_0 h_S_) ]

/-- A stretch of main. -/
abbrev ops6 : List (HloOp τ sig (Elt F)) :=
  [ StableHlo.unary main_arg2 main_v18 (broadcastInDim S64x100000 ![0, 1] bcast_S64x1_S64x100000_0_1 : (⟨S64x1, .f32⟩ : BufTy).Contents (Elt F) → (⟨S64x100000, .f32⟩ : BufTy).Contents (Elt F)),
    StableHlo.binary main_v17 main_v18 main_v19 (cmpf .ogt : (⟨S64x100000, .f32⟩ : BufTy).Contents (Elt F) → (⟨S64x100000, .f32⟩ : BufTy).Contents (Elt F) → (⟨S64x100000, .i1⟩ : BufTy).Contents (Elt F)),
    StableHlo.unary main_v19 main_v20 ((extractStridedSlice S64x1 ![0, 0] · slices_S64x100000_S64x1_0_0) : (⟨S64x100000, .i1⟩ : BufTy).Contents (Elt F) → (⟨S64x1, .i1⟩ : BufTy).Contents (Elt F)),
    StableHlo.nullary main_c (constantI S_ 1 0#1),
    StableHlo.unary main_c main_v21 (broadcastInDim S64x1 ![] bcast_S_S64x1 : (⟨S_, .i1⟩ : BufTy).Contents (Elt F) → (⟨S64x1, .i1⟩ : BufTy).Contents (Elt F)),
    StableHlo.unary main_v19 main_v22 ((extractStridedSlice S64x99999 ![0, 0] · slices_S64x100000_S64x99999_0_0) : (⟨S64x100000, .i1⟩ : BufTy).Contents (Elt F) → (⟨S64x99999, .i1⟩ : BufTy).Contents (Elt F)),
    StableHlo.binary main_v21 main_v22 main_v23 ((fun a b => concatenate S64x100000 1 [⟨S64x1, a⟩, ⟨S64x99999, b⟩] concatenates_S64x1_S64x99999_S64x100000_d1) : (⟨S64x1, .i1⟩ : BufTy).Contents (Elt F) → (⟨S64x99999, .i1⟩ : BufTy).Contents (Elt F) → (⟨S64x100000, .i1⟩ : BufTy).Contents (Elt F)),
    StableHlo.nullary main_cst_3 (constant S_ .f32 0x00000000#32) ]

/-- The call of where. -/
abbrev ops7 : List (HloOp τ sig (Elt F)) :=
  [ StableHlo.TRef.unary (.of main_cst_3 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S64x100000, .f32⟩) (broadcastInDim S64x100000 ![] bcast_S_S64x100000),
    StableHlo.TRef.ternary (.of main_v23 : StableHlo.TRef sig ⟨S64x100000, .i1⟩) (.of main_call4_v1 : StableHlo.TRef sig ⟨S64x100000, .f32⟩) (.of main_v16 : StableHlo.TRef sig ⟨S64x100000, .f32⟩) (.of main_v24 : StableHlo.TRef sig ⟨S64x100000, .f32⟩) select ]

/-- A stretch of main. -/
abbrev ops8 : List (HloOp τ sig (Elt F)) :=
  [ StableHlo.nullary main_cst_4 (constant S_ .f32 0x00000000#32),
    StableHlo.binary main_v24 main_cst_4 main_v25 ((fun x v => Host.reduceAdd x v reducesTo_S64x100000_S64_d1 h_S_) : (⟨S64x100000, .f32⟩ : BufTy).Contents (Elt F) → (⟨S_, .f32⟩ : BufTy).Contents (Elt F) → (⟨S64, .f32⟩ : BufTy).Contents (Elt F)),
    StableHlo.unary main_v25 main_v26 (broadcastInDim S64x1 ![0] bcast_S64_S64x1_0 : (⟨S64, .f32⟩ : BufTy).Contents (Elt F) → (⟨S64x1, .f32⟩ : BufTy).Contents (Elt F)),
    StableHlo.unary main_v26 main_v27 (broadcastInDim S64x100000 ![0, 1] bcast_S64x1_S64x100000_0_1 : (⟨S64x1, .f32⟩ : BufTy).Contents (Elt F) → (⟨S64x100000, .f32⟩ : BufTy).Contents (Elt F)),
    StableHlo.binary main_v24 main_v27 main_v28 (Host.divf : (⟨S64x100000, .f32⟩ : BufTy).Contents (Elt F) → (⟨S64x100000, .f32⟩ : BufTy).Contents (Elt F) → (⟨S64x100000, .f32⟩ : BufTy).Contents (Elt F)) ]

/-- The call of cumsum. -/
abbrev ops9 : List (HloOp τ sig (Elt F)) :=
  [ StableHlo.TRef.nullary (.of main_call5_call0_cst : StableHlo.TRef sig ⟨S_, .f32⟩) (constant S_ .f32 0x00000000#32),
    StableHlo.TRef.unary (.of main_call5_call0_cst : StableHlo.TRef sig ⟨S_, .f32⟩) (.of main_call5_call0_v0 : StableHlo.TRef sig ⟨S_, .f32⟩) (broadcastInDim S_ ![] bcast_S_S_),
    StableHlo.TRef.binary (.of main_v28 : StableHlo.TRef sig ⟨S64x100000, .f32⟩) (.of main_call5_call0_v0 : StableHlo.TRef sig ⟨S_, .f32⟩) (.of main_v29 : StableHlo.TRef sig ⟨S64x100000, .f32⟩) (fun x v => Host.reduceWindowAdd ![1, 100000] ![1, 1] ![0, 99999] ![0, 0] x v reduceWindows_S64x100000_S64x100000_w1s1p0_0_w100000s1p99999_0 h_S_) ]

/-- A stretch of main. -/
abbrev ops10 : List (HloOp τ sig (Elt F)) :=
  [ StableHlo.nullary main_c_5 (constantI S_ 32 42#32),
    StableHlo.nullary main_c_6 (constantI S_ 32 32#32),
    StableHlo.binary main_c_5 main_c_6 main_v30 (Host.shrui : (⟨S_, .i32⟩ : BufTy).Contents (Elt F) → (⟨S_, .i32⟩ : BufTy).Contents (Elt F) → (⟨S_, .i32⟩ : BufTy).Contents (Elt F)),
    StableHlo.unary main_v30 main_v31 (id : (⟨S_, .i32⟩ : BufTy).Contents (Elt F) → (⟨S_, .i32⟩ : BufTy).Contents (Elt F)),
    StableHlo.unary main_v31 main_v32 (broadcastInDim S1 ![] bcast_S_S1 : (⟨S_, .i32⟩ : BufTy).Contents (Elt F) → (⟨S1, .i32⟩ : BufTy).Contents (Elt F)),
    StableHlo.nullary main_c_7 (constantI S_ 32 4294967295#32),
    StableHlo.binary main_c_5 main_c_7 main_v33 (andi : (⟨S_, .i32⟩ : BufTy).Contents (Elt F) → (⟨S_, .i32⟩ : BufTy).Contents (Elt F) → (⟨S_, .i32⟩ : BufTy).Contents (Elt F)),
    StableHlo.unary main_v33 main_v34 (id : (⟨S_, .i32⟩ : BufTy).Contents (Elt F) → (⟨S_, .i32⟩ : BufTy).Contents (Elt F)),
    StableHlo.unary main_v34 main_v35 (broadcastInDim S1 ![] bcast_S_S1 : (⟨S_, .i32⟩ : BufTy).Contents (Elt F) → (⟨S1, .i32⟩ : BufTy).Contents (Elt F)),
    StableHlo.binary main_v32 main_v35 main_v36 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_cst_8 (constant S_ .f32 0x00000000#32),
    StableHlo.nullary main_cst_9 (constant S_ .f32 0x3F800000#32) ]

/-- The call of uniform. -/
abbrev ops11 : List (HloOp τ sig (Elt F)) :=
  [ StableHlo.TRef.unary (.of main_cst_8 : StableHlo.TRef sig ⟨S_, .f32⟩) (.of main_call6_v0 : StableHlo.TRef sig ⟨S_, .f32⟩) id,
    StableHlo.TRef.unary (.of main_cst_9 : StableHlo.TRef sig ⟨S_, .f32⟩) (.of main_call6_v1 : StableHlo.TRef sig ⟨S_, .f32⟩) id,
    StableHlo.TRef.unary (.of main_call6_v0 : StableHlo.TRef sig ⟨S_, .f32⟩) (.of main_call6_v2 : StableHlo.TRef sig ⟨S1x1, .f32⟩) (broadcastInDim S1x1 ![] bcast_S_S1x1),
    StableHlo.TRef.unary (.of main_call6_v1 : StableHlo.TRef sig ⟨S_, .f32⟩) (.of main_call6_v3 : StableHlo.TRef sig ⟨S1x1, .f32⟩) (broadcastInDim S1x1 ![] bcast_S_S1x1),
    StableHlo.TRef.unary (.of main_v36 : StableHlo.TRef sig ⟨S2, .i32⟩) (.of main_call6_v4 : StableHlo.TRef sig ⟨S1, .i32⟩) (extractStridedSlice S1 ![0] · slices_S2_S1_0),
    StableHlo.TRef.reshape (.of main_call6_v4 : StableHlo.TRef sig ⟨S1, .i32⟩) (.of main_call6_v5 : StableHlo.TRef sig ⟨S_, .i32⟩) (rfl : (.i32 : EltTy) = .i32) shapeCasts_S1_S_,
    StableHlo.TRef.unary (.of main_v36 : StableHlo.TRef sig ⟨S2, .i32⟩) (.of main_call6_v6 : StableHlo.TRef sig ⟨S1, .i32⟩) (extractStridedSlice S1 ![1] · slices_S2_S1_1),
    StableHlo.TRef.reshape (.of main_call6_v6 : StableHlo.TRef sig ⟨S1, .i32⟩) (.of main_call6_v7 : StableHlo.TRef sig ⟨S_, .i32⟩) (rfl : (.i32 : EltTy) = .i32) shapeCasts_S1_S_,
    StableHlo.TRef.nullary (.of main_call6_v8 : StableHlo.TRef sig ⟨S64x1, .i64⟩) (iotaInDim S64x1 64 0),
    StableHlo.TRef.nullary (.of main_call6_v9 : StableHlo.TRef sig ⟨S64x1, .i64⟩) (iotaInDim S64x1 64 1),
    StableHlo.TRef.nullary (.of main_call6_c : StableHlo.TRef sig ⟨S_, .i64⟩) (constantI S_ 64 1#64),
    StableHlo.TRef.unary (.of main_call6_c : StableHlo.TRef sig ⟨S_, .i64⟩) (.of main_call6_v10 : StableHlo.TRef sig ⟨S64x1, .i64⟩) (broadcastInDim S64x1 ![] bcast_S_S64x1),
    StableHlo.TRef.binary (.of main_call6_v10 : StableHlo.TRef sig ⟨S64x1, .i64⟩) (.of main_call6_v8 : StableHlo.TRef sig ⟨S64x1, .i64⟩) (.of main_call6_v11 : StableHlo.TRef sig ⟨S64x1, .i64⟩) muli,
    StableHlo.TRef.nullary (.of main_call6_c_0 : StableHlo.TRef sig ⟨S_, .i64⟩) (constantI S_ 64 1#64),
    StableHlo.TRef.unary (.of main_call6_c_0 : StableHlo.TRef sig ⟨S_, .i64⟩) (.of main_call6_v12 : StableHlo.TRef sig ⟨S64x1, .i64⟩) (broadcastInDim S64x1 ![] bcast_S_S64x1),
    StableHlo.TRef.binary (.of main_call6_v12 : StableHlo.TRef sig ⟨S64x1, .i64⟩) (.of main_call6_v9 : StableHlo.TRef sig ⟨S64x1, .i64⟩) (.of main_call6_v13 : StableHlo.TRef sig ⟨S64x1, .i64⟩) muli,
    StableHlo.TRef.binary (.of main_call6_v11 : StableHlo.TRef sig ⟨S64x1, .i64⟩) (.of main_call6_v13 : StableHlo.TRef sig ⟨S64x1, .i64⟩) (.of main_call6_v14 : StableHlo.TRef sig ⟨S64x1, .i64⟩) addi,
    StableHlo.TRef.nullary (.of main_call6_c_1 : StableHlo.TRef sig ⟨S_, .i64⟩) (constantI S_ 64 32#64),
    StableHlo.TRef.unary (.of main_call6_c_1 : StableHlo.TRef sig ⟨S_, .i64⟩) (.of main_call6_v15 : StableHlo.TRef sig ⟨S64x1, .i64⟩) (broadcastInDim S64x1 ![] bcast_S_S64x1),
    StableHlo.TRef.binary (.of main_call6_v14 : StableHlo.TRef sig ⟨S64x1, .i64⟩) (.of main_call6_v15 : StableHlo.TRef sig ⟨S64x1, .i64⟩) (.of main_call6_v16 : StableHlo.TRef sig ⟨S64x1, .i64⟩) Host.shrui,
    StableHlo.TRef.unary (.of main_call6_v14 : StableHlo.TRef sig ⟨S64x1, .i64⟩) (.of main_call6_v17 : StableHlo.TRef sig ⟨S64x1, .i32⟩) (trunci 32 · natLt_32_64),
    StableHlo.TRef.unary (.of main_call6_v16 : StableHlo.TRef sig ⟨S64x1, .i64⟩) (.of main_call6_v18 : StableHlo.TRef sig ⟨S64x1, .i32⟩) (trunci 32 · natLt_32_64),
    StableHlo.TRef.binary (.of main_call6_v5 : StableHlo.TRef sig ⟨S_, .i32⟩) (.of main_call6_v7 : StableHlo.TRef sig ⟨S_, .i32⟩) (.of main_call6_call0_v0 : StableHlo.TRef sig ⟨S_, .i32⟩) xori,
    StableHlo.TRef.nullary (.of main_call6_call0_c : StableHlo.TRef sig ⟨S_, .i32⟩) (constantI S_ 32 466688986#32),
    StableHlo.TRef.binary (.of main_call6_call0_v0 : StableHlo.TRef sig ⟨S_, .i32⟩) (.of main_call6_call0_c : StableHlo.TRef sig ⟨S_, .i32⟩) (.of main_call6_call0_v1 : StableHlo.TRef sig ⟨S_, .i32⟩) xori,
    StableHlo.TRef.unary (.of main_call6_v5 : StableHlo.TRef sig ⟨S_, .i32⟩) (.of main_call6_call0_v2 : StableHlo.TRef sig ⟨S64x1, .i32⟩) (broadcastInDim S64x1 ![] bcast_S_S64x1),
    StableHlo.TRef.binary (.of main_call6_v18 : StableHlo.TRef sig ⟨S64x1, .i32⟩) (.of main_call6_call0_v2 : StableHlo.TRef sig ⟨S64x1, .i32⟩) (.of main_call6_call0_v3 : StableHlo.TRef sig ⟨S64x1, .i32⟩) addi,
    StableHlo.TRef.unary (.of main_call6_v7 : StableHlo.TRef sig ⟨S_, .i32⟩) (.of main_call6_call0_v4 : StableHlo.TRef sig ⟨S64x1, .i32⟩) (broadcastInDim S64x1 ![] bcast_S_S64x1),
    StableHlo.TRef.binary (.of main_call6_v17 : StableHlo.TRef sig ⟨S64x1, .i32⟩) (.of main_call6_call0_v4 : StableHlo.TRef sig ⟨S64x1, .i32⟩) (.of main_call6_call0_v5 : StableHlo.TRef sig ⟨S64x1, .i32⟩) addi,
    StableHlo.TRef.binary (.of main_call6_call0_v3 : StableHlo.TRef sig ⟨S64x1, .i32⟩) (.of main_call6_call0_v5 : StableHlo.TRef sig ⟨S64x1, .i32⟩) (.of main_call6_call0_v6 : StableHlo.TRef sig ⟨S64x1, .i32⟩) addi,
    StableHlo.TRef.nullary (.of main_call6_call0_c_0 : StableHlo.TRef sig ⟨S_, .i32⟩) (constantI S_ 32 13#32),
    StableHlo.TRef.unary (.of main_call6_call0_c_0 : StableHlo.TRef sig ⟨S_, .i32⟩) (.of main_call6_call0_v7 : StableHlo.TRef sig ⟨S64x1, .i32⟩) (broadcastInDim S64x1 ![] bcast_S_S64x1),
    StableHlo.TRef.binary (.of main_call6_call0_v5 : StableHlo.TRef sig ⟨S64x1, .i32⟩) (.of main_call6_call0_v7 : StableHlo.TRef sig ⟨S64x1, .i32⟩) (.of main_call6_call0_v8 : StableHlo.TRef sig ⟨S64x1, .i32⟩) Host.shli,
    StableHlo.TRef.nullary (.of main_call6_call0_c_1 : StableHlo.TRef sig ⟨S_, .i32⟩) (constantI S_ 32 19#32),
    StableHlo.TRef.unary (.of main_call6_call0_c_1 : StableHlo.TRef sig ⟨S_, .i32⟩) (.of main_call6_call0_v9 : StableHlo.TRef sig ⟨S64x1, .i32⟩) (broadcastInDim S64x1 ![] bcast_S_S64x1),
    StableHlo.TRef.binary (.of main_call6_call0_v5 : StableHlo.TRef sig ⟨S64x1, .i32⟩) (.of main_call6_call0_v9 : StableHlo.TRef sig ⟨S64x1, .i32⟩) (.of main_call6_call0_v10 : StableHlo.TRef sig ⟨S64x1, .i32⟩) Host.shrui,
    StableHlo.TRef.binary (.of main_call6_call0_v8 : StableHlo.TRef sig ⟨S64x1, .i32⟩) (.of main_call6_call0_v10 : StableHlo.TRef sig ⟨S64x1, .i32⟩) (.of main_call6_call0_v11 : StableHlo.TRef sig ⟨S64x1, .i32⟩) ori,
    StableHlo.TRef.binary (.of main_call6_call0_v6 : StableHlo.TRef sig ⟨S64x1, .i32⟩) (.of main_call6_call0_v11 : StableHlo.TRef sig ⟨S64x1, .i32⟩) (.of main_call6_call0_v12 : StableHlo.TRef sig ⟨S64x1, .i32⟩) xori,
    StableHlo.TRef.binary (.of main_call6_call0_v6 : StableHlo.TRef sig ⟨S64x1, .i32⟩) (.of main_call6_call0_v12 : StableHlo.TRef sig ⟨S64x1, .i32⟩) (.of main_call6_call0_v13 : StableHlo.TRef sig ⟨S64x1, .i32⟩) addi,
    StableHlo.TRef.nullary (.of main_call6_call0_c_2 : StableHlo.TRef sig ⟨S_, .i32⟩) (constantI S_ 32 15#32),
    StableHlo.TRef.unary (.of main_call6_call0_c_2 : StableHlo.TRef sig ⟨S_, .i32⟩) (.of main_call6_call0_v14 : StableHlo.TRef sig ⟨S64x1, .i32⟩) (broadcastInDim S64x1 ![] bcast_S_S64x1),
    StableHlo.TRef.binary (.of main_call6_call0_v12 : StableHlo.TRef sig ⟨S64x1, .i32⟩) (.of main_call6_call0_v14 : StableHlo.TRef sig ⟨S64x1, .i32⟩) (.of main_call6_call0_v15 : StableHlo.TRef sig ⟨S64x1, .i32⟩) Host.shli,
    StableHlo.TRef.nullary (.of main_call6_call0_c_3 : StableHlo.TRef sig ⟨S_, .i32⟩) (constantI S_ 32 17#32),
    StableHlo.TRef.unary (.of main_call6_call0_c_3 : StableHlo.TRef sig ⟨S_, .i32⟩) (.of main_call6_call0_v16 : StableHlo.TRef sig ⟨S64x1, .i32⟩) (broadcastInDim S64x1 ![] bcast_S_S64x1),
    StableHlo.TRef.binary (.of main_call6_call0_v12 : StableHlo.TRef sig ⟨S64x1, .i32⟩) (.of main_call6_call0_v16 : StableHlo.TRef sig ⟨S64x1, .i32⟩) (.of main_call6_call0_v17 : StableHlo.TRef sig ⟨S64x1, .i32⟩) Host.shrui,
    StableHlo.TRef.binary (.of main_call6_call0_v15 : StableHlo.TRef sig ⟨S64x1, .i32⟩) (.of main_call6_call0_v17 : StableHlo.TRef sig ⟨S64x1, .i32⟩) (.of main_call6_call0_v18 : StableHlo.TRef sig ⟨S64x1, .i32⟩) ori,
    StableHlo.TRef.binary (.of main_call6_call0_v13 : StableHlo.TRef sig ⟨S64x1, .i32⟩) (.of main_call6_call0_v18 : StableHlo.TRef sig ⟨S64x1, .i32⟩) (.of main_call6_call0_v19 : StableHlo.TRef sig ⟨S64x1, .i32⟩) xori,
    StableHlo.TRef.binary (.of main_call6_call0_v13 : StableHlo.TRef sig ⟨S64x1, .i32⟩) (.of main_call6_call0_v19 : StableHlo.TRef sig ⟨S64x1, .i32⟩) (.of main_call6_call0_v20 : StableHlo.TRef sig ⟨S64x1, .i32⟩) addi,
    StableHlo.TRef.nullary (.of main_call6_call0_c_4 : StableHlo.TRef sig ⟨S_, .i32⟩) (constantI S_ 32 26#32),
    StableHlo.TRef.unary (.of main_call6_call0_c_4 : StableHlo.TRef sig ⟨S_, .i32⟩) (.of main_call6_call0_v21 : StableHlo.TRef sig ⟨S64x1, .i32⟩) (broadcastInDim S64x1 ![] bcast_S_S64x1),
    StableHlo.TRef.binary (.of main_call6_call0_v19 : StableHlo.TRef sig ⟨S64x1, .i32⟩) (.of main_call6_call0_v21 : StableHlo.TRef sig ⟨S64x1, .i32⟩) (.of main_call6_call0_v22 : StableHlo.TRef sig ⟨S64x1, .i32⟩) Host.shli,
    StableHlo.TRef.nullary (.of main_call6_call0_c_5 : StableHlo.TRef sig ⟨S_, .i32⟩) (constantI S_ 32 6#32),
    StableHlo.TRef.unary (.of main_call6_call0_c_5 : StableHlo.TRef sig ⟨S_, .i32⟩) (.of main_call6_call0_v23 : StableHlo.TRef sig ⟨S64x1, .i32⟩) (broadcastInDim S64x1 ![] bcast_S_S64x1),
    StableHlo.TRef.binary (.of main_call6_call0_v19 : StableHlo.TRef sig ⟨S64x1, .i32⟩) (.of main_call6_call0_v23 : StableHlo.TRef sig ⟨S64x1, .i32⟩) (.of main_call6_call0_v24 : StableHlo.TRef sig ⟨S64x1, .i32⟩) Host.shrui,
    StableHlo.TRef.binary (.of main_call6_call0_v22 : StableHlo.TRef sig ⟨S64x1, .i32⟩) (.of main_call6_call0_v24 : StableHlo.TRef sig ⟨S64x1, .i32⟩) (.of main_call6_call0_v25 : StableHlo.TRef sig ⟨S64x1, .i32⟩) ori,
    StableHlo.TRef.binary (.of main_call6_call0_v20 : StableHlo.TRef sig ⟨S64x1, .i32⟩) (.of main_call6_call0_v25 : StableHlo.TRef sig ⟨S64x1, .i32⟩) (.of main_call6_call0_v26 : StableHlo.TRef sig ⟨S64x1, .i32⟩) xori,
    StableHlo.TRef.binary (.of main_call6_call0_v20 : StableHlo.TRef sig ⟨S64x1, .i32⟩) (.of main_call6_call0_v26 : StableHlo.TRef sig ⟨S64x1, .i32⟩) (.of main_call6_call0_v27 : StableHlo.TRef sig ⟨S64x1, .i32⟩) addi,
    StableHlo.TRef.nullary (.of main_call6_call0_c_6 : StableHlo.TRef sig ⟨S_, .i32⟩) (constantI S_ 32 6#32),
    StableHlo.TRef.unary (.of main_call6_call0_c_6 : StableHlo.TRef sig ⟨S_, .i32⟩) (.of main_call6_call0_v28 : StableHlo.TRef sig ⟨S64x1, .i32⟩) (broadcastInDim S64x1 ![] bcast_S_S64x1),
    StableHlo.TRef.binary (.of main_call6_call0_v26 : StableHlo.TRef sig ⟨S64x1, .i32⟩) (.of main_call6_call0_v28 : StableHlo.TRef sig ⟨S64x1, .i32⟩) (.of main_call6_call0_v29 : StableHlo.TRef sig ⟨S64x1, .i32⟩) Host.shli,
    StableHlo.TRef.nullary (.of main_call6_call0_c_7 : StableHlo.TRef sig ⟨S_, .i32⟩) (constantI S_ 32 26#32),
    StableHlo.TRef.unary (.of main_call6_call0_c_7 : StableHlo.TRef sig ⟨S_, .i32⟩) (.of main_call6_call0_v30 : StableHlo.TRef sig ⟨S64x1, .i32⟩) (broadcastInDim S64x1 ![] bcast_S_S64x1),
    StableHlo.TRef.binary (.of main_call6_call0_v26 : StableHlo.TRef sig ⟨S64x1, .i32⟩) (.of main_call6_call0_v30 : StableHlo.TRef sig ⟨S64x1, .i32⟩) (.of main_call6_call0_v31 : StableHlo.TRef sig ⟨S64x1, .i32⟩) Host.shrui,
    StableHlo.TRef.binary (.of main_call6_call0_v29 : StableHlo.TRef sig ⟨S64x1, .i32⟩) (.of main_call6_call0_v31 : StableHlo.TRef sig ⟨S64x1, .i32⟩) (.of main_call6_call0_v32 : StableHlo.TRef sig ⟨S64x1, .i32⟩) ori,
    StableHlo.TRef.binary (.of main_call6_call0_v27 : StableHlo.TRef sig ⟨S64x1, .i32⟩) (.of main_call6_call0_v32 : StableHlo.TRef sig ⟨S64x1, .i32⟩) (.of main_call6_call0_v33 : StableHlo.TRef sig ⟨S64x1, .i32⟩) xori,
    StableHlo.TRef.unary (.of main_call6_v7 : StableHlo.TRef sig ⟨S_, .i32⟩) (.of main_call6_call0_v34 : StableHlo.TRef sig ⟨S64x1, .i32⟩) (broadcastInDim S64x1 ![] bcast_S_S64x1),
    StableHlo.TRef.binary (.of main_call6_call0_v27 : StableHlo.TRef sig ⟨S64x1, .i32⟩) (.of main_call6_call0_v34 : StableHlo.TRef sig ⟨S64x1, .i32⟩) (.of main_call6_call0_v35 : StableHlo.TRef sig ⟨S64x1, .i32⟩) addi,
    StableHlo.TRef.unary (.of main_call6_call0_v1 : StableHlo.TRef sig ⟨S_, .i32⟩) (.of main_call6_call0_v36 : StableHlo.TRef sig ⟨S64x1, .i32⟩) (broadcastInDim S64x1 ![] bcast_S_S64x1),
    StableHlo.TRef.binary (.of main_call6_call0_v33 : StableHlo.TRef sig ⟨S64x1, .i32⟩) (.of main_call6_call0_v36 : StableHlo.TRef sig ⟨S64x1, .i32⟩) (.of main_call6_call0_v37 : StableHlo.TRef sig ⟨S64x1, .i32⟩) addi,
    StableHlo.TRef.nullary (.of main_call6_call0_c_8 : StableHlo.TRef sig ⟨S_, .i32⟩) (constantI S_ 32 1#32),
    StableHlo.TRef.unary (.of main_call6_call0_c_8 : StableHlo.TRef sig ⟨S_, .i32⟩) (.of main_call6_call0_v38 : StableHlo.TRef sig ⟨S64x1, .i32⟩) (broadcastInDim S64x1 ![] bcast_S_S64x1),
    StableHlo.TRef.binary (.of main_call6_call0_v37 : StableHlo.TRef sig ⟨S64x1, .i32⟩) (.of main_call6_call0_v38 : StableHlo.TRef sig ⟨S64x1, .i32⟩) (.of main_call6_call0_v39 : StableHlo.TRef sig ⟨S64x1, .i32⟩) addi,
    StableHlo.TRef.binary (.of main_call6_call0_v35 : StableHlo.TRef sig ⟨S64x1, .i32⟩) (.of main_call6_call0_v39 : StableHlo.TRef sig ⟨S64x1, .i32⟩) (.of main_call6_call0_v40 : StableHlo.TRef sig ⟨S64x1, .i32⟩) addi,
    StableHlo.TRef.nullary (.of main_call6_call0_c_9 : StableHlo.TRef sig ⟨S_, .i32⟩) (constantI S_ 32 17#32),
    StableHlo.TRef.unary (.of main_call6_call0_c_9 : StableHlo.TRef sig ⟨S_, .i32⟩) (.of main_call6_call0_v41 : StableHlo.TRef sig ⟨S64x1, .i32⟩) (broadcastInDim S64x1 ![] bcast_S_S64x1),
    StableHlo.TRef.binary (.of main_call6_call0_v39 : StableHlo.TRef sig ⟨S64x1, .i32⟩) (.of main_call6_call0_v41 : StableHlo.TRef sig ⟨S64x1, .i32⟩) (.of main_call6_call0_v42 : StableHlo.TRef sig ⟨S64x1, .i32⟩) Host.shli,
    StableHlo.TRef.nullary (.of main_call6_call0_c_10 : StableHlo.TRef sig ⟨S_, .i32⟩) (constantI S_ 32 15#32),
    StableHlo.TRef.unary (.of main_call6_call0_c_10 : StableHlo.TRef sig ⟨S_, .i32⟩) (.of main_call6_call0_v43 : StableHlo.TRef sig ⟨S64x1, .i32⟩) (broadcastInDim S64x1 ![] bcast_S_S64x1),
    StableHlo.TRef.binary (.of main_call6_call0_v39 : StableHlo.TRef sig ⟨S64x1, .i32⟩) (.of main_call6_call0_v43 : StableHlo.TRef sig ⟨S64x1, .i32⟩) (.of main_call6_call0_v44 : StableHlo.TRef sig ⟨S64x1, .i32⟩) Host.shrui,
    StableHlo.TRef.binary (.of main_call6_call0_v42 : StableHlo.TRef sig ⟨S64x1, .i32⟩) (.of main_call6_call0_v44 : StableHlo.TRef sig ⟨S64x1, .i32⟩) (.of main_call6_call0_v45 : StableHlo.TRef sig ⟨S64x1, .i32⟩) ori,
    StableHlo.TRef.binary (.of main_call6_call0_v40 : StableHlo.TRef sig ⟨S64x1, .i32⟩) (.of main_call6_call0_v45 : StableHlo.TRef sig ⟨S64x1, .i32⟩) (.of main_call6_call0_v46 : StableHlo.TRef sig ⟨S64x1, .i32⟩) xori,
    StableHlo.TRef.binary (.of main_call6_call0_v40 : StableHlo.TRef sig ⟨S64x1, .i32⟩) (.of main_call6_call0_v46 : StableHlo.TRef sig ⟨S64x1, .i32⟩) (.of main_call6_call0_v47 : StableHlo.TRef sig ⟨S64x1, .i32⟩) addi,
    StableHlo.TRef.nullary (.of main_call6_call0_c_11 : StableHlo.TRef sig ⟨S_, .i32⟩) (constantI S_ 32 29#32),
    StableHlo.TRef.unary (.of main_call6_call0_c_11 : StableHlo.TRef sig ⟨S_, .i32⟩) (.of main_call6_call0_v48 : StableHlo.TRef sig ⟨S64x1, .i32⟩) (broadcastInDim S64x1 ![] bcast_S_S64x1),
    StableHlo.TRef.binary (.of main_call6_call0_v46 : StableHlo.TRef sig ⟨S64x1, .i32⟩) (.of main_call6_call0_v48 : StableHlo.TRef sig ⟨S64x1, .i32⟩) (.of main_call6_call0_v49 : StableHlo.TRef sig ⟨S64x1, .i32⟩) Host.shli,
    StableHlo.TRef.nullary (.of main_call6_call0_c_12 : StableHlo.TRef sig ⟨S_, .i32⟩) (constantI S_ 32 3#32),
    StableHlo.TRef.unary (.of main_call6_call0_c_12 : StableHlo.TRef sig ⟨S_, .i32⟩) (.of main_call6_call0_v50 : StableHlo.TRef sig ⟨S64x1, .i32⟩) (broadcastInDim S64x1 ![] bcast_S_S64x1),
    StableHlo.TRef.binary (.of main_call6_call0_v46 : StableHlo.TRef sig ⟨S64x1, .i32⟩) (.of main_call6_call0_v50 : StableHlo.TRef sig ⟨S64x1, .i32⟩) (.of main_call6_call0_v51 : StableHlo.TRef sig ⟨S64x1, .i32⟩) Host.shrui,
    StableHlo.TRef.binary (.of main_call6_call0_v49 : StableHlo.TRef sig ⟨S64x1, .i32⟩) (.of main_call6_call0_v51 : StableHlo.TRef sig ⟨S64x1, .i32⟩) (.of main_call6_call0_v52 : StableHlo.TRef sig ⟨S64x1, .i32⟩) ori,
    StableHlo.TRef.binary (.of main_call6_call0_v47 : StableHlo.TRef sig ⟨S64x1, .i32⟩) (.of main_call6_call0_v52 : StableHlo.TRef sig ⟨S64x1, .i32⟩) (.of main_call6_call0_v53 : StableHlo.TRef sig ⟨S64x1, .i32⟩) xori,
    StableHlo.TRef.binary (.of main_call6_call0_v47 : StableHlo.TRef sig ⟨S64x1, .i32⟩) (.of main_call6_call0_v53 : StableHlo.TRef sig ⟨S64x1, .i32⟩) (.of main_call6_call0_v54 : StableHlo.TRef sig ⟨S64x1, .i32⟩) addi,
    StableHlo.TRef.nullary (.of main_call6_call0_c_13 : StableHlo.TRef sig ⟨S_, .i32⟩) (constantI S_ 32 16#32),
    StableHlo.TRef.unary (.of main_call6_call0_c_13 : StableHlo.TRef sig ⟨S_, .i32⟩) (.of main_call6_call0_v55 : StableHlo.TRef sig ⟨S64x1, .i32⟩) (broadcastInDim S64x1 ![] bcast_S_S64x1),
    StableHlo.TRef.binary (.of main_call6_call0_v53 : StableHlo.TRef sig ⟨S64x1, .i32⟩) (.of main_call6_call0_v55 : StableHlo.TRef sig ⟨S64x1, .i32⟩) (.of main_call6_call0_v56 : StableHlo.TRef sig ⟨S64x1, .i32⟩) Host.shli,
    StableHlo.TRef.nullary (.of main_call6_call0_c_14 : StableHlo.TRef sig ⟨S_, .i32⟩) (constantI S_ 32 16#32),
    StableHlo.TRef.unary (.of main_call6_call0_c_14 : StableHlo.TRef sig ⟨S_, .i32⟩) (.of main_call6_call0_v57 : StableHlo.TRef sig ⟨S64x1, .i32⟩) (broadcastInDim S64x1 ![] bcast_S_S64x1),
    StableHlo.TRef.binary (.of main_call6_call0_v53 : StableHlo.TRef sig ⟨S64x1, .i32⟩) (.of main_call6_call0_v57 : StableHlo.TRef sig ⟨S64x1, .i32⟩) (.of main_call6_call0_v58 : StableHlo.TRef sig ⟨S64x1, .i32⟩) Host.shrui,
    StableHlo.TRef.binary (.of main_call6_call0_v56 : StableHlo.TRef sig ⟨S64x1, .i32⟩) (.of main_call6_call0_v58 : StableHlo.TRef sig ⟨S64x1, .i32⟩) (.of main_call6_call0_v59 : StableHlo.TRef sig ⟨S64x1, .i32⟩) ori,
    StableHlo.TRef.binary (.of main_call6_call0_v54 : StableHlo.TRef sig ⟨S64x1, .i32⟩) (.of main_call6_call0_v59 : StableHlo.TRef sig ⟨S64x1, .i32⟩) (.of main_call6_call0_v60 : StableHlo.TRef sig ⟨S64x1, .i32⟩) xori,
    StableHlo.TRef.binary (.of main_call6_call0_v54 : StableHlo.TRef sig ⟨S64x1, .i32⟩) (.of main_call6_call0_v60 : StableHlo.TRef sig ⟨S64x1, .i32⟩) (.of main_call6_call0_v61 : StableHlo.TRef sig ⟨S64x1, .i32⟩) addi,
    StableHlo.TRef.nullary (.of main_call6_call0_c_15 : StableHlo.TRef sig ⟨S_, .i32⟩) (constantI S_ 32 24#32),
    StableHlo.TRef.unary (.of main_call6_call0_c_15 : StableHlo.TRef sig ⟨S_, .i32⟩) (.of main_call6_call0_v62 : StableHlo.TRef sig ⟨S64x1, .i32⟩) (broadcastInDim S64x1 ![] bcast_S_S64x1),
    StableHlo.TRef.binary (.of main_call6_call0_v60 : StableHlo.TRef sig ⟨S64x1, .i32⟩) (.of main_call6_call0_v62 : StableHlo.TRef sig ⟨S64x1, .i32⟩) (.of main_call6_call0_v63 : StableHlo.TRef sig ⟨S64x1, .i32⟩) Host.shli,
    StableHlo.TRef.nullary (.of main_call6_call0_c_16 : StableHlo.TRef sig ⟨S_, .i32⟩) (constantI S_ 32 8#32),
    StableHlo.TRef.unary (.of main_call6_call0_c_16 : StableHlo.TRef sig ⟨S_, .i32⟩) (.of main_call6_call0_v64 : StableHlo.TRef sig ⟨S64x1, .i32⟩) (broadcastInDim S64x1 ![] bcast_S_S64x1),
    StableHlo.TRef.binary (.of main_call6_call0_v60 : StableHlo.TRef sig ⟨S64x1, .i32⟩) (.of main_call6_call0_v64 : StableHlo.TRef sig ⟨S64x1, .i32⟩) (.of main_call6_call0_v65 : StableHlo.TRef sig ⟨S64x1, .i32⟩) Host.shrui,
    StableHlo.TRef.binary (.of main_call6_call0_v63 : StableHlo.TRef sig ⟨S64x1, .i32⟩) (.of main_call6_call0_v65 : StableHlo.TRef sig ⟨S64x1, .i32⟩) (.of main_call6_call0_v66 : StableHlo.TRef sig ⟨S64x1, .i32⟩) ori,
    StableHlo.TRef.binary (.of main_call6_call0_v61 : StableHlo.TRef sig ⟨S64x1, .i32⟩) (.of main_call6_call0_v66 : StableHlo.TRef sig ⟨S64x1, .i32⟩) (.of main_call6_call0_v67 : StableHlo.TRef sig ⟨S64x1, .i32⟩) xori,
    StableHlo.TRef.unary (.of main_call6_call0_v1 : StableHlo.TRef sig ⟨S_, .i32⟩) (.of main_call6_call0_v68 : StableHlo.TRef sig ⟨S64x1, .i32⟩) (broadcastInDim S64x1 ![] bcast_S_S64x1),
    StableHlo.TRef.binary (.of main_call6_call0_v61 : StableHlo.TRef sig ⟨S64x1, .i32⟩) (.of main_call6_call0_v68 : StableHlo.TRef sig ⟨S64x1, .i32⟩) (.of main_call6_call0_v69 : StableHlo.TRef sig ⟨S64x1, .i32⟩) addi,
    StableHlo.TRef.unary (.of main_call6_v5 : StableHlo.TRef sig ⟨S_, .i32⟩) (.of main_call6_call0_v70 : StableHlo.TRef sig ⟨S64x1, .i32⟩) (broadcastInDim S64x1 ![] bcast_S_S64x1),
    StableHlo.TRef.binary (.of main_call6_call0_v67 : StableHlo.TRef sig ⟨S64x1, .i32⟩) (.of main_call6_call0_v70 : StableHlo.TRef sig ⟨S64x1, .i32⟩) (.of main_call6_call0_v71 : StableHlo.TRef sig ⟨S64x1, .i32⟩) addi,
    StableHlo.TRef.nullary (.of main_call6_call0_c_17 : StableHlo.TRef sig ⟨S_, .i32⟩) (constantI S_ 32 2#32),
    StableHlo.TRef.unary (.of main_call6_call0_c_17 : StableHlo.TRef sig ⟨S_, .i32⟩) (.of main_call6_call0_v72 : StableHlo.TRef sig ⟨S64x1, .i32⟩) (broadcastInDim S64x1 ![] bcast_S_S64x1),
    StableHlo.TRef.binary (.of main_call6_call0_v71 : StableHlo.TRef sig ⟨S64x1, .i32⟩) (.of main_call6_call0_v72 : StableHlo.TRef sig ⟨S64x1, .i32⟩) (.of main_call6_call0_v73 : StableHlo.TRef sig ⟨S64x1, .i32⟩) addi,
    StableHlo.TRef.binary (.of main_call6_call0_v69 : StableHlo.TRef sig ⟨S64x1, .i32⟩) (.of main_call6_call0_v73 : StableHlo.TRef sig ⟨S64x1, .i32⟩) (.of main_call6_call0_v74 : StableHlo.TRef sig ⟨S64x1, .i32⟩) addi,
    StableHlo.TRef.nullary (.of main_call6_call0_c_18 : StableHlo.TRef sig ⟨S_, .i32⟩) (constantI S_ 32 13#32),
    StableHlo.TRef.unary (.of main_call6_call0_c_18 : StableHlo.TRef sig ⟨S_, .i32⟩) (.of main_call6_call0_v75 : StableHlo.TRef sig ⟨S64x1, .i32⟩) (broadcastInDim S64x1 ![] bcast_S_S64x1),
    StableHlo.TRef.binary (.of main_call6_call0_v73 : StableHlo.TRef sig ⟨S64x1, .i32⟩) (.of main_call6_call0_v75 : StableHlo.TRef sig ⟨S64x1, .i32⟩) (.of main_call6_call0_v76 : StableHlo.TRef sig ⟨S64x1, .i32⟩) Host.shli,
    StableHlo.TRef.nullary (.of main_call6_call0_c_19 : StableHlo.TRef sig ⟨S_, .i32⟩) (constantI S_ 32 19#32),
    StableHlo.TRef.unary (.of main_call6_call0_c_19 : StableHlo.TRef sig ⟨S_, .i32⟩) (.of main_call6_call0_v77 : StableHlo.TRef sig ⟨S64x1, .i32⟩) (broadcastInDim S64x1 ![] bcast_S_S64x1),
    StableHlo.TRef.binary (.of main_call6_call0_v73 : StableHlo.TRef sig ⟨S64x1, .i32⟩) (.of main_call6_call0_v77 : StableHlo.TRef sig ⟨S64x1, .i32⟩) (.of main_call6_call0_v78 : StableHlo.TRef sig ⟨S64x1, .i32⟩) Host.shrui,
    StableHlo.TRef.binary (.of main_call6_call0_v76 : StableHlo.TRef sig ⟨S64x1, .i32⟩) (.of main_call6_call0_v78 : StableHlo.TRef sig ⟨S64x1, .i32⟩) (.of main_call6_call0_v79 : StableHlo.TRef sig ⟨S64x1, .i32⟩) ori,
    StableHlo.TRef.binary (.of main_call6_call0_v74 : StableHlo.TRef sig ⟨S64x1, .i32⟩) (.of main_call6_call0_v79 : StableHlo.TRef sig ⟨S64x1, .i32⟩) (.of main_call6_call0_v80 : StableHlo.TRef sig ⟨S64x1, .i32⟩) xori,
    StableHlo.TRef.binary (.of main_call6_call0_v74 : StableHlo.TRef sig ⟨S64x1, .i32⟩) (.of main_call6_call0_v80 : StableHlo.TRef sig ⟨S64x1, .i32⟩) (.of main_call6_call0_v81 : StableHlo.TRef sig ⟨S64x1, .i32⟩) addi,
    StableHlo.TRef.nullary (.of main_call6_call0_c_20 : StableHlo.TRef sig ⟨S_, .i32⟩) (constantI S_ 32 15#32),
    StableHlo.TRef.unary (.of main_call6_call0_c_20 : StableHlo.TRef sig ⟨S_, .i32⟩) (.of main_call6_call0_v82 : StableHlo.TRef sig ⟨S64x1, .i32⟩) (broadcastInDim S64x1 ![] bcast_S_S64x1),
    StableHlo.TRef.binary (.of main_call6_call0_v80 : StableHlo.TRef sig ⟨S64x1, .i32⟩) (.of main_call6_call0_v82 : StableHlo.TRef sig ⟨S64x1, .i32⟩) (.of main_call6_call0_v83 : StableHlo.TRef sig ⟨S64x1, .i32⟩) Host.shli,
    StableHlo.TRef.nullary (.of main_call6_call0_c_21 : StableHlo.TRef sig ⟨S_, .i32⟩) (constantI S_ 32 17#32),
    StableHlo.TRef.unary (.of main_call6_call0_c_21 : StableHlo.TRef sig ⟨S_, .i32⟩) (.of main_call6_call0_v84 : StableHlo.TRef sig ⟨S64x1, .i32⟩) (broadcastInDim S64x1 ![] bcast_S_S64x1),
    StableHlo.TRef.binary (.of main_call6_call0_v80 : StableHlo.TRef sig ⟨S64x1, .i32⟩) (.of main_call6_call0_v84 : StableHlo.TRef sig ⟨S64x1, .i32⟩) (.of main_call6_call0_v85 : StableHlo.TRef sig ⟨S64x1, .i32⟩) Host.shrui,
    StableHlo.TRef.binary (.of main_call6_call0_v83 : StableHlo.TRef sig ⟨S64x1, .i32⟩) (.of main_call6_call0_v85 : StableHlo.TRef sig ⟨S64x1, .i32⟩) (.of main_call6_call0_v86 : StableHlo.TRef sig ⟨S64x1, .i32⟩) ori,
    StableHlo.TRef.binary (.of main_call6_call0_v81 : StableHlo.TRef sig ⟨S64x1, .i32⟩) (.of main_call6_call0_v86 : StableHlo.TRef sig ⟨S64x1, .i32⟩) (.of main_call6_call0_v87 : StableHlo.TRef sig ⟨S64x1, .i32⟩) xori,
    StableHlo.TRef.binary (.of main_call6_call0_v81 : StableHlo.TRef sig ⟨S64x1, .i32⟩) (.of main_call6_call0_v87 : StableHlo.TRef sig ⟨S64x1, .i32⟩) (.of main_call6_call0_v88 : StableHlo.TRef sig ⟨S64x1, .i32⟩) addi,
    StableHlo.TRef.nullary (.of main_call6_call0_c_22 : StableHlo.TRef sig ⟨S_, .i32⟩) (constantI S_ 32 26#32),
    StableHlo.TRef.unary (.of main_call6_call0_c_22 : StableHlo.TRef sig ⟨S_, .i32⟩) (.of main_call6_call0_v89 : StableHlo.TRef sig ⟨S64x1, .i32⟩) (broadcastInDim S64x1 ![] bcast_S_S64x1),
    StableHlo.TRef.binary (.of main_call6_call0_v87 : StableHlo.TRef sig ⟨S64x1, .i32⟩) (.of main_call6_call0_v89 : StableHlo.TRef sig ⟨S64x1, .i32⟩) (.of main_call6_call0_v90 : StableHlo.TRef sig ⟨S64x1, .i32⟩) Host.shli,
    StableHlo.TRef.nullary (.of main_call6_call0_c_23 : StableHlo.TRef sig ⟨S_, .i32⟩) (constantI S_ 32 6#32),
    StableHlo.TRef.unary (.of main_call6_call0_c_23 : StableHlo.TRef sig ⟨S_, .i32⟩) (.of main_call6_call0_v91 : StableHlo.TRef sig ⟨S64x1, .i32⟩) (broadcastInDim S64x1 ![] bcast_S_S64x1),
    StableHlo.TRef.binary (.of main_call6_call0_v87 : StableHlo.TRef sig ⟨S64x1, .i32⟩) (.of main_call6_call0_v91 : StableHlo.TRef sig ⟨S64x1, .i32⟩) (.of main_call6_call0_v92 : StableHlo.TRef sig ⟨S64x1, .i32⟩) Host.shrui,
    StableHlo.TRef.binary (.of main_call6_call0_v90 : StableHlo.TRef sig ⟨S64x1, .i32⟩) (.of main_call6_call0_v92 : StableHlo.TRef sig ⟨S64x1, .i32⟩) (.of main_call6_call0_v93 : StableHlo.TRef sig ⟨S64x1, .i32⟩) ori,
    StableHlo.TRef.binary (.of main_call6_call0_v88 : StableHlo.TRef sig ⟨S64x1, .i32⟩) (.of main_call6_call0_v93 : StableHlo.TRef sig ⟨S64x1, .i32⟩) (.of main_call6_call0_v94 : StableHlo.TRef sig ⟨S64x1, .i32⟩) xori,
    StableHlo.TRef.binary (.of main_call6_call0_v88 : StableHlo.TRef sig ⟨S64x1, .i32⟩) (.of main_call6_call0_v94 : StableHlo.TRef sig ⟨S64x1, .i32⟩) (.of main_call6_call0_v95 : StableHlo.TRef sig ⟨S64x1, .i32⟩) addi,
    StableHlo.TRef.nullary (.of main_call6_call0_c_24 : StableHlo.TRef sig ⟨S_, .i32⟩) (constantI S_ 32 6#32),
    StableHlo.TRef.unary (.of main_call6_call0_c_24 : StableHlo.TRef sig ⟨S_, .i32⟩) (.of main_call6_call0_v96 : StableHlo.TRef sig ⟨S64x1, .i32⟩) (broadcastInDim S64x1 ![] bcast_S_S64x1),
    StableHlo.TRef.binary (.of main_call6_call0_v94 : StableHlo.TRef sig ⟨S64x1, .i32⟩) (.of main_call6_call0_v96 : StableHlo.TRef sig ⟨S64x1, .i32⟩) (.of main_call6_call0_v97 : StableHlo.TRef sig ⟨S64x1, .i32⟩) Host.shli,
    StableHlo.TRef.nullary (.of main_call6_call0_c_25 : StableHlo.TRef sig ⟨S_, .i32⟩) (constantI S_ 32 26#32),
    StableHlo.TRef.unary (.of main_call6_call0_c_25 : StableHlo.TRef sig ⟨S_, .i32⟩) (.of main_call6_call0_v98 : StableHlo.TRef sig ⟨S64x1, .i32⟩) (broadcastInDim S64x1 ![] bcast_S_S64x1),
    StableHlo.TRef.binary (.of main_call6_call0_v94 : StableHlo.TRef sig ⟨S64x1, .i32⟩) (.of main_call6_call0_v98 : StableHlo.TRef sig ⟨S64x1, .i32⟩) (.of main_call6_call0_v99 : StableHlo.TRef sig ⟨S64x1, .i32⟩) Host.shrui,
    StableHlo.TRef.binary (.of main_call6_call0_v97 : StableHlo.TRef sig ⟨S64x1, .i32⟩) (.of main_call6_call0_v99 : StableHlo.TRef sig ⟨S64x1, .i32⟩) (.of main_call6_call0_v100 : StableHlo.TRef sig ⟨S64x1, .i32⟩) ori,
    StableHlo.TRef.binary (.of main_call6_call0_v95 : StableHlo.TRef sig ⟨S64x1, .i32⟩) (.of main_call6_call0_v100 : StableHlo.TRef sig ⟨S64x1, .i32⟩) (.of main_call6_call0_v101 : StableHlo.TRef sig ⟨S64x1, .i32⟩) xori,
    StableHlo.TRef.unary (.of main_call6_v5 : StableHlo.TRef sig ⟨S_, .i32⟩) (.of main_call6_call0_v102 : StableHlo.TRef sig ⟨S64x1, .i32⟩) (broadcastInDim S64x1 ![] bcast_S_S64x1),
    StableHlo.TRef.binary (.of main_call6_call0_v95 : StableHlo.TRef sig ⟨S64x1, .i32⟩) (.of main_call6_call0_v102 : StableHlo.TRef sig ⟨S64x1, .i32⟩) (.of main_call6_call0_v103 : StableHlo.TRef sig ⟨S64x1, .i32⟩) addi,
    StableHlo.TRef.unary (.of main_call6_v7 : StableHlo.TRef sig ⟨S_, .i32⟩) (.of main_call6_call0_v104 : StableHlo.TRef sig ⟨S64x1, .i32⟩) (broadcastInDim S64x1 ![] bcast_S_S64x1),
    StableHlo.TRef.binary (.of main_call6_call0_v101 : StableHlo.TRef sig ⟨S64x1, .i32⟩) (.of main_call6_call0_v104 : StableHlo.TRef sig ⟨S64x1, .i32⟩) (.of main_call6_call0_v105 : StableHlo.TRef sig ⟨S64x1, .i32⟩) addi,
    StableHlo.TRef.nullary (.of main_call6_call0_c_26 : StableHlo.TRef sig ⟨S_, .i32⟩) (constantI S_ 32 3#32),
    StableHlo.TRef.unary (.of main_call6_call0_c_26 : StableHlo.TRef sig ⟨S_, .i32⟩) (.of main_call6_call0_v106 : StableHlo.TRef sig ⟨S64x1, .i32⟩) (broadcastInDim S64x1 ![] bcast_S_S64x1),
    StableHlo.TRef.binary (.of main_call6_call0_v105 : StableHlo.TRef sig ⟨S64x1, .i32⟩) (.of main_call6_call0_v106 : StableHlo.TRef sig ⟨S64x1, .i32⟩) (.of main_call6_call0_v107 : StableHlo.TRef sig ⟨S64x1, .i32⟩) addi,
    StableHlo.TRef.binary (.of main_call6_call0_v103 : StableHlo.TRef sig ⟨S64x1, .i32⟩) (.of main_call6_call0_v107 : StableHlo.TRef sig ⟨S64x1, .i32⟩) (.of main_call6_call0_v108 : StableHlo.TRef sig ⟨S64x1, .i32⟩) addi,
    StableHlo.TRef.nullary (.of main_call6_call0_c_27 : StableHlo.TRef sig ⟨S_, .i32⟩) (constantI S_ 32 17#32),
    StableHlo.TRef.unary (.of main_call6_call0_c_27 : StableHlo.TRef sig ⟨S_, .i32⟩) (.of main_call6_call0_v109 : StableHlo.TRef sig ⟨S64x1, .i32⟩) (broadcastInDim S64x1 ![] bcast_S_S64x1),
    StableHlo.TRef.binary (.of main_call6_call0_v107 : StableHlo.TRef sig ⟨S64x1, .i32⟩) (.of main_call6_call0_v109 : StableHlo.TRef sig ⟨S64x1, .i32⟩) (.of main_call6_call0_v110 : StableHlo.TRef sig ⟨S64x1, .i32⟩) Host.shli,
    StableHlo.TRef.nullary (.of main_call6_call0_c_28 : StableHlo.TRef sig ⟨S_, .i32⟩) (constantI S_ 32 15#32),
    StableHlo.TRef.unary (.of main_call6_call0_c_28 : StableHlo.TRef sig ⟨S_, .i32⟩) (.of main_call6_call0_v111 : StableHlo.TRef sig ⟨S64x1, .i32⟩) (broadcastInDim S64x1 ![] bcast_S_S64x1),
    StableHlo.TRef.binary (.of main_call6_call0_v107 : StableHlo.TRef sig ⟨S64x1, .i32⟩) (.of main_call6_call0_v111 : StableHlo.TRef sig ⟨S64x1, .i32⟩) (.of main_call6_call0_v112 : StableHlo.TRef sig ⟨S64x1, .i32⟩) Host.shrui,
    StableHlo.TRef.binary (.of main_call6_call0_v110 : StableHlo.TRef sig ⟨S64x1, .i32⟩) (.of main_call6_call0_v112 : StableHlo.TRef sig ⟨S64x1, .i32⟩) (.of main_call6_call0_v113 : StableHlo.TRef sig ⟨S64x1, .i32⟩) ori,
    StableHlo.TRef.binary (.of main_call6_call0_v108 : StableHlo.TRef sig ⟨S64x1, .i32⟩) (.of main_call6_call0_v113 : StableHlo.TRef sig ⟨S64x1, .i32⟩) (.of main_call6_call0_v114 : StableHlo.TRef sig ⟨S64x1, .i32⟩) xori,
    StableHlo.TRef.binary (.of main_call6_call0_v108 : StableHlo.TRef sig ⟨S64x1, .i32⟩) (.of main_call6_call0_v114 : StableHlo.TRef sig ⟨S64x1, .i32⟩) (.of main_call6_call0_v115 : StableHlo.TRef sig ⟨S64x1, .i32⟩) addi,
    StableHlo.TRef.nullary (.of main_call6_call0_c_29 : StableHlo.TRef sig ⟨S_, .i32⟩) (constantI S_ 32 29#32),
    StableHlo.TRef.unary (.of main_call6_call0_c_29 : StableHlo.TRef sig ⟨S_, .i32⟩) (.of main_call6_call0_v116 : StableHlo.TRef sig ⟨S64x1, .i32⟩) (broadcastInDim S64x1 ![] bcast_S_S64x1),
    StableHlo.TRef.binary (.of main_call6_call0_v114 : StableHlo.TRef sig ⟨S64x1, .i32⟩) (.of main_call6_call0_v116 : StableHlo.TRef sig ⟨S64x1, .i32⟩) (.of main_call6_call0_v117 : StableHlo.TRef sig ⟨S64x1, .i32⟩) Host.shli,
    StableHlo.TRef.nullary (.of main_call6_call0_c_30 : StableHlo.TRef sig ⟨S_, .i32⟩) (constantI S_ 32 3#32),
    StableHlo.TRef.unary (.of main_call6_call0_c_30 : StableHlo.TRef sig ⟨S_, .i32⟩) (.of main_call6_call0_v118 : StableHlo.TRef sig ⟨S64x1, .i32⟩) (broadcastInDim S64x1 ![] bcast_S_S64x1),
    StableHlo.TRef.binary (.of main_call6_call0_v114 : StableHlo.TRef sig ⟨S64x1, .i32⟩) (.of main_call6_call0_v118 : StableHlo.TRef sig ⟨S64x1, .i32⟩) (.of main_call6_call0_v119 : StableHlo.TRef sig ⟨S64x1, .i32⟩) Host.shrui,
    StableHlo.TRef.binary (.of main_call6_call0_v117 : StableHlo.TRef sig ⟨S64x1, .i32⟩) (.of main_call6_call0_v119 : StableHlo.TRef sig ⟨S64x1, .i32⟩) (.of main_call6_call0_v120 : StableHlo.TRef sig ⟨S64x1, .i32⟩) ori,
    StableHlo.TRef.binary (.of main_call6_call0_v115 : StableHlo.TRef sig ⟨S64x1, .i32⟩) (.of main_call6_call0_v120 : StableHlo.TRef sig ⟨S64x1, .i32⟩) (.of main_call6_call0_v121 : StableHlo.TRef sig ⟨S64x1, .i32⟩) xori,
    StableHlo.TRef.binary (.of main_call6_call0_v115 : StableHlo.TRef sig ⟨S64x1, .i32⟩) (.of main_call6_call0_v121 : StableHlo.TRef sig ⟨S64x1, .i32⟩) (.of main_call6_call0_v122 : StableHlo.TRef sig ⟨S64x1, .i32⟩) addi,
    StableHlo.TRef.nullary (.of main_call6_call0_c_31 : StableHlo.TRef sig ⟨S_, .i32⟩) (constantI S_ 32 16#32),
    StableHlo.TRef.unary (.of main_call6_call0_c_31 : StableHlo.TRef sig ⟨S_, .i32⟩) (.of main_call6_call0_v123 : StableHlo.TRef sig ⟨S64x1, .i32⟩) (broadcastInDim S64x1 ![] bcast_S_S64x1),
    StableHlo.TRef.binary (.of main_call6_call0_v121 : StableHlo.TRef sig ⟨S64x1, .i32⟩) (.of main_call6_call0_v123 : StableHlo.TRef sig ⟨S64x1, .i32⟩) (.of main_call6_call0_v124 : StableHlo.TRef sig ⟨S64x1, .i32⟩) Host.shli,
    StableHlo.TRef.nullary (.of main_call6_call0_c_32 : StableHlo.TRef sig ⟨S_, .i32⟩) (constantI S_ 32 16#32),
    StableHlo.TRef.unary (.of main_call6_call0_c_32 : StableHlo.TRef sig ⟨S_, .i32⟩) (.of main_call6_call0_v125 : StableHlo.TRef sig ⟨S64x1, .i32⟩) (broadcastInDim S64x1 ![] bcast_S_S64x1),
    StableHlo.TRef.binary (.of main_call6_call0_v121 : StableHlo.TRef sig ⟨S64x1, .i32⟩) (.of main_call6_call0_v125 : StableHlo.TRef sig ⟨S64x1, .i32⟩) (.of main_call6_call0_v126 : StableHlo.TRef sig ⟨S64x1, .i32⟩) Host.shrui,
    StableHlo.TRef.binary (.of main_call6_call0_v124 : StableHlo.TRef sig ⟨S64x1, .i32⟩) (.of main_call6_call0_v126 : StableHlo.TRef sig ⟨S64x1, .i32⟩) (.of main_call6_call0_v127 : StableHlo.TRef sig ⟨S64x1, .i32⟩) ori,
    StableHlo.TRef.binary (.of main_call6_call0_v122 : StableHlo.TRef sig ⟨S64x1, .i32⟩) (.of main_call6_call0_v127 : StableHlo.TRef sig ⟨S64x1, .i32⟩) (.of main_call6_call0_v128 : StableHlo.TRef sig ⟨S64x1, .i32⟩) xori,
    StableHlo.TRef.binary (.of main_call6_call0_v122 : StableHlo.TRef sig ⟨S64x1, .i32⟩) (.of main_call6_call0_v128 : StableHlo.TRef sig ⟨S64x1, .i32⟩) (.of main_call6_call0_v129 : StableHlo.TRef sig ⟨S64x1, .i32⟩) addi,
    StableHlo.TRef.nullary (.of main_call6_call0_c_33 : StableHlo.TRef sig ⟨S_, .i32⟩) (constantI S_ 32 24#32),
    StableHlo.TRef.unary (.of main_call6_call0_c_33 : StableHlo.TRef sig ⟨S_, .i32⟩) (.of main_call6_call0_v130 : StableHlo.TRef sig ⟨S64x1, .i32⟩) (broadcastInDim S64x1 ![] bcast_S_S64x1),
    StableHlo.TRef.binary (.of main_call6_call0_v128 : StableHlo.TRef sig ⟨S64x1, .i32⟩) (.of main_call6_call0_v130 : StableHlo.TRef sig ⟨S64x1, .i32⟩) (.of main_call6_call0_v131 : StableHlo.TRef sig ⟨S64x1, .i32⟩) Host.shli,
    StableHlo.TRef.nullary (.of main_call6_call0_c_34 : StableHlo.TRef sig ⟨S_, .i32⟩) (constantI S_ 32 8#32),
    StableHlo.TRef.unary (.of main_call6_call0_c_34 : StableHlo.TRef sig ⟨S_, .i32⟩) (.of main_call6_call0_v132 : StableHlo.TRef sig ⟨S64x1, .i32⟩) (broadcastInDim S64x1 ![] bcast_S_S64x1),
    StableHlo.TRef.binary (.of main_call6_call0_v128 : StableHlo.TRef sig ⟨S64x1, .i32⟩) (.of main_call6_call0_v132 : StableHlo.TRef sig ⟨S64x1, .i32⟩) (.of main_call6_call0_v133 : StableHlo.TRef sig ⟨S64x1, .i32⟩) Host.shrui,
    StableHlo.TRef.binary (.of main_call6_call0_v131 : StableHlo.TRef sig ⟨S64x1, .i32⟩) (.of main_call6_call0_v133 : StableHlo.TRef sig ⟨S64x1, .i32⟩) (.of main_call6_call0_v134 : StableHlo.TRef sig ⟨S64x1, .i32⟩) ori,
    StableHlo.TRef.binary (.of main_call6_call0_v129 : StableHlo.TRef sig ⟨S64x1, .i32⟩) (.of main_call6_call0_v134 : StableHlo.TRef sig ⟨S64x1, .i32⟩) (.of main_call6_call0_v135 : StableHlo.TRef sig ⟨S64x1, .i32⟩) xori,
    StableHlo.TRef.unary (.of main_call6_v7 : StableHlo.TRef sig ⟨S_, .i32⟩) (.of main_call6_call0_v136 : StableHlo.TRef sig ⟨S64x1, .i32⟩) (broadcastInDim S64x1 ![] bcast_S_S64x1),
    StableHlo.TRef.binary (.of main_call6_call0_v129 : StableHlo.TRef sig ⟨S64x1, .i32⟩) (.of main_call6_call0_v136 : StableHlo.TRef sig ⟨S64x1, .i32⟩) (.of main_call6_call0_v137 : StableHlo.TRef sig ⟨S64x1, .i32⟩) addi,
    StableHlo.TRef.unary (.of main_call6_call0_v1 : StableHlo.TRef sig ⟨S_, .i32⟩) (.of main_call6_call0_v138 : StableHlo.TRef sig ⟨S64x1, .i32⟩) (broadcastInDim S64x1 ![] bcast_S_S64x1),
    StableHlo.TRef.binary (.of main_call6_call0_v135 : StableHlo.TRef sig ⟨S64x1, .i32⟩) (.of main_call6_call0_v138 : StableHlo.TRef sig ⟨S64x1, .i32⟩) (.of main_call6_call0_v139 : StableHlo.TRef sig ⟨S64x1, .i32⟩) addi,
    StableHlo.TRef.nullary (.of main_call6_call0_c_35 : StableHlo.TRef sig ⟨S_, .i32⟩) (constantI S_ 32 4#32),
    StableHlo.TRef.unary (.of main_call6_call0_c_35 : StableHlo.TRef sig ⟨S_, .i32⟩) (.of main_call6_call0_v140 : StableHlo.TRef sig ⟨S64x1, .i32⟩) (broadcastInDim S64x1 ![] bcast_S_S64x1),
    StableHlo.TRef.binary (.of main_call6_call0_v139 : StableHlo.TRef sig ⟨S64x1, .i32⟩) (.of main_call6_call0_v140 : StableHlo.TRef sig ⟨S64x1, .i32⟩) (.of main_call6_call0_v141 : StableHlo.TRef sig ⟨S64x1, .i32⟩) addi,
    StableHlo.TRef.binary (.of main_call6_call0_v137 : StableHlo.TRef sig ⟨S64x1, .i32⟩) (.of main_call6_call0_v141 : StableHlo.TRef sig ⟨S64x1, .i32⟩) (.of main_call6_call0_v142 : StableHlo.TRef sig ⟨S64x1, .i32⟩) addi,
    StableHlo.TRef.nullary (.of main_call6_call0_c_36 : StableHlo.TRef sig ⟨S_, .i32⟩) (constantI S_ 32 13#32),
    StableHlo.TRef.unary (.of main_call6_call0_c_36 : StableHlo.TRef sig ⟨S_, .i32⟩) (.of main_call6_call0_v143 : StableHlo.TRef sig ⟨S64x1, .i32⟩) (broadcastInDim S64x1 ![] bcast_S_S64x1),
    StableHlo.TRef.binary (.of main_call6_call0_v141 : StableHlo.TRef sig ⟨S64x1, .i32⟩) (.of main_call6_call0_v143 : StableHlo.TRef sig ⟨S64x1, .i32⟩) (.of main_call6_call0_v144 : StableHlo.TRef sig ⟨S64x1, .i32⟩) Host.shli,
    StableHlo.TRef.nullary (.of main_call6_call0_c_37 : StableHlo.TRef sig ⟨S_, .i32⟩) (constantI S_ 32 19#32),
    StableHlo.TRef.unary (.of main_call6_call0_c_37 : StableHlo.TRef sig ⟨S_, .i32⟩) (.of main_call6_call0_v145 : StableHlo.TRef sig ⟨S64x1, .i32⟩) (broadcastInDim S64x1 ![] bcast_S_S64x1),
    StableHlo.TRef.binary (.of main_call6_call0_v141 : StableHlo.TRef sig ⟨S64x1, .i32⟩) (.of main_call6_call0_v145 : StableHlo.TRef sig ⟨S64x1, .i32⟩) (.of main_call6_call0_v146 : StableHlo.TRef sig ⟨S64x1, .i32⟩) Host.shrui,
    StableHlo.TRef.binary (.of main_call6_call0_v144 : StableHlo.TRef sig ⟨S64x1, .i32⟩) (.of main_call6_call0_v146 : StableHlo.TRef sig ⟨S64x1, .i32⟩) (.of main_call6_call0_v147 : StableHlo.TRef sig ⟨S64x1, .i32⟩) ori,
    StableHlo.TRef.binary (.of main_call6_call0_v142 : StableHlo.TRef sig ⟨S64x1, .i32⟩) (.of main_call6_call0_v147 : StableHlo.TRef sig ⟨S64x1, .i32⟩) (.of main_call6_call0_v148 : StableHlo.TRef sig ⟨S64x1, .i32⟩) xori,
    StableHlo.TRef.binary (.of main_call6_call0_v142 : StableHlo.TRef sig ⟨S64x1, .i32⟩) (.of main_call6_call0_v148 : StableHlo.TRef sig ⟨S64x1, .i32⟩) (.of main_call6_call0_v149 : StableHlo.TRef sig ⟨S64x1, .i32⟩) addi,
    StableHlo.TRef.nullary (.of main_call6_call0_c_38 : StableHlo.TRef sig ⟨S_, .i32⟩) (constantI S_ 32 15#32),
    StableHlo.TRef.unary (.of main_call6_call0_c_38 : StableHlo.TRef sig ⟨S_, .i32⟩) (.of main_call6_call0_v150 : StableHlo.TRef sig ⟨S64x1, .i32⟩) (broadcastInDim S64x1 ![] bcast_S_S64x1),
    StableHlo.TRef.binary (.of main_call6_call0_v148 : StableHlo.TRef sig ⟨S64x1, .i32⟩) (.of main_call6_call0_v150 : StableHlo.TRef sig ⟨S64x1, .i32⟩) (.of main_call6_call0_v151 : StableHlo.TRef sig ⟨S64x1, .i32⟩) Host.shli,
    StableHlo.TRef.nullary (.of main_call6_call0_c_39 : StableHlo.TRef sig ⟨S_, .i32⟩) (constantI S_ 32 17#32),
    StableHlo.TRef.unary (.of main_call6_call0_c_39 : StableHlo.TRef sig ⟨S_, .i32⟩) (.of main_call6_call0_v152 : StableHlo.TRef sig ⟨S64x1, .i32⟩) (broadcastInDim S64x1 ![] bcast_S_S64x1),
    StableHlo.TRef.binary (.of main_call6_call0_v148 : StableHlo.TRef sig ⟨S64x1, .i32⟩) (.of main_call6_call0_v152 : StableHlo.TRef sig ⟨S64x1, .i32⟩) (.of main_call6_call0_v153 : StableHlo.TRef sig ⟨S64x1, .i32⟩) Host.shrui,
    StableHlo.TRef.binary (.of main_call6_call0_v151 : StableHlo.TRef sig ⟨S64x1, .i32⟩) (.of main_call6_call0_v153 : StableHlo.TRef sig ⟨S64x1, .i32⟩) (.of main_call6_call0_v154 : StableHlo.TRef sig ⟨S64x1, .i32⟩) ori,
    StableHlo.TRef.binary (.of main_call6_call0_v149 : StableHlo.TRef sig ⟨S64x1, .i32⟩) (.of main_call6_call0_v154 : StableHlo.TRef sig ⟨S64x1, .i32⟩) (.of main_call6_call0_v155 : StableHlo.TRef sig ⟨S64x1, .i32⟩) xori,
    StableHlo.TRef.binary (.of main_call6_call0_v149 : StableHlo.TRef sig ⟨S64x1, .i32⟩) (.of main_call6_call0_v155 : StableHlo.TRef sig ⟨S64x1, .i32⟩) (.of main_call6_call0_v156 : StableHlo.TRef sig ⟨S64x1, .i32⟩) addi,
    StableHlo.TRef.nullary (.of main_call6_call0_c_40 : StableHlo.TRef sig ⟨S_, .i32⟩) (constantI S_ 32 26#32),
    StableHlo.TRef.unary (.of main_call6_call0_c_40 : StableHlo.TRef sig ⟨S_, .i32⟩) (.of main_call6_call0_v157 : StableHlo.TRef sig ⟨S64x1, .i32⟩) (broadcastInDim S64x1 ![] bcast_S_S64x1),
    StableHlo.TRef.binary (.of main_call6_call0_v155 : StableHlo.TRef sig ⟨S64x1, .i32⟩) (.of main_call6_call0_v157 : StableHlo.TRef sig ⟨S64x1, .i32⟩) (.of main_call6_call0_v158 : StableHlo.TRef sig ⟨S64x1, .i32⟩) Host.shli,
    StableHlo.TRef.nullary (.of main_call6_call0_c_41 : StableHlo.TRef sig ⟨S_, .i32⟩) (constantI S_ 32 6#32),
    StableHlo.TRef.unary (.of main_call6_call0_c_41 : StableHlo.TRef sig ⟨S_, .i32⟩) (.of main_call6_call0_v159 : StableHlo.TRef sig ⟨S64x1, .i32⟩) (broadcastInDim S64x1 ![] bcast_S_S64x1),
    StableHlo.TRef.binary (.of main_call6_call0_v155 : StableHlo.TRef sig ⟨S64x1, .i32⟩) (.of main_call6_call0_v159 : StableHlo.TRef sig ⟨S64x1, .i32⟩) (.of main_call6_call0_v160 : StableHlo.TRef sig ⟨S64x1, .i32⟩) Host.shrui,
    StableHlo.TRef.binary (.of main_call6_call0_v158 : StableHlo.TRef sig ⟨S64x1, .i32⟩) (.of main_call6_call0_v160 : StableHlo.TRef sig ⟨S64x1, .i32⟩) (.of main_call6_call0_v161 : StableHlo.TRef sig ⟨S64x1, .i32⟩) ori,
    StableHlo.TRef.binary (.of main_call6_call0_v156 : StableHlo.TRef sig ⟨S64x1, .i32⟩) (.of main_call6_call0_v161 : StableHlo.TRef sig ⟨S64x1, .i32⟩) (.of main_call6_call0_v162 : StableHlo.TRef sig ⟨S64x1, .i32⟩) xori,
    StableHlo.TRef.binary (.of main_call6_call0_v156 : StableHlo.TRef sig ⟨S64x1, .i32⟩) (.of main_call6_call0_v162 : StableHlo.TRef sig ⟨S64x1, .i32⟩) (.of main_call6_call0_v163 : StableHlo.TRef sig ⟨S64x1, .i32⟩) addi,
    StableHlo.TRef.nullary (.of main_call6_call0_c_42 : StableHlo.TRef sig ⟨S_, .i32⟩) (constantI S_ 32 6#32),
    StableHlo.TRef.unary (.of main_call6_call0_c_42 : StableHlo.TRef sig ⟨S_, .i32⟩) (.of main_call6_call0_v164 : StableHlo.TRef sig ⟨S64x1, .i32⟩) (broadcastInDim S64x1 ![] bcast_S_S64x1),
    StableHlo.TRef.binary (.of main_call6_call0_v162 : StableHlo.TRef sig ⟨S64x1, .i32⟩) (.of main_call6_call0_v164 : StableHlo.TRef sig ⟨S64x1, .i32⟩) (.of main_call6_call0_v165 : StableHlo.TRef sig ⟨S64x1, .i32⟩) Host.shli,
    StableHlo.TRef.nullary (.of main_call6_call0_c_43 : StableHlo.TRef sig ⟨S_, .i32⟩) (constantI S_ 32 26#32),
    StableHlo.TRef.unary (.of main_call6_call0_c_43 : StableHlo.TRef sig ⟨S_, .i32⟩) (.of main_call6_call0_v166 : StableHlo.TRef sig ⟨S64x1, .i32⟩) (broadcastInDim S64x1 ![] bcast_S_S64x1),
    StableHlo.TRef.binary (.of main_call6_call0_v162 : StableHlo.TRef sig ⟨S64x1, .i32⟩) (.of main_call6_call0_v166 : StableHlo.TRef sig ⟨S64x1, .i32⟩) (.of main_call6_call0_v167 : StableHlo.TRef sig ⟨S64x1, .i32⟩) Host.shrui,
    StableHlo.TRef.binary (.of main_call6_call0_v165 : StableHlo.TRef sig ⟨S64x1, .i32⟩) (.of main_call6_call0_v167 : StableHlo.TRef sig ⟨S64x1, .i32⟩) (.of main_call6_call0_v168 : StableHlo.TRef sig ⟨S64x1, .i32⟩) ori,
    StableHlo.TRef.binary (.of main_call6_call0_v163 : StableHlo.TRef sig ⟨S64x1, .i32⟩) (.of main_call6_call0_v168 : StableHlo.TRef sig ⟨S64x1, .i32⟩) (.of main_call6_call0_v169 : StableHlo.TRef sig ⟨S64x1, .i32⟩) xori,
    StableHlo.TRef.unary (.of main_call6_call0_v1 : StableHlo.TRef sig ⟨S_, .i32⟩) (.of main_call6_call0_v170 : StableHlo.TRef sig ⟨S64x1, .i32⟩) (broadcastInDim S64x1 ![] bcast_S_S64x1),
    StableHlo.TRef.binary (.of main_call6_call0_v163 : StableHlo.TRef sig ⟨S64x1, .i32⟩) (.of main_call6_call0_v170 : StableHlo.TRef sig ⟨S64x1, .i32⟩) (.of main_call6_v19_0 : StableHlo.TRef sig ⟨S64x1, .i32⟩) addi,
    StableHlo.TRef.unary (.of main_call6_v5 : StableHlo.TRef sig ⟨S_, .i32⟩) (.of main_call6_call0_v172 : StableHlo.TRef sig ⟨S64x1, .i32⟩) (broadcastInDim S64x1 ![] bcast_S_S64x1),
    StableHlo.TRef.binary (.of main_call6_call0_v169 : StableHlo.TRef sig ⟨S64x1, .i32⟩) (.of main_call6_call0_v172 : StableHlo.TRef sig ⟨S64x1, .i32⟩) (.of main_call6_call0_v173 : StableHlo.TRef sig ⟨S64x1, .i32⟩) addi,
    StableHlo.TRef.nullary (.of main_call6_call0_c_44 : StableHlo.TRef sig ⟨S_, .i32⟩) (constantI S_ 32 5#32),
    StableHlo.TRef.unary (.of main_call6_call0_c_44 : StableHlo.TRef sig ⟨S_, .i32⟩) (.of main_call6_call0_v174 : StableHlo.TRef sig ⟨S64x1, .i32⟩) (broadcastInDim S64x1 ![] bcast_S_S64x1),
    StableHlo.TRef.binary (.of main_call6_call0_v173 : StableHlo.TRef sig ⟨S64x1, .i32⟩) (.of main_call6_call0_v174 : StableHlo.TRef sig ⟨S64x1, .i32⟩) (.of main_call6_v19_1 : StableHlo.TRef sig ⟨S64x1, .i32⟩) addi,
    StableHlo.TRef.binary (main_call6_call0 : fn_threefry2x32.Bufs).v171 (main_call6_call0 : fn_threefry2x32.Bufs).v175 (.of main_call6_v20 : StableHlo.TRef sig ⟨S64x1, .i32⟩) xori,
    StableHlo.TRef.nullary (.of main_call6_c_2 : StableHlo.TRef sig ⟨S_, .i32⟩) (constantI S_ 32 9#32),
    StableHlo.TRef.unary (.of main_call6_c_2 : StableHlo.TRef sig ⟨S_, .i32⟩) (.of main_call6_v21 : StableHlo.TRef sig ⟨S64x1, .i32⟩) (broadcastInDim S64x1 ![] bcast_S_S64x1),
    StableHlo.TRef.binary (.of main_call6_v20 : StableHlo.TRef sig ⟨S64x1, .i32⟩) (.of main_call6_v21 : StableHlo.TRef sig ⟨S64x1, .i32⟩) (.of main_call6_v22 : StableHlo.TRef sig ⟨S64x1, .i32⟩) Host.shrui,
    StableHlo.TRef.nullary (.of main_call6_c_3 : StableHlo.TRef sig ⟨S_, .i32⟩) (constantI S_ 32 1065353216#32),
    StableHlo.TRef.unary (.of main_call6_c_3 : StableHlo.TRef sig ⟨S_, .i32⟩) (.of main_call6_v23 : StableHlo.TRef sig ⟨S64x1, .i32⟩) (broadcastInDim S64x1 ![] bcast_S_S64x1),
    StableHlo.TRef.binary (.of main_call6_v22 : StableHlo.TRef sig ⟨S64x1, .i32⟩) (.of main_call6_v23 : StableHlo.TRef sig ⟨S64x1, .i32⟩) (.of main_call6_v24 : StableHlo.TRef sig ⟨S64x1, .i32⟩) ori,
    StableHlo.TRef.unary (.of main_call6_v24 : StableHlo.TRef sig ⟨S64x1, .i32⟩) (.of main_call6_v25 : StableHlo.TRef sig ⟨S64x1, .f32⟩) (bitcastToFloat .f32),
    StableHlo.TRef.nullary (.of main_call6_cst : StableHlo.TRef sig ⟨S_, .f32⟩) (constant S_ .f32 0x3F800000#32),
    StableHlo.TRef.unary (.of main_call6_cst : StableHlo.TRef sig ⟨S_, .f32⟩) (.of main_call6_v26 : StableHlo.TRef sig ⟨S64x1, .f32⟩) (broadcastInDim S64x1 ![] bcast_S_S64x1),
    StableHlo.TRef.binary (.of main_call6_v25 : StableHlo.TRef sig ⟨S64x1, .f32⟩) (.of main_call6_v26 : StableHlo.TRef sig ⟨S64x1, .f32⟩) (.of main_call6_v27 : StableHlo.TRef sig ⟨S64x1, .f32⟩) subf,
    StableHlo.TRef.binary (.of main_call6_v3 : StableHlo.TRef sig ⟨S1x1, .f32⟩) (.of main_call6_v2 : StableHlo.TRef sig ⟨S1x1, .f32⟩) (.of main_call6_v28 : StableHlo.TRef sig ⟨S1x1, .f32⟩) subf,
    StableHlo.TRef.unary (.of main_call6_v28 : StableHlo.TRef sig ⟨S1x1, .f32⟩) (.of main_call6_v29 : StableHlo.TRef sig ⟨S64x1, .f32⟩) (broadcastInDim S64x1 ![0, 1] bcast_S1x1_S64x1_0_1),
    StableHlo.TRef.binary (.of main_call6_v27 : StableHlo.TRef sig ⟨S64x1, .f32⟩) (.of main_call6_v29 : StableHlo.TRef sig ⟨S64x1, .f32⟩) (.of main_call6_v30 : StableHlo.TRef sig ⟨S64x1, .f32⟩) mulf,
    StableHlo.TRef.unary (.of main_call6_v2 : StableHlo.TRef sig ⟨S1x1, .f32⟩) (.of main_call6_v31 : StableHlo.TRef sig ⟨S64x1, .f32⟩) (broadcastInDim S64x1 ![0, 1] bcast_S1x1_S64x1_0_1),
    StableHlo.TRef.binary (.of main_call6_v30 : StableHlo.TRef sig ⟨S64x1, .f32⟩) (.of main_call6_v31 : StableHlo.TRef sig ⟨S64x1, .f32⟩) (.of main_call6_v32 : StableHlo.TRef sig ⟨S64x1, .f32⟩) addf,
    StableHlo.TRef.unary (.of main_call6_v2 : StableHlo.TRef sig ⟨S1x1, .f32⟩) (.of main_call6_v33 : StableHlo.TRef sig ⟨S64x1, .f32⟩) (broadcastInDim S64x1 ![0, 1] bcast_S1x1_S64x1_0_1),
    StableHlo.TRef.binary (.of main_call6_v33 : StableHlo.TRef sig ⟨S64x1, .f32⟩) (.of main_call6_v32 : StableHlo.TRef sig ⟨S64x1, .f32⟩) (.of main_v37 : StableHlo.TRef sig ⟨S64x1, .f32⟩) maximumf ]

/-- A stretch of main. -/
abbrev ops12 : List (HloOp τ sig (Elt F)) :=
  [ StableHlo.unary main_v37 main_v38 (broadcastInDim S64x100000 ![0, 1] bcast_S64x1_S64x100000_0_1 : (⟨S64x1, .f32⟩ : BufTy).Contents (Elt F) → (⟨S64x100000, .f32⟩ : BufTy).Contents (Elt F)),
    StableHlo.binary main_v29 main_v38 main_v39 (cmpf .olt : (⟨S64x100000, .f32⟩ : BufTy).Contents (Elt F) → (⟨S64x100000, .f32⟩ : BufTy).Contents (Elt F) → (⟨S64x100000, .i1⟩ : BufTy).Contents (Elt F)),
    StableHlo.unary main_v39 main_v40 ((extui 32 · natLt_1_32) : (⟨S64x100000, .i1⟩ : BufTy).Contents (Elt F) → (⟨S64x100000, .i32⟩ : BufTy).Contents (Elt F)),
    StableHlo.nullary main_c_10 (constantI S_ 32 0#32),
    StableHlo.binary main_v40 main_c_10 main_v41 ((fun x v => Host.reduce IntOp.addi x v reducesTo_S64x100000_S64_d1 h_S_) : (⟨S64x100000, .i32⟩ : BufTy).Contents (Elt F) → (⟨S_, .i32⟩ : BufTy).Contents (Elt F) → (⟨S64, .i32⟩ : BufTy).Contents (Elt F)),
    StableHlo.unary main_v41 main_v42 (broadcastInDim S64x1 ![0] bcast_S64_S64x1_0 : (⟨S64, .i32⟩ : BufTy).Contents (Elt F) → (⟨S64x1, .i32⟩ : BufTy).Contents (Elt F)),
    StableHlo.nullary main_c_11 (constantI S_ 32 0#32),
    StableHlo.nullary main_c_12 (constantI S_ 32 99999#32) ]

/-- The call of clip_1. -/
abbrev ops13 : List (HloOp τ sig (Elt F)) :=
  [ StableHlo.TRef.unary (.of main_c_11 : StableHlo.TRef sig ⟨S_, .i32⟩) (.of main_call7_v0 : StableHlo.TRef sig ⟨S_, .i32⟩) id,
    StableHlo.TRef.unary (.of main_call7_v0 : StableHlo.TRef sig ⟨S_, .i32⟩) (.of main_call7_v1 : StableHlo.TRef sig ⟨S64x1, .i32⟩) (broadcastInDim S64x1 ![] bcast_S_S64x1),
    StableHlo.TRef.binary (.of main_call7_v1 : StableHlo.TRef sig ⟨S64x1, .i32⟩) (.of main_v42 : StableHlo.TRef sig ⟨S64x1, .i32⟩) (.of main_call7_v2 : StableHlo.TRef sig ⟨S64x1, .i32⟩) maxsi,
    StableHlo.TRef.unary (.of main_c_12 : StableHlo.TRef sig ⟨S_, .i32⟩) (.of main_call7_v3 : StableHlo.TRef sig ⟨S_, .i32⟩) id,
    StableHlo.TRef.unary (.of main_call7_v3 : StableHlo.TRef sig ⟨S_, .i32⟩) (.of main_call7_v4 : StableHlo.TRef sig ⟨S64x1, .i32⟩) (broadcastInDim S64x1 ![] bcast_S_S64x1),
    StableHlo.TRef.binary (.of main_call7_v4 : StableHlo.TRef sig ⟨S64x1, .i32⟩) (.of main_call7_v2 : StableHlo.TRef sig ⟨S64x1, .i32⟩) (.of main_v43 : StableHlo.TRef sig ⟨S64x1, .i32⟩) minsi ]

/-- The call of take_along_axis_2. -/
abbrev ops14 : List (HloOp τ sig (Elt F)) :=
  [ StableHlo.TRef.nullary (.of main_call8_c : StableHlo.TRef sig ⟨S_, .i32⟩) (constantI S_ 32 0#32),
    StableHlo.TRef.unary (.of main_call8_c : StableHlo.TRef sig ⟨S_, .i32⟩) (.of main_call8_v0 : StableHlo.TRef sig ⟨S64x1, .i32⟩) (broadcastInDim S64x1 ![] bcast_S_S64x1),
    StableHlo.TRef.binary (.of main_v43 : StableHlo.TRef sig ⟨S64x1, .i32⟩) (.of main_call8_v0 : StableHlo.TRef sig ⟨S64x1, .i32⟩) (.of main_call8_v1 : StableHlo.TRef sig ⟨S64x1, .i1⟩) (cmpi .slt),
    StableHlo.TRef.nullary (.of main_call8_c_0 : StableHlo.TRef sig ⟨S_, .i32⟩) (constantI S_ 32 100000#32),
    StableHlo.TRef.unary (.of main_call8_c_0 : StableHlo.TRef sig ⟨S_, .i32⟩) (.of main_call8_v2 : StableHlo.TRef sig ⟨S64x1, .i32⟩) (broadcastInDim S64x1 ![] bcast_S_S64x1),
    StableHlo.TRef.binary (.of main_v43 : StableHlo.TRef sig ⟨S64x1, .i32⟩) (.of main_call8_v2 : StableHlo.TRef sig ⟨S64x1, .i32⟩) (.of main_call8_v3 : StableHlo.TRef sig ⟨S64x1, .i32⟩) addi,
    StableHlo.TRef.ternary (.of main_call8_v1 : StableHlo.TRef sig ⟨S64x1, .i1⟩) (.of main_call8_v3 : StableHlo.TRef sig ⟨S64x1, .i32⟩) (.of main_v43 : StableHlo.TRef sig ⟨S64x1, .i32⟩) (.of main_call8_v4 : StableHlo.TRef sig ⟨S64x1, .i32⟩) select,
    StableHlo.TRef.reshape (.of main_call8_v4 : StableHlo.TRef sig ⟨S64x1, .i32⟩) (.of main_call8_v5 : StableHlo.TRef sig ⟨S64x1x1, .i32⟩) (rfl : (.i32 : EltTy) = .i32) shapeCasts_S64x1_S64x1x1,
    StableHlo.TRef.nullary (.of main_call8_c_1 : StableHlo.TRef sig ⟨S1, .i32⟩) (constantI S1 32 99999#32),
    StableHlo.TRef.nullary (.of main_call8_c_2 : StableHlo.TRef sig ⟨S_, .i32⟩) (constantI S_ 32 0#32),
    StableHlo.TRef.unary (.of main_call8_c_2 : StableHlo.TRef sig ⟨S_, .i32⟩) (.of main_call8_v6 : StableHlo.TRef sig ⟨S64x1x1, .i32⟩) (broadcastInDim S64x1x1 ![] bcast_S_S64x1x1),
    StableHlo.TRef.binary (.of main_call8_v5 : StableHlo.TRef sig ⟨S64x1x1, .i32⟩) (.of main_call8_v6 : StableHlo.TRef sig ⟨S64x1x1, .i32⟩) (.of main_call8_v7 : StableHlo.TRef sig ⟨S64x1x1, .i1⟩) (cmpi .sge),
    StableHlo.TRef.unary (.of main_call8_c_1 : StableHlo.TRef sig ⟨S1, .i32⟩) (.of main_call8_v8 : StableHlo.TRef sig ⟨S1x1x1, .i32⟩) (broadcastInDim S1x1x1 ![2] bcast_S1_S1x1x1_2),
    StableHlo.TRef.unary (.of main_call8_v8 : StableHlo.TRef sig ⟨S1x1x1, .i32⟩) (.of main_call8_v9 : StableHlo.TRef sig ⟨S64x1x1, .i32⟩) (broadcastInDim S64x1x1 ![0, 1, 2] bcast_S1x1x1_S64x1x1_0_1_2),
    StableHlo.TRef.binary (.of main_call8_v5 : StableHlo.TRef sig ⟨S64x1x1, .i32⟩) (.of main_call8_v9 : StableHlo.TRef sig ⟨S64x1x1, .i32⟩) (.of main_call8_v10 : StableHlo.TRef sig ⟨S64x1x1, .i1⟩) (cmpi .sle),
    StableHlo.TRef.binary (.of main_call8_v7 : StableHlo.TRef sig ⟨S64x1x1, .i1⟩) (.of main_call8_v10 : StableHlo.TRef sig ⟨S64x1x1, .i1⟩) (.of main_call8_v11 : StableHlo.TRef sig ⟨S64x1x1, .i1⟩) andi,
    StableHlo.TRef.nullary (.of main_call8_c_3 : StableHlo.TRef sig ⟨S_, .i1⟩) (constantI S_ 1 1#1),
    StableHlo.TRef.binary (.of main_call8_v11 : StableHlo.TRef sig ⟨S64x1x1, .i1⟩) (.of main_call8_c_3 : StableHlo.TRef sig ⟨S_, .i1⟩) (.of main_call8_v12 : StableHlo.TRef sig ⟨S64x1, .i1⟩) (fun x v => Host.reduce IntOp.andi x v reducesTo_S64x1x1_S64x1_d2 h_S_),
    StableHlo.TRef.binary (.of main_v15 : StableHlo.TRef sig ⟨S64x100000, .i32⟩) (.of main_call8_v5 : StableHlo.TRef sig ⟨S64x1x1, .i32⟩) (.of main_call8_v13 : StableHlo.TRef sig ⟨S64x1, .i32⟩) (fun x i => Host.gather gather_S64x100000_S64x1x1_S64x1_n_1_0_0_1_2_11 x i),
    StableHlo.TRef.nullary (.of main_call8_c_4 : StableHlo.TRef sig ⟨S_, .i32⟩) (constantI S_ 32 2147483648#32),
    StableHlo.TRef.unary (.of main_call8_c_4 : StableHlo.TRef sig ⟨S_, .i32⟩) (.of main_call8_v14 : StableHlo.TRef sig ⟨S64x1, .i32⟩) (broadcastInDim S64x1 ![] bcast_S_S64x1),
    StableHlo.TRef.ternary (.of main_call8_v12 : StableHlo.TRef sig ⟨S64x1, .i1⟩) (.of main_call8_v13 : StableHlo.TRef sig ⟨S64x1, .i32⟩) (.of main_call8_v14 : StableHlo.TRef sig ⟨S64x1, .i32⟩) (.of main_v44 : StableHlo.TRef sig ⟨S64x1, .i32⟩) select ]

theorem ops0_sub : (ops0 : List (HloOp τ sig (Elt F))).Forall fun op => op.bufs ⊆ tcRefs τ sig :=
  nullary_bufs_sub ..
theorem ops1_sub : (ops1 : List (HloOp τ sig (Elt F))).Forall fun op => op.bufs ⊆ tcRefs τ sig :=
  ⟨unary_bufs_sub .., unary_bufs_sub .., binary_bufs_sub ..⟩
theorem ops2_sub : (ops2 : List (HloOp τ sig (Elt F))).Forall fun op => op.bufs ⊆ tcRefs τ sig :=
  ⟨unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub ..⟩
theorem ops3_sub : (ops3 : List (HloOp τ sig (Elt F))).Forall fun op => op.bufs ⊆ tcRefs τ sig :=
  ⟨nullary_bufs_sub .., binary_bufs_sub .., binary_bufs_sub ..⟩
theorem ops4_sub : (ops4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
theorem ops5_sub : (ops5 : List (HloOp τ sig (Elt F))).Forall fun op => op.bufs ⊆ tcRefs τ sig :=
  ⟨nullary_bufs_sub .., unary_bufs_sub .., binary_bufs_sub ..⟩
theorem ops6_sub : (ops6 : List (HloOp τ sig (Elt F))).Forall fun op => op.bufs ⊆ tcRefs τ sig :=
  ⟨unary_bufs_sub .., binary_bufs_sub .., unary_bufs_sub .., nullary_bufs_sub .., unary_bufs_sub .., unary_bufs_sub .., binary_bufs_sub .., nullary_bufs_sub ..⟩
theorem ops7_sub : (ops7 : List (HloOp τ sig (Elt F))).Forall fun op => op.bufs ⊆ tcRefs τ sig :=
  ⟨unary_bufs_sub .., unary_bufs_sub .., ternary_bufs_sub ..⟩
theorem ops8_sub : (ops8 : List (HloOp τ sig (Elt F))).Forall fun op => op.bufs ⊆ tcRefs τ sig :=
  ⟨nullary_bufs_sub .., binary_bufs_sub .., unary_bufs_sub .., unary_bufs_sub .., binary_bufs_sub ..⟩
theorem ops9_sub : (ops9 : List (HloOp τ sig (Elt F))).Forall fun op => op.bufs ⊆ tcRefs τ sig :=
  ⟨nullary_bufs_sub .., unary_bufs_sub .., binary_bufs_sub ..⟩
theorem ops10_sub : (ops10 : List (HloOp τ sig (Elt F))).Forall fun op => op.bufs ⊆ tcRefs τ sig :=
  ⟨nullary_bufs_sub .., nullary_bufs_sub .., binary_bufs_sub .., unary_bufs_sub .., unary_bufs_sub .., nullary_bufs_sub .., binary_bufs_sub .., unary_bufs_sub .., unary_bufs_sub .., binary_bufs_sub .., nullary_bufs_sub .., nullary_bufs_sub ..⟩
theorem ops11_sub : (ops11 : List (HloOp τ sig (Elt F))).Forall fun op => op.bufs ⊆ tcRefs τ sig :=
  ⟨unary_bufs_sub .., unary_bufs_sub .., unary_bufs_sub .., unary_bufs_sub .., unary_bufs_sub .., reshape_bufs_sub .., unary_bufs_sub .., reshape_bufs_sub .., nullary_bufs_sub .., nullary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub .., binary_bufs_sub .., nullary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., unary_bufs_sub .., binary_bufs_sub .., unary_bufs_sub .., binary_bufs_sub .., unary_bufs_sub .., binary_bufs_sub ..⟩
theorem ops12_sub : (ops12 : List (HloOp τ sig (Elt F))).Forall fun op => op.bufs ⊆ tcRefs τ sig :=
  ⟨unary_bufs_sub .., binary_bufs_sub .., unary_bufs_sub .., nullary_bufs_sub .., binary_bufs_sub .., unary_bufs_sub .., nullary_bufs_sub .., nullary_bufs_sub ..⟩
theorem ops13_sub : (ops13 : List (HloOp τ sig (Elt F))).Forall fun op => op.bufs ⊆ tcRefs τ sig :=
  ⟨unary_bufs_sub .., unary_bufs_sub .., binary_bufs_sub .., unary_bufs_sub .., unary_bufs_sub .., binary_bufs_sub ..⟩
theorem ops14_sub : (ops14 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

/-- All of the reference's operations, in order. -/
abbrev ops : List (HloOp τ sig (Elt F)) :=
  ops0 ++ ops1 ++ ops2 ++ ops3 ++ ops4 ++ ops5 ++ ops6 ++ ops7 ++ ops8 ++ ops9 ++ ops10 ++ ops11 ++ ops12 ++ ops13 ++ ops14

end Cert.ReferenceIdeal.Hand

end
-- ==== Proof.RefRun.lean ====
module

public import proofs.«01_k».proof.Proof.RefOps
public import Idealize.ShloMosaic.Lib.StableHlo.RunRead
public import Idealize.ShloMosaic.Lib.Quiescent
public import Idealize.ShloMosaic.Lib.Claim

@[expose] public section

set_option maxRecDepth 65536

/-!
The reference's run: it ends, with every buffer at what its operations leave, its arguments
unchanged, and no counter raised (the machine it runs on has none).
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem forall_append {α : Type} {p : α → Prop} {l₁ l₂ : List α} (h₁ : l₁.Forall p) (h₂ : l₂.Forall p) : (l₁ ++ l₂).Forall p :=
  List.forall_iff_forall_mem.mpr fun x hx => (List.mem_append.mp hx).elim (List.forall_iff_forall_mem.mp h₁ x) (List.forall_iff_forall_mem.mp h₂ x)

theorem ops_sub : (ops : List (HloOp τ sig (Elt F))).Forall fun op => op.bufs ⊆ tcRefs τ sig :=
  forall_append (forall_append (forall_append (forall_append (forall_append (forall_append (forall_append (forall_append (forall_append (forall_append (forall_append (forall_append (forall_append (forall_append
    ops0_sub ops1_sub) ops2_sub) ops3_sub) ops4_sub) ops5_sub) ops6_sub) ops7_sub) ops8_sub) ops9_sub) ops10_sub) ops11_sub) ops12_sub) ops13_sub) ops14_sub

set_option maxHeartbeats 4000000 in
theorem run_after (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ

set_option maxHeartbeats 4000000 in
theorem arg0_kept (V : Valuation τ sig (Elt F)) : after ops V (Proc.devRef .tc main_arg0) = V (Proc.devRef .tc main_arg0) := by
  after_reads_simp
set_option maxHeartbeats 4000000 in
theorem arg1_kept (V : Valuation τ sig (Elt F)) : after ops V (Proc.devRef .tc main_arg1) = V (Proc.devRef .tc main_arg1) := by
  after_reads_simp
set_option maxHeartbeats 4000000 in
theorem arg2_kept (V : Valuation τ sig (Elt F)) : after ops V (Proc.devRef .tc main_arg2) = V (Proc.devRef .tc main_arg2) := by
  after_reads_simp

/-- The frame. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h c main_arg0).trans (arg0_kept _), (h c main_arg1).trans (arg1_kept _), (h c main_arg2).trans (arg2_kept _)⟩,
    sem_eq_zero_of_no_sems rfl r.2⟩) (run_after m ρ)

end Cert.ReferenceIdeal.Hand

end
-- ==== Proof.PreFacts.lean ====
module

public import proofs.«01_k».proof.Pre_resolvable

/-! The shape facts the precondition asks for, each by evaluation. -/

@[expose] public section

set_option maxRecDepth 65536

namespace Cert.Row.Ref

theorem preFacts : Cert.Pre_resolvable.Facts := by
  constructor <;> decide

end Cert.Row.Ref
-- ==== Proof.RowMath.lean ====
module

public import Idealize.ShloMosaic.Lib.IdealHost
public import Mathlib.Algebra.BigOperators.Fin
public import Mathlib.Data.Real.Basic
public import Mathlib.Tactic.Linarith
public import Mathlib.Tactic.Ring
public import Mathlib.Tactic.Positivity

@[expose] public section

/-!
One row's arithmetic over the reals: weights in descending order, the mass of the first of them,
the mass above a threshold, and the ties.
-/

noncomputable section

namespace Cert.Row

open Finset

variable {n : ℕ}

/-- The sum of the first `k` weights. -/
def pre (a : Fin n → ℝ) (k : ℕ) : ℝ := ∑ l : Fin n, if l.val < k then a l else 0

/-- The sum of the weights above a threshold. -/
def mass {m : ℕ} (a : Fin m → ℝ) (x : ℝ) : ℝ := ∑ l : Fin m, if x < a l then a l else 0

/-- How many weights equal a value. -/
def tieCount {m : ℕ} (a : Fin m → ℝ) (v : ℝ) : ℕ := (univ.filter fun l : Fin m => a l = v).card

/-- How many weights before the `k`-th equal it. -/
def tieBefore (a : Fin n → ℝ) (k : Fin n) : ℕ := (univ.filter fun l : Fin n => l < k ∧ a l = a k).card

theorem pre_mono {a : Fin n → ℝ} (h0 : ∀ l, 0 ≤ a l) {j k : ℕ} (h : j ≤ k) : pre a j ≤ pre a k := by
  refine sum_le_sum fun l _ => ?_
  by_cases h1 : l.val < j
  · rw [if_pos h1, if_pos (by omega)]
  · rw [if_neg h1]; split_ifs
    · exact h0 l
    · exact le_rfl

theorem pre_zero (a : Fin n → ℝ) : pre a 0 = 0 := by simp [pre]

theorem pre_all (a : Fin n → ℝ) {k : ℕ} (h : n ≤ k) : pre a k = ∑ l, a l := by
  refine sum_congr rfl fun l _ => ?_
  rw [if_pos (by have := l.isLt; omega)]

theorem pre_succ (a : Fin n → ℝ) (k : Fin n) : pre a (k.val + 1) = pre a k.val + a k := by
  have h : a k = ∑ l : Fin n, if l = k then a l else 0 := by simp
  rw [h, pre, pre, ← sum_add_distrib]
  refine sum_congr rfl fun l _ => ?_
  by_cases h1 : l = k
  · subst h1; simp
  · have : l.val ≠ k.val := fun h => h1 (Fin.ext h)
    by_cases h2 : l.val < k.val
    · rw [if_pos (by omega), if_pos h2, if_neg h1, add_zero]
    · rw [if_neg (by omega), if_neg h2, if_neg h1, add_zero]

theorem mass_nonneg {m : ℕ} {a : Fin m → ℝ} (h0 : ∀ l, 0 ≤ a l) (x : ℝ) : 0 ≤ mass a x :=
  sum_nonneg fun l _ => by split_ifs; exacts [h0 l, le_rfl]

theorem mass_le_pre {a : Fin n → ℝ} (ha : Antitone a) (h0 : ∀ l, 0 ≤ a l) (k : Fin n) {x : ℝ} (hx : a k ≤ x) :
    mass a x ≤ pre a k.val := by
  refine sum_le_sum fun l _ => ?_
  by_cases h : x < a l
  · have : l < k := by
      by_contra hl
      exact absurd (ha (not_lt.mp hl)) (by linarith [hx])
    rw [if_pos h, if_pos (Fin.lt_def.mp this)]
  · rw [if_neg h]; split_ifs
    · exact h0 l
    · exact le_rfl

theorem pre_le_mass {a : Fin n → ℝ} (ha : Antitone a) (h0 : ∀ l, 0 ≤ a l) (k : Fin n) {x : ℝ} (hx : x < a k) :
    pre a (k.val + 1) ≤ mass a x := by
  refine sum_le_sum fun l _ => ?_
  by_cases h : l.val < k.val + 1
  · have : a k ≤ a l := ha (Fin.le_def.mpr (by omega))
    rw [if_pos h, if_pos (by linarith)]
  · rw [if_neg h]; split_ifs
    · exact h0 l
    · exact le_rfl

theorem pre_eq_mass_add {a : Fin n → ℝ} (ha : Antitone a) (k : Fin n) :
    pre a k.val = mass a (a k) + tieBefore a k * a k := by
  have h : (tieBefore a k : ℝ) * a k = ∑ l : Fin n, if l < k ∧ a l = a k then a k else 0 := by
    rw [← sum_filter, sum_const, nsmul_eq_mul]; rfl
  rw [h, pre, mass, ← sum_add_distrib]
  refine sum_congr rfl fun l _ => ?_
  by_cases h1 : l < k
  · have h2 : a k ≤ a l := ha h1.le
    rw [if_pos (Fin.lt_def.mp h1)]
    by_cases h3 : a l = a k
    · rw [if_neg (by rw [h3]; exact lt_irrefl _), if_pos ⟨h1, h3⟩, zero_add, h3]
    · rw [if_pos (lt_of_le_of_ne h2 (Ne.symm h3)), if_neg (fun h => h3 h.2), add_zero]
  · have h2 : a l ≤ a k := ha (not_lt.mp h1)
    rw [if_neg (fun h => h1 (Fin.lt_def.mpr h)), if_neg (not_lt.mpr h2), if_neg (fun h => h1 h.1), zero_add]

theorem tieBefore_lt (a : Fin n → ℝ) (k : Fin n) : tieBefore a k + 1 ≤ tieCount a (a k) := by
  refine Nat.succ_le_of_lt (card_lt_card ?_)
  refine ⟨fun l hl => ?_, fun h => ?_⟩
  · simp only [mem_filter, mem_univ, true_and] at hl ⊢
    exact hl.2
  · have : k ∈ univ.filter fun l : Fin n => l < k ∧ a l = a k := h (by simp)
    simp at this

/-- A property of the first few positions holds exactly below their number. -/
theorem iff_lt_card (p : Fin n → Prop) [DecidablePred p] (h : ∀ j k, j ≤ k → p k → p j) (k : Fin n) :
    p k ↔ k.val < (univ.filter p).card := by
  constructor
  · intro hk
    have : (Finset.Iic k) ⊆ univ.filter p := fun j hj => by
      simp only [mem_filter, mem_univ, true_and]
      exact h j k (Finset.mem_Iic.mp hj) hk
    have := card_le_card this
    rw [Fin.card_Iic] at this
    omega
  · intro hk
    by_contra hn
    have : univ.filter p ⊆ Finset.Iio k := fun j hj => by
      simp only [mem_filter, mem_univ, true_and] at hj
      refine Finset.mem_Iio.mpr (not_le.mp fun hkj => hn (h k j hkj hj))
    have := card_le_card this
    rw [Fin.card_Iio] at this
    omega

/-- Along an injection whose complement carries nothing, a sum is unchanged. -/
theorem sum_along {m : ℕ} {M : Type} [AddCommMonoid M] (e : Fin n → Fin m) (he : Function.Injective e) (g : Fin m → M)
    (h : ∀ j, j ∉ Set.range e → g j = 0) : ∑ j, g j = ∑ k, g (e k) :=
  (Fintype.sum_of_injective e he (fun k => g (e k)) g h fun _ => rfl).symm

end Cert.Row
-- ==== Proof.RowFloat.lean ====
module

public import proofs.«01_k».proof.Proof.RowMath
public import Mathlib.Tactic.NormNum
public import Mathlib.Tactic.FieldSimp

@[expose] public section

/-!
The real numbers the nonnegative float32 patterns denote, in order of their patterns, how far apart
neighbours lie, and bisection over patterns.
-/

noncomputable section

namespace Cert.Row

open Idealize.ShloMosaic

/-- What the nonnegative finite float32 pattern `b` denotes. -/
def fval (b : ℕ) : ℝ :=
  if b < 2 ^ 23 then b * (2 : ℝ) ^ (-149 : ℤ)
  else ((2 ^ 23 + b % 2 ^ 23 : ℕ) : ℝ) * (2 : ℝ) ^ (((b / 2 ^ 23 : ℕ) : ℤ) - 150)

theorem ofBits_eq_fval (b : BitVec 32) (h : b.toNat < 0x7F800000) : Ideal.ofBits .f32 b = ((fval b.toNat : ℝ) : EReal) := by
  have hneg : (b.extractLsb' (8 + 23) 1 == 1#1) = false := by
    rw [beq_eq_false_iff_ne]
    intro h1
    have h2 := congrArg BitVec.toNat h1
    simp only [BitVec.extractLsb'_toNat, Nat.shiftRight_eq_div_pow] at h2
    have : b.toNat / 2 ^ (8 + 23) = 0 := by omega
    rw [this] at h2; simp at h2
  have hex : (b.extractLsb' 23 8).toNat = b.toNat / 2 ^ 23 := by
    simp only [BitVec.extractLsb'_toNat, Nat.shiftRight_eq_div_pow]
    omega
  have hfr : (b.extractLsb' 0 23).toNat = b.toNat % 2 ^ 23 := by
    simp only [BitVec.extractLsb'_toNat, Nat.shiftRight_zero]
  show Ideal.ieee 8 23 b = _
  unfold Ideal.ieee
  simp only [hneg, hex, hfr]
  rw [if_neg (by omega)]
  unfold fval
  by_cases h1 : b.toNat < 2 ^ 23
  · have h2 : b.toNat / 2 ^ 23 = 0 := by omega
    have h3 : b.toNat % 2 ^ 23 = b.toNat := by omega
    rw [if_pos h2, if_pos h1, h3]
    norm_num
  · have h2 : b.toNat / 2 ^ 23 ≠ 0 := by omega
    rw [if_neg h2, if_neg h1]
    have h4 : (((b.toNat / 2 ^ 23 : ℕ) : ℤ) - (2 ^ (8 - 1) - 1) - (23 : ℕ)) = ((b.toNat / 2 ^ 23 : ℕ) : ℤ) - 150 := by
      norm_num; ring
    rw [h4]
    norm_num

theorem fval_succ_small {b : ℕ} (h : b < 2 ^ 23) : fval (b + 1) = fval b + (2 : ℝ) ^ (-149 : ℤ) := by
  unfold fval
  rw [if_pos h]
  by_cases h1 : b + 1 < 2 ^ 23
  · rw [if_pos h1]; push_cast; ring
  · have h2 : b = 2 ^ 23 - 1 := by omega
    subst h2
    norm_num

theorem fval_succ_large {b : ℕ} (h : ¬ b < 2 ^ 23) :
    fval (b + 1) = fval b + (2 : ℝ) ^ (((b / 2 ^ 23 : ℕ) : ℤ) - 150) := by
  unfold fval
  rw [if_neg h, if_neg (by omega)]
  by_cases h1 : b % 2 ^ 23 + 1 < 2 ^ 23
  · have h2 : (b + 1) % 2 ^ 23 = b % 2 ^ 23 + 1 := by omega
    have h3 : (b + 1) / 2 ^ 23 = b / 2 ^ 23 := by omega
    rw [h2, h3]; push_cast; ring
  · have h2 : (b + 1) % 2 ^ 23 = 0 := by omega
    have h3 : (b + 1) / 2 ^ 23 = b / 2 ^ 23 + 1 := by omega
    have h4 : b % 2 ^ 23 = 2 ^ 23 - 1 := by omega
    rw [h2, h3, h4]
    have h5 : (((b / 2 ^ 23 + 1 : ℕ) : ℤ) - 150) = (((b / 2 ^ 23 : ℕ) : ℤ) - 150) + 1 := by push_cast; ring
    rw [h5, zpow_add_one₀ (by norm_num)]
    norm_num
    ring

theorem fval_mono : Monotone fval := by
  refine monotone_nat_of_le_succ fun b => ?_
  by_cases h : b < 2 ^ 23
  · rw [fval_succ_small h]; have : (0 : ℝ) < (2 : ℝ) ^ (-149 : ℤ) := by positivity
    linarith
  · rw [fval_succ_large h]; have : (0 : ℝ) < (2 : ℝ) ^ (((b / 2 ^ 23 : ℕ) : ℤ) - 150) := by positivity
    linarith

theorem fval_zero : fval 0 = 0 := by simp [fval]

theorem fval_nonneg (b : ℕ) : 0 ≤ fval b := fval_zero ▸ fval_mono (Nat.zero_le b)

theorem fval_tiny : fval 1 = (2 : ℝ) ^ (-149 : ℤ) := by simp [fval]

theorem fval_small : fval 0x00800000 = (2 : ℝ) ^ (-126 : ℤ) := by norm_num [fval]

theorem fval_one : fval 0x3F800000 = 1 := by norm_num [fval]

theorem fval_gap : fval 0x3F800001 = 1 + (2 : ℝ) ^ (-23 : ℤ) := by norm_num [fval]

theorem fval_le_small {b : ℕ} (h : b ≤ 2 ^ 23) : fval b ≤ (2 : ℝ) ^ (-126 : ℤ) :=
  fval_small ▸ fval_mono h

/-- The first pattern at or above a value of normal size lies below the value's next neighbour. -/
theorem fval_first_lt {v : ℝ} (hv : (2 : ℝ) ^ (-126 : ℤ) ≤ v) {b : ℕ} (hlt : ∀ b' < b, fval b' < v) :
    fval b < v * (1 + (2 : ℝ) ^ (-23 : ℤ)) := by
  have hp : (0 : ℝ) < (2 : ℝ) ^ (-126 : ℤ) := by positivity
  have hq : (0 : ℝ) < (2 : ℝ) ^ (-23 : ℤ) := by positivity
  have hv0 : 0 < v := lt_of_lt_of_le hp hv
  have hstep : v < v * (1 + (2 : ℝ) ^ (-23 : ℤ)) := by
    have := mul_pos hv0 hq
    linarith [mul_add v 1 ((2 : ℝ) ^ (-23 : ℤ))]
  rcases b with _ | b
  · rw [fval_zero]; linarith
  by_cases h : b < 2 ^ 23
  · have := fval_le_small (b := b + 1) (by omega)
    linarith
  · have h1 := hlt b (by omega)
    have h2 := fval_succ_large h
    have h3 : (2 : ℝ) ^ (((b / 2 ^ 23 : ℕ) : ℤ) - 150) ≤ fval b * (2 : ℝ) ^ (-23 : ℤ) := by
      unfold fval
      rw [if_neg h]
      have hx : (0 : ℝ) < (2 : ℝ) ^ (((b / 2 ^ 23 : ℕ) : ℤ) - 150) := by positivity
      have h4 : (2 : ℝ) ^ 23 ≤ ((2 ^ 23 + b % 2 ^ 23 : ℕ) : ℝ) := by
        push_cast
        have : (0 : ℝ) ≤ ((b % 2 ^ 23 : ℕ) : ℝ) := Nat.cast_nonneg _
        push_cast at this
        linarith
      have h5 : (2 : ℝ) ^ 23 * (2 : ℝ) ^ (-23 : ℤ) = 1 := by norm_num
      calc (2 : ℝ) ^ (((b / 2 ^ 23 : ℕ) : ℤ) - 150)
          = ((2 : ℝ) ^ 23 * (2 : ℝ) ^ (-23 : ℤ)) * (2 : ℝ) ^ (((b / 2 ^ 23 : ℕ) : ℤ) - 150) := by rw [h5, one_mul]
        _ = (2 : ℝ) ^ 23 * ((2 : ℝ) ^ (((b / 2 ^ 23 : ℕ) : ℤ) - 150) * (2 : ℝ) ^ (-23 : ℤ)) := by ring
        _ ≤ ((2 ^ 23 + b % 2 ^ 23 : ℕ) : ℝ) * ((2 : ℝ) ^ (((b / 2 ^ 23 : ℕ) : ℤ) - 150) * (2 : ℝ) ^ (-23 : ℤ)) :=
            mul_le_mul_of_nonneg_right h4 (by positivity)
        _ = _ := by ring
    have h6 : fval b * (2 : ℝ) ^ (-23 : ℤ) < v * (2 : ℝ) ^ (-23 : ℤ) := mul_lt_mul_of_pos_right h1 hq
    rw [h2, mul_add, mul_one]
    exact add_lt_add_of_lt_of_le h1 (h3.trans h6.le)

/-! ### Bisection over words -/

/-- The middle of an interval of words. -/
def mid (acc : BitVec 32 × BitVec 32) : BitVec 32 := (acc.1 + acc.2) >>> 1

/-- One halving: the lower half where the condition holds at the middle. -/
def bisStep (c : BitVec 32 → Prop) [DecidablePred c] (acc : BitVec 32 × BitVec 32) : BitVec 32 × BitVec 32 :=
  (if c (mid acc) then acc.1 else mid acc + 1#32, if c (mid acc) then mid acc else acc.2)

/-- The lower end after `K` halvings from zero and `hi`. -/
def bis (c : BitVec 32 → Prop) [DecidablePred c] (hi : BitVec 32) (K : ℕ) : BitVec 32 :=
  ((bisStep c)^[K] (0#32, hi)).1

/-- What every halving keeps. -/
structure BisInv (c : BitVec 32 → Prop) (hi : BitVec 32) (gap : ℕ) (acc : BitVec 32 × BitVec 32) : Prop where
  lo_le : acc.1.toNat ≤ hi.toNat + 1
  hi_le : acc.2.toNat ≤ hi.toNat
  top : c acc.2 ∨ acc.2 = hi
  below : ∀ b : BitVec 32, b.toNat < acc.1.toNat → ¬ c b
  near : acc.2.toNat + 1 ≤ acc.1.toNat + gap

theorem mid_toNat {hi : BitVec 32} (hh : hi.toNat < 2 ^ 30) {acc : BitVec 32 × BitVec 32} (h1 : acc.1.toNat ≤ hi.toNat + 1)
    (h2 : acc.2.toNat ≤ hi.toNat) : (mid acc).toNat = (acc.1.toNat + acc.2.toNat) / 2 := by
  unfold mid
  rw [BitVec.toNat_ushiftRight, BitVec.toNat_add, Nat.shiftRight_eq_div_pow]
  rw [Nat.mod_eq_of_lt (by omega)]

theorem bisStep_inv (c : BitVec 32 → Prop) [DecidablePred c] {hi : BitVec 32} (hh : hi.toNat < 2 ^ 30)
    (hup : ∀ b b' : BitVec 32, b.toNat ≤ b'.toNat → b'.toNat ≤ hi.toNat → c b → c b') {g : ℕ} {acc : BitVec 32 × BitVec 32}
    (h : BisInv c hi (2 * g) acc) (hg : 0 < g) : BisInv c hi g (bisStep c acc) := by
  have hm := mid_toNat hh h.lo_le h.hi_le
  have h1 := h.lo_le
  have h2 := h.hi_le
  have h3 := h.near
  unfold bisStep
  by_cases hc : c (mid acc)
  · simp only [if_pos hc]
    exact ⟨h1, by dsimp only; omega, Or.inl hc, h.below, by dsimp only; omega⟩
  · simp only [if_neg hc]
    have hs : (mid acc + 1#32).toNat = (mid acc).toNat + 1 := by
      rw [BitVec.toNat_add, Nat.mod_eq_of_lt] <;> simp <;> omega
    refine ⟨by dsimp only; omega, h2, h.top, fun b hb hcb => ?_, by dsimp only; omega⟩
    dsimp only at hb
    exact hc (hup b (mid acc) (by omega) (by omega) hcb)

theorem bis_inv (c : BitVec 32 → Prop) [DecidablePred c] {hi : BitVec 32} (hh : hi.toNat < 2 ^ 30)
    (hup : ∀ b b' : BitVec 32, b.toNat ≤ b'.toNat → b'.toNat ≤ hi.toNat → c b → c b') (K : ℕ) :
    ∀ (g : ℕ) (acc : BitVec 32 × BitVec 32), 0 < g → BisInv c hi (2 ^ K * g) acc → BisInv c hi g ((bisStep c)^[K] acc) := by
  induction K with
  | zero => intro g acc hg h; simpa using h
  | succ K ih =>
    intro g acc hg h
    rw [Function.iterate_succ_apply']
    refine bisStep_inv c hh hup (ih (2 * g) acc (by omega) ?_) hg
    rw [show 2 ^ K * (2 * g) = 2 ^ (K + 1) * g by ring]
    exact h

theorem bis_end (c : BitVec 32 → Prop) [DecidablePred c] {hi : BitVec 32} (hh : hi.toNat < 2 ^ 30)
    (hup : ∀ b b' : BitVec 32, b.toNat ≤ b'.toNat → b'.toNat ≤ hi.toNat → c b → c b') (K : ℕ) (hK : hi.toNat + 1 ≤ 2 ^ K) :
    ∃ r, BisInv c hi 1 (bis c hi K, r) := by
  have := bis_inv c hh hup K 1 (0#32, hi) Nat.one_pos
    ⟨by simp, le_rfl, Or.inr rfl, fun b hb => by simp at hb, by simpa using hK⟩
  exact ⟨_, this⟩

/-- Where the condition holds at the top of the interval, bisection finds the first word of it. -/
theorem bis_found (c : BitVec 32 → Prop) [DecidablePred c] {hi : BitVec 32} (hh : hi.toNat < 2 ^ 30)
    (hup : ∀ b b' : BitVec 32, b.toNat ≤ b'.toNat → b'.toNat ≤ hi.toNat → c b → c b') (K : ℕ) (hK : hi.toNat + 1 ≤ 2 ^ K)
    (hc : c hi) : c (bis c hi K) ∧ (bis c hi K).toNat ≤ hi.toNat ∧ ∀ b : BitVec 32, b.toNat < (bis c hi K).toNat → ¬ c b := by
  obtain ⟨r, h⟩ := bis_end c hh hup K hK
  have hr : c r := h.top.elim id fun e => by dsimp only at e; rw [e]; exact hc
  have h1 : ¬ r.toNat < (bis c hi K).toNat := fun hl => h.below r hl hr
  have h2 := h.near
  dsimp only at h2
  have h3 : bis c hi K = r := BitVec.eq_of_toNat_eq (by omega)
  have h4 := h.hi_le
  refine ⟨h3 ▸ hr, by rw [h3]; exact h4, h.below⟩

/-- Where the condition holds nowhere, bisection ends at the top. -/
theorem bis_none (c : BitVec 32 → Prop) [DecidablePred c] {hi : BitVec 32} (hh : hi.toNat < 2 ^ 30)
    (K : ℕ) (hK : hi.toNat + 1 ≤ 2 ^ K) (hc : ∀ b : BitVec 32, b.toNat ≤ hi.toNat → ¬ c b) :
    hi.toNat ≤ (bis c hi K).toNat ∧ (bis c hi K).toNat ≤ hi.toNat + 1 := by
  obtain ⟨r, h⟩ := bis_end c hh (fun b b' h1 h2 h3 => absurd h3 (hc b (h1.trans h2))) K hK
  have h0 := h.hi_le
  have h1 : r = hi := h.top.elim (fun e => absurd e (hc r h0)) id
  subst h1
  have h2 := h.near
  have h3 := h.lo_le
  dsimp only at h2 h3
  omega

end Cert.Row
-- ==== Proof.RowKernel.lean ====
module

public import proofs.«01_k».proof.Proof.RowFloat
public import Mathlib.Data.EReal.Inv

@[expose] public section

/-!
The kernel's row as a function of extended reals, and what it returns: the token drawn from the
weights in descending order.
-/

noncomputable section

namespace Cert.Row

open Idealize.ShloMosaic Finset

variable {n N : ℕ}

/-! ### The row of the kernel -/

/-- The mass above a threshold. -/
def sMass (W : Fin N → EReal) (v : EReal) : EReal := ∑ j, W j * (if v < W j then 1 else 0)

/-- The number of ties with a value. -/
def sTies (W : Fin N → EReal) (v : EReal) : EReal := ∑ j, if W j = v then 1 else 0

/-- The largest weight at most a threshold. -/
def sSnap (W : Fin N → EReal) (v : EReal) : EReal := univ.sup fun j => if W j ≤ v then W j else 0

/-- The number of ties at or before an index. -/
def sCount (W : Fin N → EReal) (v : EReal) (m : BitVec 32) : EReal :=
  ∑ j : Fin N, if W j = v ∧ (BitVec.ofNat 32 j.val).sle m = true then 1 else 0

/-- What a float pattern denotes. -/
def fb (b : BitVec 32) : EReal := Ideal.ofBits .f32 b

def sRank1 (t v ma ce : EReal) : EReal :=
  min ce (max (fb 0x3F800000#32) (Ideal.liftRound Int.floor (Ideal.div (t - ma) (max v (fb 0x00000001#32))) + fb 0x3F800000#32))

def sRank2 (t v ma ce : EReal) : EReal :=
  let q := Ideal.liftRound Int.ceil (Ideal.div (t - ma) (max v (fb 0x00000001#32)))
  min ce (max (fb 0x3F800000#32) (if ma + q * v < t then q + fb 0x3F800000#32 else q))

def sLe (W : Fin N → EReal) (t : EReal) : EReal :=
  sSnap W (fb (bis (fun b => sMass W (fb b) ≤ t) 0x3FC00000#32 30))

def sLt (W : Fin N → EReal) (t : EReal) : EReal :=
  sSnap W (fb (bis (fun b => sMass W (fb b) < t) 0x3FC00000#32 30))

def sIx (W : Fin N → EReal) (v r : EReal) : BitVec 32 :=
  bis (fun m => r ≤ sCount W v m) 99999#32 17

/-- The row's answer from its weights, the nucleus's mass and the uniform number. -/
def sPick (W : Fin N → EReal) (P U : EReal) : BitVec 32 :=
  let t1 := P * ∑ j, W j
  let a := sLe W t1
  let ma := sMass W a
  let ce := sTies W a
  let r1 := if fb 0x00000000#32 < a then sRank1 t1 a ma ce else ce
  let t2 := U * (ma + r1 * a)
  let b := sLt W t2
  let r2 := sRank2 t2 b (sMass W b) (sTies W b)
  let v := if b < a then a else b
  let r := if b < a then r1 else (if b = a then min r2 r1 else r2)
  sIx W v r

/-! ### Its parts over the reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

theorem sMass_coe (w : Fin N → ℝ) (v : ℝ) : sMass (fun j => (w j : EReal)) (v : EReal) = ((mass w v : ℝ) : EReal) := by
  rw [mass, coe_sum]
  refine sum_congr rfl fun j _ => ?_
  by_cases h : v < w j
  · rw [if_pos (EReal.coe_lt_coe_iff.mpr h), if_pos h, mul_one]
  · rw [if_neg (fun h' => h (EReal.coe_lt_coe_iff.mp h')), if_neg h, mul_zero, EReal.coe_zero]

theorem sum_indicator (p : Fin N → Prop) [DecidablePred p] :
    (∑ j, if p j then (1 : EReal) else 0) = (((univ.filter p).card : ℝ) : EReal) := by
  have h : (((univ.filter p).card : ℕ) : ℝ) = ∑ j, if p j then (1 : ℝ) else 0 := by
    rw [← sum_filter, sum_const, nsmul_eq_mul, mul_one]
  rw [h, coe_sum]
  refine sum_congr rfl fun j _ => ?_
  split_ifs <;> simp

theorem sTies_coe (w : Fin N → ℝ) (v : ℝ) : sTies (fun j => (w j : EReal)) (v : EReal) = ((tieCount w v : ℝ) : EReal) := by
  rw [tieCount, ← sum_indicator]
  refine sum_congr rfl fun j _ => ?_
  simp only [EReal.coe_eq_coe_iff]

theorem div_coe (x : ℝ) {y : ℝ} (hy : y ≠ 0) : Ideal.div (x : EReal) (y : EReal) = ((x / y : ℝ) : EReal) := by
  unfold Ideal.div
  rw [if_neg (by exact_mod_cast hy), ← EReal.coe_inv, ← EReal.coe_mul, div_eq_mul_inv]

theorem fb_coe (b : BitVec 32) (h : b.toNat < 0x7F800000) : fb b = ((fval b.toNat : ℝ) : EReal) := ofBits_eq_fval b h

theorem fb_one : fb 0x3F800000#32 = 1 := by
  rw [fb_coe _ (by decide)]
  show ((fval 0x3F800000 : ℝ) : EReal) = 1
  rw [fval_one]; rfl

theorem fb_zero : fb 0x00000000#32 = 0 := by
  rw [fb_coe _ (by decide)]
  show ((fval 0 : ℝ) : EReal) = 0
  rw [fval_zero]; rfl

theorem fb_tiny : fb 0x00000001#32 = (((2 : ℝ) ^ (-149 : ℤ) : ℝ) : EReal) := by
  rw [fb_coe _ (by decide)]
  show ((fval 1 : ℝ) : EReal) = _
  rw [fval_tiny]

/-- One row: weights on `N` columns, of which `e` names the tokens' in descending order, equal ones
    in the columns' order. -/
structure IsRow (w : Fin N → ℝ) (e : Fin n → Fin N) : Prop where
  inj : Function.Injective e
  pad : ∀ j, j ∉ Set.range e → w j = 0
  nonneg : ∀ j, 0 ≤ w j
  le_one : ∀ j, w j ≤ 1
  anti : Antitone fun k => w (e k)
  stable : ∀ k l, w (e k) = w (e l) → k < l → e k < e l
  top : ∀ k : Fin n, k.val = 0 → w (e k) = 1
  small : ∀ k, (e k).val ≤ 99999

variable {w : Fin N → ℝ} {e : Fin n → Fin N}

/-- No weight lies above a value by less than a float's spacing. -/
def Clear (w : Fin N → ℝ) (v : ℝ) : Prop :=
  (2 : ℝ) ^ (-126 : ℤ) ≤ v ∧ ∀ j, w j ≤ v ∨ v * (1 + (2 : ℝ) ^ (-23 : ℤ)) ≤ w j

theorem IsRow.mass_eq (h : IsRow w e) (x : ℝ) : mass w x = mass (fun k => w (e k)) x := by
  unfold mass
  refine sum_along e h.inj _ fun j hj => ?_
  rw [h.pad j hj]; simp

theorem IsRow.sum_eq (h : IsRow w e) : ∑ j, w j = pre (fun k => w (e k)) n := by
  rw [pre_all _ le_rfl]
  exact sum_along e h.inj _ fun j hj => h.pad j hj

theorem IsRow.ties_eq (h : IsRow w e) {v : ℝ} (hv : v ≠ 0) : tieCount w v = tieCount (fun k => w (e k)) v := by
  unfold tieCount
  rw [card_filter, card_filter]
  refine sum_along e h.inj _ fun j hj => ?_
  rw [h.pad j hj, if_neg (Ne.symm hv)]

theorem hi_val : (0x3FC00000#32 : BitVec 32).toNat = 0x3FC00000 := rfl

/-- The threshold search's snap, where the search's condition is that the pattern reaches the `k`-th weight. -/
theorem IsRow.snap_found (h : IsRow w e) (k : Fin n) (hc : Clear w (w (e k))) (c : BitVec 32 → Prop) [DecidablePred c]
    (hiff : ∀ b : BitVec 32, b.toNat ≤ 0x3FC00000 → (c b ↔ w (e k) ≤ fval b.toNat)) :
    sSnap (fun j => (w j : EReal)) (fb (bis c 0x3FC00000#32 30)) = ((w (e k) : ℝ) : EReal) := by
  have hup : ∀ b b' : BitVec 32, b.toNat ≤ b'.toNat → b'.toNat ≤ (0x3FC00000#32 : BitVec 32).toNat → c b → c b' := by
    intro b b' h1 h2 h3
    rw [hi_val] at h2
    exact (hiff b' h2).mpr (((hiff b (h1.trans h2)).mp h3).trans (fval_mono h1))
  have hhi : c 0x3FC00000#32 := by
    refine (hiff _ (by decide)).mpr ((h.le_one _).trans ?_)
    rw [← fval_one]
    exact fval_mono (by decide)
  obtain ⟨h1, h2, h3⟩ := bis_found c (by decide) hup 30 (by decide) hhi
  generalize hlo : bis c 0x3FC00000#32 30 = lo at h1 h2 h3 ⊢
  rw [hi_val] at h2
  rw [fb_coe lo (by omega)]
  have h4 := (hiff lo h2).mp h1
  have h5 : fval lo.toNat < w (e k) * (1 + (2 : ℝ) ^ (-23 : ℤ)) := by
    refine fval_first_lt hc.1 fun b' hb' => ?_
    have hb32 : b' < 2 ^ 32 := by have := lo.isLt; omega
    have hb : (BitVec.ofNat 32 b').toNat = b' := by rw [BitVec.toNat_ofNat, Nat.mod_eq_of_lt hb32]
    have := h3 (BitVec.ofNat 32 b') (by rw [hb]; exact hb')
    rw [hiff _ (by rw [hb]; omega), hb] at this
    exact not_le.mp this
  refine le_antisymm (Finset.sup_le fun j _ => ?_) ?_
  · by_cases hj : w j ≤ fval lo.toNat
    · rw [if_pos (EReal.coe_le_coe_iff.mpr hj)]
      refine EReal.coe_le_coe_iff.mpr ((hc.2 j).elim id fun h6 => ?_)
      linarith
    · rw [if_neg fun h' => hj (EReal.coe_le_coe_iff.mp h')]
      exact_mod_cast h.nonneg _
  · refine le_trans (le_of_eq ?_) (Finset.le_sup (f := fun j => if (w j : EReal) ≤ ((fval lo.toNat : ℝ) : EReal) then (w j : EReal) else 0) (mem_univ (e k)))
    rw [if_pos (EReal.coe_le_coe_iff.mpr h4)]

theorem IsRow.snap_none (h : IsRow w e) (k : Fin n) (hk : k.val = 0) (c : BitVec 32 → Prop) [DecidablePred c]
    (hc : ∀ b : BitVec 32, b.toNat ≤ 0x3FC00000 → ¬ c b) :
    sSnap (fun j => (w j : EReal)) (fb (bis c 0x3FC00000#32 30)) = ((w (e k) : ℝ) : EReal) := by
  obtain ⟨h1, h2⟩ := bis_none c (hi := 0x3FC00000#32) (by decide) 30 (by decide) hc
  generalize hlo : bis c 0x3FC00000#32 30 = lo at h1 h2 ⊢
  rw [hi_val] at h1 h2
  rw [fb_coe lo (by omega)]
  have h4 : (1 : ℝ) ≤ fval lo.toNat := by
    rw [← fval_one]; exact fval_mono (by omega)
  rw [h.top k hk]
  refine le_antisymm (Finset.sup_le fun j _ => ?_) ?_
  · split_ifs
    · exact EReal.coe_le_coe_iff.mpr (h.le_one j)
    · exact_mod_cast zero_le_one
  · refine le_trans (le_of_eq ?_) (Finset.le_sup (f := fun j => if (w j : EReal) ≤ ((fval lo.toNat : ℝ) : EReal) then (w j : EReal) else 0) (mem_univ (e k)))
    rw [h.top k hk, if_pos (EReal.coe_le_coe_iff.mpr h4)]

theorem IsRow.snap_all (h : IsRow w e) (k : Fin n) (c : BitVec 32 → Prop) [DecidablePred c]
    (hc : ∀ b : BitVec 32, b.toNat ≤ 0x3FC00000 → c b) :
    sSnap (fun j => (w j : EReal)) (fb (bis c 0x3FC00000#32 30)) = 0 := by
  obtain ⟨-, -, h3⟩ := bis_found c (hi := 0x3FC00000#32) (by decide) (fun b b' _ h2 _ => hc b' h2) 30 (by decide) (hc _ (by decide))
  have hlo : bis c 0x3FC00000#32 30 = 0#32 := by
    by_contra hne
    refine h3 0#32 ?_ (hc _ (by decide))
    have : (bis c 0x3FC00000#32 30).toNat ≠ 0 := fun h' => hne (BitVec.eq_of_toNat_eq h')
    simp; omega
  rw [hlo, fb_zero]
  refine le_antisymm (Finset.sup_le fun j _ => ?_) ?_
  · split_ifs with h1
    · exact h1
    · exact le_rfl
  · refine le_trans (le_of_eq ?_) (Finset.le_sup (f := fun j => if (w j : EReal) ≤ 0 then (w j : EReal) else 0) (mem_univ (e k)))
    split_ifs with h1
    · exact le_antisymm (by exact_mod_cast h.nonneg _) h1
    · rfl

/-! ### The ranks among ties -/

theorem max_tiny {v : ℝ} (hv : (2 : ℝ) ^ (-126 : ℤ) ≤ v) : max (v : EReal) (fb 0x00000001#32) = (v : EReal) := by
  rw [fb_tiny]
  refine max_eq_left (EReal.coe_le_coe_iff.mpr (le_trans ?_ hv))
  exact zpow_le_zpow_right₀ (by norm_num) (by norm_num)

theorem pos_of_clear {v : ℝ} (hv : (2 : ℝ) ^ (-126 : ℤ) ≤ v) : 0 < v := lt_of_lt_of_le (by positivity) hv

/-- The number of kept ties, where the target lies between the sum before and the sum through the rank. -/
theorem sRank1_eq {t : EReal} {v ma : ℝ} {r ce : ℕ} (hv : (2 : ℝ) ^ (-126 : ℤ) ≤ v) (hce : r + 1 ≤ ce)
    (hlo : ((ma + r * v : ℝ) : EReal) ≤ t ∨ (t < 0 ∧ r = 0 ∧ 0 ≤ ma)) (hhi : t < ((ma + (r + 1) * v : ℝ) : EReal)) :
    sRank1 t v ma (ce : ℝ) = ((r + 1 : ℝ) : EReal) := by
  have hv0 := pos_of_clear hv
  have hce' : ((r + 1 : ℝ) : EReal) ≤ ((ce : ℝ) : EReal) := EReal.coe_le_coe_iff.mpr (by exact_mod_cast hce)
  unfold sRank1
  rw [max_tiny hv, fb_one]
  induction t using EReal.rec with
  | top => simp at hhi
  | bot =>
    have hr : r = 0 := by
      rcases hlo with h | h
      · exact absurd (le_bot_iff.mp h) (EReal.coe_ne_bot _)
      · exact h.2.1
    subst hr
    have h1 : Ideal.div ((⊥ : EReal) - (ma : EReal)) (v : EReal) = ⊥ := by
      unfold Ideal.div
      rw [if_neg (by exact_mod_cast hv0.ne'), EReal.bot_sub, ← EReal.coe_inv, EReal.bot_mul_coe_of_pos (inv_pos.mpr hv0)]
    rw [h1]
    show min _ (max 1 ((⊥ : EReal) + 1)) = _
    rw [EReal.bot_add, max_eq_left bot_le]
    refine (min_eq_right ?_).trans ?_
    · refine le_trans (le_of_eq ?_) hce'
      simp
    · simp
  | coe t =>
    have hhi' := EReal.coe_lt_coe_iff.mp hhi
    rw [← EReal.coe_sub, div_coe _ hv0.ne']
    show min _ (max 1 (((⌊(t - ma) / v⌋ : ℝ) : EReal) + 1)) = _
    rcases hlo with h | ⟨h, hr, hma⟩
    · have h' := EReal.coe_le_coe_iff.mp h
      have hf : ⌊(t - ma) / v⌋ = (r : ℤ) := by
        rw [Int.floor_eq_iff]
        constructor
        · rw [le_div_iff₀ hv0]; push_cast; linarith
        · rw [div_lt_iff₀ hv0]; push_cast; linarith
      rw [hf]
      have h2 : ((((r : ℤ) : ℝ) : EReal) + 1) = ((r + 1 : ℝ) : EReal) := by
        rw [EReal.coe_add]; simp
      rw [h2, max_eq_right, min_eq_right hce']
      have : (1 : EReal) = ((1 : ℝ) : EReal) := rfl
      rw [this]
      refine EReal.coe_le_coe_iff.mpr ?_
      have : (0 : ℝ) ≤ r := Nat.cast_nonneg _
      linarith
    · subst hr
      have ht : t < 0 := by exact_mod_cast h
      have hf : ⌊(t - ma) / v⌋ ≤ -1 := by
        have h3 : (t - ma) / v < 0 := div_neg_of_neg_of_pos (by linarith) hv0
        have := Int.floor_lt.mpr (show (t - ma) / v < ((0 : ℤ) : ℝ) by simpa using h3)
        omega
      have hf' : ((⌊(t - ma) / v⌋ : ℤ) : ℝ) ≤ -1 := by exact_mod_cast hf
      have h2 : (((⌊(t - ma) / v⌋ : ℝ) : EReal) + 1) = ((⌊(t - ma) / v⌋ + 1 : ℝ) : EReal) := by
        rw [EReal.coe_add]; simp
      rw [h2, max_eq_left]
      · refine (min_eq_right ?_).trans ?_
        · refine le_trans (le_of_eq ?_) hce'
          simp
        · simp
      · have : (1 : EReal) = ((1 : ℝ) : EReal) := rfl
        rw [this]
        exact EReal.coe_le_coe_iff.mpr (by linarith)

/-- The tie the draw falls on. -/
theorem sRank2_eq {t v ma : ℝ} {r ce : ℕ} (hv : (2 : ℝ) ^ (-126 : ℤ) ≤ v) (hce : r + 1 ≤ ce)
    (hlo : ma + r * v < t ∨ (t ≤ 0 ∧ r = 0 ∧ 0 ≤ ma)) (hhi : t ≤ ma + (r + 1) * v) :
    sRank2 t v ma (ce : ℝ) = ((r + 1 : ℝ) : EReal) := by
  have hv0 := pos_of_clear hv
  have hce' : ((r + 1 : ℝ) : EReal) ≤ ((ce : ℝ) : EReal) := EReal.coe_le_coe_iff.mpr (by exact_mod_cast hce)
  unfold sRank2
  rw [max_tiny hv, fb_one, ← EReal.coe_sub, div_coe _ hv0.ne']
  have hq : Ideal.liftRound Int.ceil (((t - ma) / v : ℝ) : EReal) = ((⌈(t - ma) / v⌉ : ℝ) : EReal) := rfl
  rw [hq]
  dsimp only
  have hnot : ¬ ((ma : EReal) + ((⌈(t - ma) / v⌉ : ℝ) : EReal) * (v : EReal) < (t : EReal)) := by
    rw [← EReal.coe_mul, ← EReal.coe_add, EReal.coe_lt_coe_iff, not_lt]
    have h1 := Int.le_ceil ((t - ma) / v)
    rw [div_le_iff₀ hv0] at h1
    linarith
  rw [if_neg hnot]
  have hone : (1 : EReal) = ((1 : ℝ) : EReal) := rfl
  rcases hlo with h | ⟨h, hr, hma⟩
  · have hf : ⌈(t - ma) / v⌉ = (r : ℤ) + 1 := by
      rw [Int.ceil_eq_iff]
      constructor
      · rw [lt_div_iff₀ hv0]; push_cast; linarith
      · rw [div_le_iff₀ hv0]; push_cast; linarith
    rw [hf]
    have h2 : (((((r : ℤ) + 1 : ℤ) : ℝ) : EReal)) = ((r + 1 : ℝ) : EReal) := by push_cast; rfl
    rw [h2, max_eq_right, min_eq_right hce']
    rw [hone]
    refine EReal.coe_le_coe_iff.mpr ?_
    have : (0 : ℝ) ≤ r := Nat.cast_nonneg _
    linarith
  · subst hr
    have hf : ⌈(t - ma) / v⌉ ≤ 0 := by
      rw [Int.ceil_le]
      have : (t - ma) / v ≤ 0 := div_nonpos_of_nonpos_of_nonneg (by linarith) hv0.le
      simpa using this
    have hf' : ((⌈(t - ma) / v⌉ : ℤ) : ℝ) ≤ 0 := by exact_mod_cast hf
    rw [max_eq_left]
    · refine (min_eq_right ?_).trans ?_
      · refine le_trans (le_of_eq ?_) hce'
        simp
      · simp
    · rw [hone]
      exact EReal.coe_le_coe_iff.mpr (by linarith)

end Cert.Row
-- ==== Proof.KRead.lean ====
module

public import proofs.«01_k».proof.Proof.Model
public import proofs.«01_k».proof.Proof.RowKernel
public import Idealize.ShloMosaic.Lib.Pointwise

/-! The kernel's block function read at one row. -/

@[expose] public section

set_option maxRecDepth 65536

noncomputable section

namespace Cert.Row

open Idealize.ShloMosaic Finset

/-- A row continued by a default. -/
def cont {N : ℕ} (d : EReal) (y : Fin N → EReal) (l : ℕ) : EReal := if h : l < N then y ⟨l, h⟩ else d

theorem sum_cont {N : ℕ} (y : Fin N → EReal) : ∑ l, y l = ∑ l ∈ range N, cont 0 y l := by
  rw [Finset.sum_fin_eq_sum_range]
  rfl

theorem sup_cont {N : ℕ} (y : Fin N → EReal) : univ.sup y = (range N).sup (cont ⊥ y) := by
  refine le_antisymm (Finset.sup_le fun l _ => ?_) (Finset.sup_le fun l hl => ?_)
  · refine le_trans (le_of_eq ?_) (Finset.le_sup (f := cont ⊥ y) (Finset.mem_range.mpr l.isLt))
    unfold cont
    rw [dif_pos l.isLt]
  · unfold cont
    rw [dif_pos (Finset.mem_range.mp hl)]
    exact Finset.le_sup (f := y) (mem_univ _)

theorem sup_range_add (y : ℕ → EReal) (a b : ℕ) : (range (a + b)).sup y = max ((range a).sup y) ((range b).sup fun k => y (a + k)) := by
  refine le_antisymm (Finset.sup_le fun l hl => ?_) (max_le ?_ ?_)
  · have hl' := Finset.mem_range.mp hl
    by_cases h : l < a
    · exact le_max_of_le_left (Finset.le_sup (f := y) (Finset.mem_range.mpr h))
    · refine le_max_of_le_right (le_trans (le_of_eq ?_) (Finset.le_sup (f := fun k => y (a + k)) (Finset.mem_range.mpr (show l - a < b by omega))))
      rw [Nat.add_sub_cancel' (Nat.not_lt.mp h)]
  · exact Finset.sup_mono (Finset.range_mono (Nat.le_add_right a b))
  · refine Finset.sup_le fun k hk => Finset.le_sup (f := y) (Finset.mem_range.mpr ?_)
    have := Finset.mem_range.mp hk
    omega

theorem slice_at {α : Type} {o M N : ℕ} (x : (⟨2, ![8, N]⟩ : Shape).Idx → α) (hs : (⟨2, ![8, N]⟩ : Shape).Slices ![0, o] ⟨2, ![8, M]⟩)
    (i : Fin 8) (k : Fin M) (h : o + k.val < N) : extractStridedSlice ⟨2, ![8, M]⟩ ![0, o] x hs (ix2 i k) = x (ix2 i ⟨o + k.val, h⟩) := by
  unfold extractStridedSlice
  refine congrArg x (funext fun a => Fin.ext ?_)
  fin_cases a
  · exact Nat.zero_add _
  · rfl

theorem sum_at {M : ℕ} (x : FVec Ideal ⟨2, ![8, M]⟩ .f32) (acc : BitVec 32)
    (hr : (⟨2, ![8, M]⟩ : Shape).Reduces [1] ⟨1, ![8]⟩) (hk) (hid) (hc : (⟨1, ![8]⟩ : Shape).ShapeCasts ⟨2, ![8, 1]⟩) (i : Fin 8) :
    shapeCast ⟨2, ![8, 1]⟩ (multiReduction (F := Ideal) .add [1] ⟨1, ![8]⟩ x acc hr hk hid) hc (ix2 i 0) = ∑ k, (x (ix2 i k) : EReal) := by
  pointwise []

theorem max_at {M : ℕ} (x : FVec Ideal ⟨2, ![8, M]⟩ .f32)
    (hr : (⟨2, ![8, M]⟩ : Shape).Reduces [1] ⟨1, ![8]⟩) (hk) (hid) (hc : (⟨1, ![8]⟩ : Shape).ShapeCasts ⟨2, ![8, 1]⟩) (i : Fin 8) :
    shapeCast ⟨2, ![8, 1]⟩ (multiReduction (F := Ideal) .maximumf [1] ⟨1, ![8]⟩ x 0xFF800000#32 hr hk hid) hc (ix2 i 0) = univ.sup fun k => (x (ix2 i k) : EReal) := by
  pointwise []
  rw [show Ideal.ofBits .f32 0xFF800000#32 = (⊥ : EReal) by simp [Ideal.ofBits, Ideal.ieee]]
  rfl

theorem piece_sum {o M N : ℕ} (x : FVec Ideal ⟨2, ![8, N]⟩ .f32) (hs : (⟨2, ![8, N]⟩ : Shape).Slices ![0, o] ⟨2, ![8, M]⟩) (acc : BitVec 32)
    (hr : (⟨2, ![8, M]⟩ : Shape).Reduces [1] ⟨1, ![8]⟩) (hk) (hid) (hc : (⟨1, ![8]⟩ : Shape).ShapeCasts ⟨2, ![8, 1]⟩) (ho : o + M ≤ N) (i : Fin 8) :
    shapeCast ⟨2, ![8, 1]⟩ (multiReduction (F := Ideal) .add [1] ⟨1, ![8]⟩ (extractStridedSlice ⟨2, ![8, M]⟩ ![0, o] x hs) acc hr hk hid) hc (ix2 i 0)
      = ∑ k ∈ range M, cont 0 (fun l => (x (ix2 i l) : EReal)) (o + k) := by
  rw [sum_at, sum_cont]
  refine Finset.sum_congr rfl fun k hk => ?_
  have hk := Finset.mem_range.mp hk
  unfold cont
  rw [dif_pos hk, dif_pos (show o + k < N by omega)]
  exact slice_at x hs i ⟨k, hk⟩ _

theorem piece_max {o M N : ℕ} (x : FVec Ideal ⟨2, ![8, N]⟩ .f32) (hs : (⟨2, ![8, N]⟩ : Shape).Slices ![0, o] ⟨2, ![8, M]⟩)
    (hr : (⟨2, ![8, M]⟩ : Shape).Reduces [1] ⟨1, ![8]⟩) (hk) (hid) (hc : (⟨1, ![8]⟩ : Shape).ShapeCasts ⟨2, ![8, 1]⟩) (ho : o + M ≤ N) (i : Fin 8) :
    shapeCast ⟨2, ![8, 1]⟩ (multiReduction (F := Ideal) .maximumf [1] ⟨1, ![8]⟩ (extractStridedSlice ⟨2, ![8, M]⟩ ![0, o] x hs) 0xFF800000#32 hr hk hid) hc (ix2 i 0)
      = (range M).sup fun k => cont ⊥ (fun l => (x (ix2 i l) : EReal)) (o + k) := by
  rw [max_at, sup_cont]
  refine Finset.sup_congr rfl fun k hk => ?_
  have hk := Finset.mem_range.mp hk
  unfold cont
  rw [dif_pos hk, dif_pos (show o + k < N by omega)]
  exact slice_at x hs i ⟨k, hk⟩ _

/-- Sixteen pieces of a sum. -/
theorem sixteen_sum (y : ℕ → EReal) (M L : ℕ) :
    ∑ l ∈ range (M * 15 + L), y l =
      (((∑ k ∈ range M, y (0 + k) + ∑ k ∈ range M, y (M * 1 + k)) + (∑ k ∈ range M, y (M * 2 + k) + ∑ k ∈ range M, y (M * 3 + k)))
        + ((∑ k ∈ range M, y (M * 4 + k) + ∑ k ∈ range M, y (M * 5 + k)) + (∑ k ∈ range M, y (M * 6 + k) + ∑ k ∈ range M, y (M * 7 + k))))
      + (((∑ k ∈ range M, y (M * 8 + k) + ∑ k ∈ range M, y (M * 9 + k)) + (∑ k ∈ range M, y (M * 10 + k) + ∑ k ∈ range M, y (M * 11 + k)))
        + ((∑ k ∈ range M, y (M * 12 + k) + ∑ k ∈ range M, y (M * 13 + k)) + (∑ k ∈ range M, y (M * 14 + k) + ∑ k ∈ range L, y (M * 15 + k)))) := by
  have step : ∀ n, ∑ l ∈ range (M * (n + 1)), y l = ∑ l ∈ range (M * n), y l + ∑ k ∈ range M, y (M * n + k) := fun n => by
    rw [Nat.mul_succ, Finset.sum_range_add]
  rw [Finset.sum_range_add, step 14, step 13, step 12, step 11, step 10, step 9, step 8, step 7, step 6, step 5, step 4, step 3, step 2, step 1]
  simp only [Nat.mul_one, Nat.zero_add, add_assoc]

theorem sixteen_sup (y : ℕ → EReal) (M L : ℕ) :
    (range (M * 15 + L)).sup y =
      max (max (max (max ((range M).sup fun k => y (0 + k)) ((range M).sup fun k => y (M * 1 + k))) (max ((range M).sup fun k => y (M * 2 + k)) ((range M).sup fun k => y (M * 3 + k))))
        (max (max ((range M).sup fun k => y (M * 4 + k)) ((range M).sup fun k => y (M * 5 + k))) (max ((range M).sup fun k => y (M * 6 + k)) ((range M).sup fun k => y (M * 7 + k)))))
      (max (max (max ((range M).sup fun k => y (M * 8 + k)) ((range M).sup fun k => y (M * 9 + k))) (max ((range M).sup fun k => y (M * 10 + k)) ((range M).sup fun k => y (M * 11 + k))))
        (max (max ((range M).sup fun k => y (M * 12 + k)) ((range M).sup fun k => y (M * 13 + k))) (max ((range M).sup fun k => y (M * 14 + k)) ((range L).sup fun k => y (M * 15 + k))))) := by
  have step : ∀ n, (range (M * (n + 1))).sup y = max ((range (M * n)).sup y) ((range M).sup fun k => y (M * n + k)) := fun n => by
    rw [Nat.mul_succ, sup_range_add]
  rw [sup_range_add, step 14, step 13, step 12, step 11, step 10, step 9, step 8, step 7, step 6, step 5, step 4, step 3, step 2, step 1]
  simp only [Nat.mul_one, Nat.zero_add, max_assoc]

end Cert.Row

namespace Cert.KernelIdeal.Hand

open Cert.KernelIdeal Cert.KernelIdeal.Gen Idealize.ShloMosaic Finset
open Cert.Row

theorem rsum_read (x : FVec Ideal S8x100096 .f32) (i : Fin 8) : rsum (F := Ideal) x (ix2 i 0) = ∑ j : Fin 100096, (x (ix2 i j) : EReal) := by
  refine Eq.trans ?_ (((sum_cont _).trans (sixteen_sum (cont 0 fun j : Fin 100096 => (x (ix2 i j) : EReal)) 6272 6016)).symm)
  have add : ∀ (a b : FVec Ideal S8x1 .f32) {p q : EReal}, a (ix2 i 0) = p → b (ix2 i 0) = q → addf a b (ix2 i 0) = p + q := fun a b p q h h' => by
    subst h; subst h'; rfl
  unfold rsum
  refine add _ _ (add _ _ (add _ _ (add _ _ ?_ ?_) (add _ _ ?_ ?_)) (add _ _ (add _ _ ?_ ?_) (add _ _ ?_ ?_)))
    (add _ _ (add _ _ (add _ _ ?_ ?_) (add _ _ ?_ ?_)) (add _ _ (add _ _ ?_ ?_) (add _ _ ?_ ?_)))
  all_goals exact piece_sum x _ _ _ _ _ _ (by omega) i

theorem rmax_read (x : FVec Ideal S8x100096 .f32) (i : Fin 8) : rmax (F := Ideal) x (ix2 i 0) = univ.sup fun j : Fin 100096 => (x (ix2 i j) : EReal) := by
  refine Eq.trans ?_ (((sup_cont _).trans (sixteen_sup (cont ⊥ fun j : Fin 100096 => (x (ix2 i j) : EReal)) 6272 6016)).symm)
  have add : ∀ (a b : FVec Ideal S8x1 .f32) {p q : EReal}, a (ix2 i 0) = p → b (ix2 i 0) = q → maximumf a b (ix2 i 0) = max p q := fun a b p q h h' => by
    subst h; subst h'; rfl
  unfold rmax
  refine add _ _ (add _ _ (add _ _ (add _ _ ?_ ?_) (add _ _ ?_ ?_)) (add _ _ (add _ _ ?_ ?_) (add _ _ ?_ ?_)))
    (add _ _ (add _ _ (add _ _ ?_ ?_) (add _ _ ?_ ?_)) (add _ _ (add _ _ ?_ ?_) (add _ _ ?_ ?_)))
  all_goals exact piece_max x _ _ _ _ _ (by omega) i

/-! ### Single entries -/

section Entries

variable {s : Shape}

theorem sel_read {α : Type} (c : IVec s 1) (a b : s.Idx → α) (i : s.Idx) {p : Prop} [Decidable p] (h : c i = BitVec.ofBool (decide p)) :
    select c a b i = if p then a i else b i := by
  show (if c i = 1#1 then a i else b i) = _
  rw [h]
  by_cases hp : p
  · rw [decide_eq_true hp, if_pos hp]; rfl
  · rw [decide_eq_false hp, if_neg hp]; rfl

theorem cmp_ogt (x y : FVec Ideal s .f32) (i : s.Idx) : cmpf .ogt x y i = BitVec.ofBool (decide ((y i : EReal) < x i)) := rfl
theorem cmp_oge (x y : FVec Ideal s .f32) (i : s.Idx) : cmpf .oge x y i = BitVec.ofBool (decide ((y i : EReal) ≤ x i)) := rfl
theorem cmp_olt (x y : FVec Ideal s .f32) (i : s.Idx) : cmpf .olt x y i = BitVec.ofBool (decide ((x i : EReal) < y i)) := rfl
theorem cmp_ole (x y : FVec Ideal s .f32) (i : s.Idx) : cmpf .ole x y i = BitVec.ofBool (decide ((x i : EReal) ≤ y i)) := rfl
theorem cmp_oeq (x y : FVec Ideal s .f32) (i : s.Idx) : cmpf .oeq x y i = BitVec.ofBool (decide ((x i : EReal) = y i)) := rfl

theorem mass_entry (w v : FVec Ideal s .f32) (h) (i : s.Idx) :
    mulf w (sitofp .f32 (extui 32 (cmpf .ogt w v) h)) i = ((w i : EReal) * (if (v i : EReal) < w i then 1 else 0) : EReal) := by
  show (w i : EReal) * (((((BitVec.ofBool (decide ((v i : EReal) < w i))).zeroExtend 32).toInt : ℝ) : EReal)) = _
  congr 1
  by_cases hp : (v i : EReal) < w i
  · rw [if_pos hp, decide_eq_true hp, show ((BitVec.ofBool true).zeroExtend 32).toInt = 1 by decide]
    norm_num
  · rw [if_neg hp, decide_eq_false hp]
    norm_num

theorem bcast_one (i : s.Idx) : broadcast s (Scalar.ofBits .f32 0x3F800000#32 : Ideal .f32) i = (1 : EReal) := fb_one
theorem bcast_zero (i : s.Idx) : broadcast s (Scalar.ofBits .f32 0x00000000#32 : Ideal .f32) i = (0 : EReal) := fb_zero

theorem tie_entry (w v : FVec Ideal s .f32) (i : s.Idx) :
    select (cmpf .oeq w v) (broadcast s (Scalar.ofBits .f32 0x3F800000#32 : Ideal .f32)) (broadcast s (Scalar.ofBits .f32 0x00000000#32 : Ideal .f32)) i
      = (if (w i : EReal) = v i then 1 else 0 : EReal) := by
  rw [sel_read _ _ _ i (cmp_oeq w v i), bcast_one, bcast_zero]

theorem snap_entry (w v : FVec Ideal s .f32) (i : s.Idx) :
    select (cmpf .ole w v) w (broadcast s (Scalar.ofBits .f32 0x00000000#32 : Ideal .f32)) i = (if (w i : EReal) ≤ v i then w i else 0 : EReal) := by
  rw [sel_read _ _ _ i (cmp_ole w v i), bcast_zero]

theorem count_entry (w v : FVec Ideal s .f32) (a b : IVec s 32) (i : s.Idx) :
    select (andi (cmpf .oeq w v) (cmpi .sle a b)) (broadcast s (Scalar.ofBits .f32 0x3F800000#32 : Ideal .f32)) (broadcast s (Scalar.ofBits .f32 0x00000000#32 : Ideal .f32)) i
      = (if (w i : EReal) = v i ∧ (a i).sle (b i) = true then 1 else 0 : EReal) := by
  rw [sel_read (p := (w i : EReal) = v i ∧ (a i).sle (b i) = true) _ _ _ i ?_, bcast_one, bcast_zero]
  show BitVec.ofBool (decide ((w i : EReal) = v i)) &&& BitVec.ofBool ((a i).sle (b i)) = _
  by_cases h1 : (w i : EReal) = v i <;> cases h2 : (a i).sle (b i) <;> simp [h1]

theorem half_lo (a b : IVec s 32) (m : IVec s 32) (c : IVec s 1) (i : s.Idx) {p : Prop} [Decidable p] (h : c i = BitVec.ofBool (decide p)) :
    select c a (addi m b) i = if p then a i else m i + b i := sel_read _ _ _ i h

end Entries

theorem spread_at {α : Type} {M : ℕ} (v : (⟨2, ![8, 1]⟩ : Shape).Idx → α) (h : (⟨2, ![8, 1]⟩ : Shape).Broadcasts ⟨2, ![8, M]⟩) (i : Fin 8) (j : Fin M) :
    broadcastTo ⟨2, ![8, M]⟩ v h (ix2 i j) = v (ix2 i 0) := by
  pointwise []

theorem spread_read (v : FVec Ideal S8x1 .f32) (i : Fin 8) (j : Fin 100096) : spread v (ix2 i j) = v (ix2 i 0) := spread_at v _ i j

theorem side_read (v : FVec Ideal S8x128 .f32) (i : Fin 8) : side (F := Ideal) v (ix2 i 0) = v (ix2 i 0) := by
  pointwise [side]

theorem iota_along {M : ℕ} (h : (⟨2, ![8, M]⟩ : Shape).Iotas .tc 32 [1]) (i : Fin 8) (j : Fin M) :
    iota .tc ⟨2, ![8, M]⟩ 32 [1] h (ix2 i j) = BitVec.ofNat 32 j.val := by
  rw [iota_apply]
  refine congrArg (BitVec.ofNat 32) ?_
  show 0 * M + j.val = j.val
  rw [Nat.zero_mul, Nat.zero_add]

theorem iota_at (i : Fin 8) (j : Fin 100096) : iota .tc S8x100096 32 [1] iota_S8x100096_d1_w32 (ix2 i j) = BitVec.ofNat 32 j.val := iota_along _ i j

theorem cast_along {α : Type} {M : ℕ} (x : (⟨2, ![8, M]⟩ : Shape).Idx → α) (h : (⟨2, ![8, M]⟩ : Shape).ShapeCasts ⟨2, ![8, M]⟩) (i : Fin 8) (j : Fin M) :
    shapeCast ⟨2, ![8, M]⟩ x h (ix2 i j) = x (ix2 i j) := by
  pointwise []

theorem div_entry {s : Shape} (x y : FVec Ideal s .f32) (i : s.Idx) : divf x y i = Ideal.div (x i) (y i) := rfl
theorem exp_entry {s : Shape} (x y : FVec Ideal s .f32) (i : s.Idx) : Idealize.ShloMosaic.exp (subf x y) i = Ideal.exp (x i - y i) := rfl

theorem scaled_read (x1 : FVec Ideal S8x128 .f32) (x0 : FVec Ideal S8x100096 .f32) (i : Fin 8) (j : Fin 100096) :
    scaled (F := Ideal) x1 x0 (ix2 i j) = Ideal.div (x0 (ix2 i j)) (max (x1 (ix2 i 0)) (fb 0x322BCC77#32)) := by
  unfold scaled
  refine (cast_along _ _ i j).trans ?_
  rw [div_entry, spread_read]
  refine congrArg₂ Ideal.div (cast_along _ _ i j) ?_
  show max (side (F := Ideal) x1 (ix2 i 0) : EReal) _ = _
  rw [side_read]
  rfl

theorem weights_read (x1 : FVec Ideal S8x128 .f32) (x0 : FVec Ideal S8x100096 .f32) (i : Fin 8) (j : Fin 100096) :
    weights (scaled (F := Ideal) x1 x0) (ix2 i j)
      = Ideal.exp (Ideal.div (x0 (ix2 i j)) (max (x1 (ix2 i 0)) (fb 0x322BCC77#32))
          - univ.sup fun l : Fin 100096 => Ideal.div (x0 (ix2 i l)) (max (x1 (ix2 i 0)) (fb 0x322BCC77#32))) := by
  unfold weights
  have key : (univ.sup fun l : Fin 100096 => (scaled (F := Ideal) x1 x0 (ix2 i l) : EReal))
      = univ.sup fun l : Fin 100096 => Ideal.div (x0 (ix2 i l)) (max (x1 (ix2 i 0)) (fb 0x322BCC77#32)) :=
    congrArg univ.sup (funext fun l => scaled_read x1 x0 i l)
  rw [exp_entry, spread_read, rmax_read, scaled_read, key]

variable (w : FVec Ideal S8x100096 .f32) (i : Fin 8)

/-- A row of the weights. -/
abbrev row : Fin 100096 → EReal := fun j => w (ix2 i j)

theorem massGt_read (v : FVec Ideal S8x1 .f32) : massGt w v (ix2 i 0) = sMass (row w i) (v (ix2 i 0)) := by
  unfold massGt
  rw [rsum_read]
  refine Finset.sum_congr rfl fun j _ => ?_
  rw [mass_entry, spread_read]

theorem ties_read (v : FVec Ideal S8x1 .f32) : rsum (ties w v) (ix2 i 0) = sTies (row w i) (v (ix2 i 0)) := by
  rw [rsum_read]
  refine Finset.sum_congr rfl fun j _ => ?_
  unfold ties
  rw [tie_entry, spread_read]

theorem snap_read (v : FVec Ideal S8x1 .f32) : snap w v (ix2 i 0) = sSnap (row w i) (v (ix2 i 0)) := by
  unfold snap
  rw [rmax_read]
  refine Finset.sup_congr rfl fun j _ => ?_
  rw [snap_entry, spread_read]

theorem count_read (v : FVec Ideal S8x1 .f32) (m : IVec S8x1 32) :
    countUpTo (F := Ideal) (cmpf .oeq w (spread v)) m (ix2 i 0) = sCount (row w i) (v (ix2 i 0)) (m (ix2 i 0)) := by
  unfold countUpTo
  rw [rsum_read]
  refine Finset.sum_congr rfl fun j _ => ?_
  rw [count_entry, spread_read, iota_at]
  rw [show broadcastTo S8x100096 m broadcasts_S8x1_S8x100096 (ix2 i j) = m (ix2 i 0) from spread_at m _ i j]

/-! ### The searches -/

/-- A search's two ends at one row. -/
abbrev ends (i : Fin 8) (acc : IVec S8x1 32 × IVec S8x1 32) : BitVec 32 × BitVec 32 := (acc.1 (ix2 i 0), acc.2 (ix2 i 0))

theorem middle_read (acc : IVec S8x1 32 × IVec S8x1 32) : middle acc (ix2 i 0) = mid (ends i acc) := by
  rfl

theorem halve_read (acc : IVec S8x1 32 × IVec S8x1 32) (c : IVec S8x1 1) (p : BitVec 32 → Prop) [DecidablePred p]
    (h : c (ix2 i 0) = BitVec.ofBool (decide (p (mid (ends i acc))))) : ends i (halve acc c) = bisStep p (ends i acc) := by
  unfold halve bisStep ends
  refine Prod.ext ?_ ?_
  · refine (sel_read _ _ _ _ h).trans ?_
    rfl
  · refine (sel_read _ _ _ _ h).trans ?_
    rfl

theorem fold_row {α β : Type} {n : ℕ} (g : α → α) (h : β → β) (π : α → β) (hπ : ∀ acc, π (g acc) = h (π acc)) (init : α) :
    π (Scf.fold (fun (_ : Fin n) acc => g acc) init) = h^[n] (π init) := by
  rw [Scf.fold_eq]
  have key : ∀ (l : List (Fin n)) (a : α), π (l.foldl (fun acc _ => g acc) a) = h^[l.length] (π a) := by
    intro l
    induction l with
    | nil => intro a; rfl
    | cons k l ih => intro a; rw [List.foldl_cons, ih, hπ]; rfl
  rw [key, List.length_finRange]

theorem searchLe_read (t : FVec Ideal S8x1 .f32) :
    searchLe w t (ix2 i 0) = bis (fun b => sMass (row w i) (fb b) ≤ t (ix2 i 0)) 0x3FC00000#32 30 := by
  unfold searchLe bis
  exact congrArg Prod.fst (fold_row (n := k0_t1_loop.trips) (fun acc => stepLe w t acc) _ (ends i) (fun acc => by
    unfold stepLe
    refine halve_read i acc _ _ ?_
    rw [cmp_ole, massGt_read]
    rfl) _)

theorem searchLt_read (t : FVec Ideal S8x1 .f32) :
    searchLt w t (ix2 i 0) = bis (fun b => sMass (row w i) (fb b) < t (ix2 i 0)) 0x3FC00000#32 30 := by
  unfold searchLt bis
  exact congrArg Prod.fst (fold_row (n := k0_t2_loop.trips) (fun acc => stepLt w t acc) _ (ends i) (fun acc => by
    unfold stepLt
    refine halve_read i acc _ _ ?_
    rw [cmp_olt, massGt_read]
    rfl) _)

theorem searchIx_read (v r : FVec Ideal S8x1 .f32) :
    searchIx (F := Ideal) (cmpf .oeq w (spread v)) r (ix2 i 0) = sIx (row w i) (v (ix2 i 0)) (r (ix2 i 0)) := by
  unfold searchIx sIx bis
  exact congrArg Prod.fst (fold_row (n := k0_t3_loop.trips) (fun acc => stepIx (cmpf .oeq w (spread v)) r acc) _ (ends i) (fun acc => by
    unfold stepIx
    refine halve_read i acc _ _ ?_
    rw [cmp_oge, count_read]
    rfl) _)

theorem v1_read (t : FVec Ideal S8x1 .f32) : v1 w t (ix2 i 0) = sLe (row w i) (t (ix2 i 0)) := by
  unfold v1 sLe
  rw [snap_read]
  exact congrArg (fun b => sSnap (row w i) (fb b)) (searchLe_read w i t)

theorem v2_read (t : FVec Ideal S8x1 .f32) : v2 w t (ix2 i 0) = sLt (row w i) (t (ix2 i 0)) := by
  unfold v2 sLt
  rw [snap_read]
  exact congrArg (fun b => sSnap (row w i) (fb b)) (searchLt_read w i t)

theorem rank1_read (t v ma ce : FVec Ideal S8x1 .f32) :
    rank1 t v ma ce (ix2 i 0) = sRank1 (t (ix2 i 0)) (v (ix2 i 0)) (ma (ix2 i 0)) (ce (ix2 i 0)) := rfl

theorem kept_read (v ce r : FVec Ideal S8x1 .f32) :
    keptTies v ce r (ix2 i 0) = (if fb 0x00000000#32 < v (ix2 i 0) then r (ix2 i 0) else ce (ix2 i 0) : EReal) := by
  unfold keptTies
  rw [sel_read _ _ _ _ (cmp_ogt _ _ _)]
  rfl

theorem rank2_read (t v ma ce : FVec Ideal S8x1 .f32) :
    rank2 t v ma ce (ix2 i 0) = sRank2 (t (ix2 i 0)) (v (ix2 i 0)) (ma (ix2 i 0)) (ce (ix2 i 0)) := by
  unfold rank2 sRank2
  show min _ (max _ (select _ _ _ _)) = _
  rw [sel_read _ _ _ _ (cmp_olt _ _ _)]
  rfl

theorem chosen_read (a b r1 r2 : FVec Ideal S8x1 .f32) :
    shapeCast S8x1 (searchIx (F := Ideal) (cmpf .oeq w (spread (select (cmpf .olt b a) a b)))
        (select (cmpf .olt b a) r1 (select (cmpf .oeq (select (cmpf .olt b a) a b) a) (minimumf r2 r1) r2))) shapeCasts_S8x1_S8x1 (ix2 i 0)
      = sIx (row w i) (if (b (ix2 i 0) : EReal) < a (ix2 i 0) then a (ix2 i 0) else b (ix2 i 0))
          (if (b (ix2 i 0) : EReal) < a (ix2 i 0) then r1 (ix2 i 0)
            else (if (b (ix2 i 0) : EReal) = a (ix2 i 0) then min (r2 (ix2 i 0) : EReal) (r1 (ix2 i 0)) else r2 (ix2 i 0))) := by
  have cast : ∀ z : IVec S8x1 32, shapeCast S8x1 z shapeCasts_S8x1_S8x1 (ix2 i 0) = z (ix2 i 0) := fun z => by pointwise []
  rw [cast, searchIx_read, sel_read _ _ _ _ (cmp_olt _ _ _), sel_read _ _ _ _ (cmp_olt _ _ _), sel_read _ _ _ _ (cmp_oeq _ _ _),
    sel_read _ _ _ _ (cmp_olt _ _ _)]
  by_cases h : (b (ix2 i 0) : EReal) < a (ix2 i 0)
  · rw [if_pos h, if_pos h, if_pos h]
  · rw [if_neg h, if_neg h, if_neg h]
    rfl

theorem pick_read (x2 x3 : FVec Ideal S8x128 .f32) :
    pick w x2 x3 (ix2 i 0) = sPick (row w i) (x2 (ix2 i 0)) (x3 (ix2 i 0)) := by
  have h1 : target1 x2 w (ix2 i 0) = ((x2 (ix2 i 0) : EReal) * ∑ j, row w i j : EReal) := by
    unfold target1
    show (side (F := Ideal) x2 (ix2 i 0) : EReal) * rsum w (ix2 i 0) = _
    rw [side_read, rsum_read]
  have h2 : ∀ v ma r : FVec Ideal S8x1 .f32, target2 x3 v ma r (ix2 i 0) = ((x3 (ix2 i 0) : EReal) * (ma (ix2 i 0) + r (ix2 i 0) * v (ix2 i 0)) : EReal) := fun v ma r => by
    unfold target2
    show (side (F := Ideal) x3 (ix2 i 0) : EReal) * _ = _
    rw [side_read]
    rfl
  unfold pick
  refine (chosen_read w i _ _ _ _).trans ?_
  unfold sPick
  simp only [rank2_read, kept_read, rank1_read, v2_read, v1_read, h2, h1, ties_read, massGt_read]

theorem bodyOut_read (x0 : FVec Ideal S8x100096 .f32) (x1 x2 x3 : FVec Ideal S8x128 .f32) :
    bodyOut (F := Ideal) x0 x1 x2 x3 (ix2 i 0) = sPick (row (weights (scaled (F := Ideal) x1 x0)) i) (x2 (ix2 i 0)) (x3 (ix2 i 0)) := by
  unfold bodyOut
  exact (spread_at _ _ i 0).trans (pick_read _ i x2 x3)

end Cert.KernelIdeal.Hand
-- ==== Proof.KArr.lean ====
module

public import proofs.«01_k».proof.Proof.KFrame
public import proofs.«01_k».proof.Proof.KRead
public import Idealize.ShloMosaic.Lib.Pipeline.Value

/-! The kernel's result array after the run, one row at a time. -/

@[expose] public section

set_option maxRecDepth 65536

noncomputable section

namespace Cert.KernelIdeal.Hand

open Cert.KernelIdeal Cert.KernelIdeal.Gen Idealize.ShloMosaic Idealize.ShloMosaic.TcCoe Idealize.SL.Sem Finset
open Idealize.ShloMosaic.Pipeline (Dat)
open Cert.Row

/-! ### Where the blocks lie -/

theorem idx_0 : ∀ t : Fin cfg0.N, win0_0.index t (0 : Fin 2) = t.val ∧ win0_0.index t (1 : Fin 2) = 0 := (by decide +kernel : ∀ t : Fin grid0.N, _)
theorem idx_1 : ∀ t : Fin cfg0.N, win0_1.index t (0 : Fin 2) = t.val ∧ win0_1.index t (1 : Fin 2) = 0 := (by decide +kernel : ∀ t : Fin grid0.N, _)
theorem idx_2 : ∀ t : Fin cfg0.N, win0_2.index t (0 : Fin 2) = t.val ∧ win0_2.index t (1 : Fin 2) = 0 := (by decide +kernel : ∀ t : Fin grid0.N, _)
theorem idx_3 : ∀ t : Fin cfg0.N, win0_3.index t (0 : Fin 2) = t.val ∧ win0_3.index t (1 : Fin 2) = 0 := (by decide +kernel : ∀ t : Fin grid0.N, _)
theorem idx_4 : ∀ t : Fin cfg0.N, win0_4.index t (0 : Fin 2) = t.val ∧ win0_4.index t (1 : Fin 2) = 0 := (by decide +kernel : ∀ t : Fin grid0.N, _)

theorem points : cfg0.N = 8 := by decide

/-- The array's row under a block's row. -/
def under (t : Fin cfg0.N) (i : Fin 8) : Fin 64 := ⟨t.val * 8 + i.val, by have := t.isLt; have := points; omega⟩

theorem emb_0 (t : Fin cfg0.N) (i : Fin 8) (j : Fin 100096) : ((cfg0.win 0).blk t).view.emb (ix2 i j : S8x100096.Idx) = (ix2 (under t i) j : S64x100096.Idx) := by
  obtain ⟨e0, e1⟩ := idx_0 t
  funext a; apply Fin.ext
  match a with
  | ⟨0, _⟩ => show win0_0.index t (0 : Fin 2) * 8 + 1 * i.val = t.val * 8 + i.val; omega
  | ⟨1, _⟩ => show win0_0.index t (1 : Fin 2) * 100096 + 1 * j.val = j.val; omega

theorem emb_1 (t : Fin cfg0.N) (i : Fin 8) (j : Fin 128) : ((cfg0.win 1).blk t).view.emb (ix2 i j : S8x128.Idx) = (ix2 (under t i) j : S64x128.Idx) := by
  obtain ⟨e0, e1⟩ := idx_1 t
  funext a; apply Fin.ext
  match a with
  | ⟨0, _⟩ => show win0_1.index t (0 : Fin 2) * 8 + 1 * i.val = t.val * 8 + i.val; omega
  | ⟨1, _⟩ => show win0_1.index t (1 : Fin 2) * 128 + 1 * j.val = j.val; omega

theorem emb_2 (t : Fin cfg0.N) (i : Fin 8) (j : Fin 128) : ((cfg0.win 2).blk t).view.emb (ix2 i j : S8x128.Idx) = (ix2 (under t i) j : S64x128.Idx) := by
  obtain ⟨e0, e1⟩ := idx_2 t
  funext a; apply Fin.ext
  match a with
  | ⟨0, _⟩ => show win0_2.index t (0 : Fin 2) * 8 + 1 * i.val = t.val * 8 + i.val; omega
  | ⟨1, _⟩ => show win0_2.index t (1 : Fin 2) * 128 + 1 * j.val = j.val; omega

theorem emb_3 (t : Fin cfg0.N) (i : Fin 8) (j : Fin 128) : ((cfg0.win 3).blk t).view.emb (ix2 i j : S8x128.Idx) = (ix2 (under t i) j : S64x128.Idx) := by
  obtain ⟨e0, e1⟩ := idx_3 t
  funext a; apply Fin.ext
  match a with
  | ⟨0, _⟩ => show win0_3.index t (0 : Fin 2) * 8 + 1 * i.val = t.val * 8 + i.val; omega
  | ⟨1, _⟩ => show win0_3.index t (1 : Fin 2) * 128 + 1 * j.val = j.val; omega

theorem emb_4 (t : Fin cfg0.N) (i : Fin 8) (j : Fin 128) : ((cfg0.win 4).blk t).view.emb (ix2 i j : S8x128.Idx) = (ix2 (under t i) j : S64x128.Idx) := by
  obtain ⟨e0, e1⟩ := idx_4 t
  funext a; apply Fin.ext
  match a with
  | ⟨0, _⟩ => show win0_4.index t (0 : Fin 2) * 8 + 1 * i.val = t.val * 8 + i.val; omega
  | ⟨1, _⟩ => show win0_4.index t (1 : Fin 2) * 128 + 1 * j.val = j.val; omega

/-- An index of two axes by its coordinates. -/
theorem ix2_eta {A B : ℕ} (y : (⟨2, ![A, B]⟩ : Shape).Idx) : ∃ (i : Fin A) (j : Fin B), y = ix2 i j :=
  ⟨y 0, y 1, funext fun a => by match a with
    | ⟨0, _⟩ => rfl
    | ⟨1, _⟩ => rfl⟩

variable (m : (ℓ : Loc nD τ sig) → Buf (Elt Ideal) ℓ)

/-- The arrays the launch finds. -/
def X0 (c : Dev nD) : FVec Ideal S64x100096 .f32 := V m c main_v0
def X1 (c : Dev nD) : FVec Ideal S64x128 .f32 := V m c main_v9
def X2 (c : Dev nD) : FVec Ideal S64x128 .f32 := V m c main_v10
def X3 (c : Dev nD) : FVec Ideal S64x128 .f32 := V m c main_v11

theorem get_0 (c : Dev nD) (W : (b : Ref sig .tc) → Buf (Elt Ideal) ((c : Thread nD τ).loc b)) (t : Fin cfg0.N) (i : Fin 8) (j : Fin 100096) :
    (((cfg0.win 0).blk t).view.read (Elt Ideal) (W (Pipeline.arrRef spec0 0)) : Vec Ideal S8x100096 .f32) (ix2 i j) = (W main_v0 : Vec Ideal S64x100096 .f32) (ix2 (under t i) j) := by
  show W main_v0 (((cfg0.win 0).blk t).view.emb (ix2 i j : S8x100096.Idx)) = _
  rw [emb_0]

theorem blk_0 (c : Dev nD) (t : Fin cfg0.N) (i : Fin 8) (j : Fin 100096) : (iblk m c 0 t : Vec Ideal S8x100096 .f32) (ix2 i j) = X0 m c (ix2 (under t i) j) :=
  get_0 c (V m c) t i j

theorem get_1 (c : Dev nD) (W : (b : Ref sig .tc) → Buf (Elt Ideal) ((c : Thread nD τ).loc b)) (t : Fin cfg0.N) (i : Fin 8) (j : Fin 128) :
    (((cfg0.win 1).blk t).view.read (Elt Ideal) (W (Pipeline.arrRef spec0 1)) : Vec Ideal S8x128 .f32) (ix2 i j) = (W main_v9 : Vec Ideal S64x128 .f32) (ix2 (under t i) j) := by
  show W main_v9 (((cfg0.win 1).blk t).view.emb (ix2 i j : S8x128.Idx)) = _
  rw [emb_1]

theorem blk_1 (c : Dev nD) (t : Fin cfg0.N) (i : Fin 8) (j : Fin 128) : (iblk m c 1 t : Vec Ideal S8x128 .f32) (ix2 i j) = X1 m c (ix2 (under t i) j) :=
  get_1 c (V m c) t i j

theorem get_2 (c : Dev nD) (W : (b : Ref sig .tc) → Buf (Elt Ideal) ((c : Thread nD τ).loc b)) (t : Fin cfg0.N) (i : Fin 8) (j : Fin 128) :
    (((cfg0.win 2).blk t).view.read (Elt Ideal) (W (Pipeline.arrRef spec0 2)) : Vec Ideal S8x128 .f32) (ix2 i j) = (W main_v10 : Vec Ideal S64x128 .f32) (ix2 (under t i) j) := by
  show W main_v10 (((cfg0.win 2).blk t).view.emb (ix2 i j : S8x128.Idx)) = _
  rw [emb_2]

theorem blk_2 (c : Dev nD) (t : Fin cfg0.N) (i : Fin 8) (j : Fin 128) : (iblk m c 2 t : Vec Ideal S8x128 .f32) (ix2 i j) = X2 m c (ix2 (under t i) j) :=
  get_2 c (V m c) t i j

theorem get_3 (c : Dev nD) (W : (b : Ref sig .tc) → Buf (Elt Ideal) ((c : Thread nD τ).loc b)) (t : Fin cfg0.N) (i : Fin 8) (j : Fin 128) :
    (((cfg0.win 3).blk t).view.read (Elt Ideal) (W (Pipeline.arrRef spec0 3)) : Vec Ideal S8x128 .f32) (ix2 i j) = (W main_v11 : Vec Ideal S64x128 .f32) (ix2 (under t i) j) := by
  show W main_v11 (((cfg0.win 3).blk t).view.emb (ix2 i j : S8x128.Idx)) = _
  rw [emb_3]

theorem blk_3 (c : Dev nD) (t : Fin cfg0.N) (i : Fin 8) (j : Fin 128) : (iblk m c 3 t : Vec Ideal S8x128 .f32) (ix2 i j) = X3 m c (ix2 (under t i) j) :=
  get_3 c (V m c) t i j

/-- The row of weights the kernel forms. -/
def heavy (x : Fin 100096 → EReal) (d : EReal) (j : Fin 100096) : EReal := Ideal.exp (Ideal.div (x j) d - univ.sup fun l => Ideal.div (x l) d)

/-- The answer of a row. -/
def answer (c : Dev nD) (r : Fin 64) : BitVec 32 :=
  sPick (heavy (fun j => X0 m c (ix2 r j)) (max (X1 m c (ix2 r 0)) (fb 0x322BCC77#32))) (X2 m c (ix2 r 0)) (X3 m c (ix2 r 0))

theorem heavy_eq (x0 : FVec Ideal S8x100096 .f32) (x1 : FVec Ideal S8x128 .f32) (i : Fin 8) :
    row (weights (scaled (F := Ideal) x1 x0)) i = heavy (fun j => x0 (ix2 i j)) (max (x1 (ix2 i 0)) (fb 0x322BCC77#32)) := by
  funext j
  exact weights_read x1 x0 i j

theorem body_answer (x0 : FVec Ideal S8x100096 .f32) (x1 x2 x3 : FVec Ideal S8x128 .f32) (i : Fin 8) (y : Fin 100096 → EReal) (d p u : EReal)
    (h0 : (fun j => (x0 (ix2 i j) : EReal)) = y) (h1 : x1 (ix2 i 0) = d) (h2 : x2 (ix2 i 0) = p) (h3 : x3 (ix2 i 0) = u) :
    bodyOut (F := Ideal) x0 x1 x2 x3 (ix2 i 0) = sPick (heavy y (max d (fb 0x322BCC77#32))) p u := by
  subst h0 h1 h2 h3
  rw [bodyOut_read, heavy_eq]

theorem outBlk_read (c : Dev nD) (t : Fin cfg0.N) (i : Fin 8) : outBlk m c t (ix2 i 0) = answer m c (under t i) :=
  body_answer _ _ _ _ i _ _ _ _ (funext fun j => blk_0 m c t i j) (blk_1 m c t i 0) (blk_2 m c t i 0) (blk_3 m c t i 0)

/-- The result array after the run. -/
abbrev result (c : Dev nD) : IVec S64x128 32 := (dats m 0 c).arrAt 4 cfg0.N

theorem result_read (c : Dev nD) (r : Fin 64) : result m c (ix2 r 0) = answer m c r := by
  have hN := points
  have ht : r.val / 8 < cfg0.N := by have := r.isLt; omega
  have hr : under ⟨r.val / 8, ht⟩ ⟨r.val % 8, Nat.mod_lt _ (by decide)⟩ = r := Fin.ext (Nat.div_add_mod' r.val 8)
  refine (dats m 0 c).arrAt_forall_of_flushed 4 (fun i v => ∀ q : Fin 64, i = (ix2 q 0 : S64x128.Idx) → v = answer m c q) ?_ cfg0.N ⟨r.val / 8, ht⟩ (ix2 r 0 : S64x128.Idx) ht (flush0_4 _) ?_ r rfl
  · intro t _ y q hq
    obtain ⟨i, j, rfl⟩ := ix2_eta (A := 8) (B := 128) y
    rw [emb_4] at hq
    have h0 : under t i = q := congrFun hq 0
    have h1 : j = 0 := congrFun hq 1
    subst h1 h0
    exact outBlk_read m c t i
  · have h := ((cfg0.win 4).blk (⟨r.val / 8, ht⟩ : Fin cfg0.N)).view.emb_mem_set (ix2 ⟨r.val % 8, Nat.mod_lt _ (by decide)⟩ 0 : S8x128.Idx)
    rw [emb_4, hr] at h
    exact h

end Cert.KernelIdeal.Hand
-- ==== Proof.HostRead.lean ====
module

public import Idealize.ShloMosaic.Lib.Pointwise
public import Idealize.ShloMosaic.Lib.SortFacts
public import Idealize.ShloMosaic.Lib.Routing.Ops
public import Idealize.ShloMosaic.Lib.Pipeline.Value

/-! Host operations along the second axis of a matrix, read at one entry: the order a stable sort
leaves, a batched gather along the row, and a running sum. -/

@[expose] public section

set_option maxRecDepth 65536

noncomputable section

namespace Cert.Row

open Idealize.ShloMosaic

section StableSort

variable {β : Type} [LinearOrder β]

/-- Position `b` comes before `c`: a smaller key, or the same key and an earlier place. -/
def Ahead {n : ℕ} (y : Fin n → β) (b c : Fin n) : Prop := y b < y c ∨ (y b = y c ∧ b < c)

theorem Ahead.trans {n : ℕ} {y : Fin n → β} {a b c : Fin n} (h : Ahead y a b) (h' : Ahead y b c) : Ahead y a c := by
  rcases h with h | ⟨h, k⟩ <;> rcases h' with h' | ⟨h', k'⟩
  · exact .inl (h.trans h')
  · exact .inl (h' ▸ h)
  · exact .inl (h ▸ h')
  · exact .inr ⟨h.trans h', k.trans k'⟩

theorem ahead_insert {n : ℕ} (y : Fin n → β) (a : Fin n) (l : List (Fin n)) (hl : l.Pairwise (Ahead y))
    (ha : ∀ b ∈ l, a < b) : (insertBefore (fun a b => decide (y a < y b)) a l).Pairwise (Ahead y) := by
  induction l with
  | nil => exact List.pairwise_singleton _ _
  | cons b l ih =>
    obtain ⟨hb, hl'⟩ := List.pairwise_cons.mp hl
    unfold insertBefore
    split
    · next hlt =>
      refine List.pairwise_cons.mpr ⟨fun c hc => ?_, ih hl' fun c hc => ha c (List.mem_cons_of_mem _ hc)⟩
      rcases List.mem_cons.mp ((perm_insertBefore _ a l).mem_iff.mp hc) with rfl | hc
      · exact .inl (of_decide_eq_true hlt)
      · exact hb c hc
    · next hlt =>
      have hab : Ahead y a b := by
        rcases (not_lt.mp fun h => hlt (decide_eq_true h)).lt_or_eq with h | h
        · exact .inl h
        · exact .inr ⟨h, ha b List.mem_cons_self⟩
      refine List.pairwise_cons.mpr ⟨fun c hc => ?_, hl⟩
      rcases List.mem_cons.mp hc with rfl | hc
      · exact hab
      · exact hab.trans (hb c hc)

theorem ahead_sort {n : ℕ} (y : Fin n → β) (l : List (Fin n)) (hl : l.Pairwise (· < ·)) :
    (stableSort (fun a b => decide (y a < y b)) l).Pairwise (Ahead y) := by
  induction l with
  | nil => exact List.Pairwise.nil
  | cons a l ih =>
    obtain ⟨ha, hl'⟩ := List.pairwise_cons.mp hl
    unfold stableSort
    exact ahead_insert y a _ (ih hl') fun b hb => ha b ((perm_stableSort _ l).mem_iff.mp hb)

/-- A stable sort by the keys `y` leaves smaller keys first, and equal keys in their first order. -/
theorem ahead_sortedFrom {n : ℕ} (y : Fin n → β) {i j : Fin n} (hij : i < j) :
    Ahead y (sortedFrom (fun a b => decide (y a < y b)) i) (sortedFrom (fun a b => decide (y a < y b)) j) :=
  List.pairwise_iff_get.mp (ahead_sort y (List.finRange n) (List.pairwise_lt_finRange n))
    (i.cast (length_sortPositions n _).symm) (j.cast (length_sortPositions n _).symm) hij

end StableSort

section Gather

variable {α : Type}

/-- Dimension numbers of a gather along the row: `[R, N]` at `[R, C, 1]` gives `[R, C]`. -/
abbrev alongDims (R N C : ℕ)
    (wf : GatherDims.WF ⟨2, ![R, N]⟩ ⟨3, ![R, C, 1]⟩ ⟨2, ![R, C]⟩ [] [1] [0] [1] [0] 2 ![1, 1]) :
    GatherDims ⟨2, ![R, N]⟩ ⟨3, ![R, C, 1]⟩ ⟨2, ![R, C]⟩ where
  offsetDims := []
  collapsedSliceDims := [1]
  operandBatchingDims := [0]
  startIndicesBatchingDims := [0]
  startIndexMap := [1]
  indexVectorDim := 2
  sliceSizes := ![1, 1]
  wf := wf

theorem along_read {R N C w : ℕ} (hN : 0 < N)
    (wf : GatherDims.WF ⟨2, ![R, N]⟩ ⟨3, ![R, C, 1]⟩ ⟨2, ![R, C]⟩ [] [1] [0] [1] [0] 2 ![1, 1])
    (x : (⟨2, ![R, N]⟩ : Shape).Idx → α) (idx : IVec ⟨3, ![R, C, 1]⟩ w) (r : Fin R) (c : Fin C) :
    Host.gather (alongDims R N C wf) x idx (ix2 r c)
      = x (ix2 r ⟨min (idx (ix3 r c (0 : Fin 1))).toInt.toNat (N - 1), by omega⟩) := by
  unfold Host.gather
  congr 1
  funext a
  refine Fin.ext ?_
  show (alongDims R N C wf).start (ix2 r c) idx a + (alongDims R N C wf).batchCoord (ix2 r c) a
      + (alongDims R N C wf).offCoord (ix2 r c) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims R N C wf).startIndexMap from List.mem_singleton.mpr rfl)]
    have hsi : (alongDims R N C wf).siIdx (ix2 r c) ⟨List.idxOf (1 : Fin 2) (alongDims R N C wf).startIndexMap,
        List.idxOf_lt_length_iff.2 (List.mem_singleton.mpr rfl)⟩ = ix3 r c (0 : Fin 1) := by
      funext b; refine Fin.ext ?_
      match b with
      | ⟨0, _⟩ => rfl
      | ⟨1, _⟩ => rfl
      | ⟨2, _⟩ => rfl
    rw [hsi]
    rfl

end Gather

section Cumsum

theorem foldl_add (n : ℕ) (f : EReal → Fin n → EReal) (g : Fin n → EReal) (hf : ∀ r k, f r k = r + g k) :
    (List.finRange n).foldl f 0 = ∑ k, g k := by
  rw [Fin.sum_univ_def]
  have key : ∀ (l : List (Fin n)) (r : EReal), l.foldl f r = r + (l.map g).sum := by
    intro l
    induction l with
    | nil => intro r; simp
    | cons a l ih => intro r; rw [List.foldl_cons, ih, hf, List.map_cons, List.sum_cons, add_assoc]
  rw [key, zero_add]

theorem range_window (y : ℕ → EReal) (m j : ℕ) (hj : j ≤ m) :
    ∑ k ∈ Finset.range (m + 1), (if m ≤ j + k then y (j + k - m) else 0) = ∑ l ∈ Finset.range (j + 1), y l := by
  have hs : m + 1 = (m - j) + (j + 1) := by omega
  rw [hs, Finset.sum_range_add, Finset.sum_eq_zero (fun k hk => if_neg (by have := Finset.mem_range.mp hk; omega)), zero_add]
  refine Finset.sum_congr rfl fun k hk => ?_
  rw [if_pos (by omega)]
  congr 1
  omega

/-- A running sum along the row: entry `j` is the sum of the entries up to `j`. -/
theorem cumsum_read {R m : ℕ} (x : (⟨2, ![R, m + 1]⟩ : Shape).Idx → EReal) {u : Shape} (init : u.Idx → EReal)
    (hinit : ∀ i, init i = 0)
    (h : (⟨2, ![R, m + 1]⟩ : Shape).ReduceWindows (![1, m + 1] : Fin 2 → Nat) ![1, 1] ![0, m] ![0, 0] ⟨2, ![R, m + 1]⟩)
    (hu : 0 < u.numel) (r : Fin R) (j : Fin (m + 1)) :
    Host.reduceWindow (· + ·) ![1, m + 1] ![1, 1] ![0, m] ![0, 0] x init h hu (ix2 r j)
      = ∑ l : Fin (m + 1), if l.val < j.val + 1 then x (ix2 r l) else 0 := by
  have hj := j.isLt
  unfold Host.reduceWindow
  rw [hinit]
  have hnum : (⟨2, ![1, m + 1]⟩ : Shape).numel = m + 1 := Routing.numel2 _
  refine (foldl_add _ _ (fun k => if m ≤ j.val + k.val then
    (if hl : j.val + k.val - m < m + 1 then x (ix2 r ⟨j.val + k.val - m, hl⟩) else 0) else 0) fun s k => ?_).trans ?_
  · have hw0 : ((⟨2, ![1, m + 1]⟩ : Shape).rowMajor.symm k 0).val = 0 := by rw [Routing.symm2]; rfl
    have hw : ((⟨2, ![1, m + 1]⟩ : Shape).rowMajor.symm k 1).val = k.val := by rw [Routing.symm2]; rfl
    have hk : k.val < m + 1 := (k.cast hnum).isLt
    dsimp only
    refine congrArg (s + ·) ?_
    split
    · next hin =>
      have h1 := hin 1
      change m ≤ j.val * 1 + ((⟨2, ![1, m + 1]⟩ : Shape).rowMajor.symm k 1).val
        ∧ j.val * 1 + ((⟨2, ![1, m + 1]⟩ : Shape).rowMajor.symm k 1).val - m < m + 1 at h1
      rw [hw] at h1
      rw [if_pos (by omega), dif_pos (by omega)]
      refine congrArg x (funext fun a => Fin.ext ?_)
      match a with
      | ⟨0, _⟩ =>
        show r.val * 1 + ((⟨2, ![1, m + 1]⟩ : Shape).rowMajor.symm k 0).val - 0 = r.val
        rw [hw0]; omega
      | ⟨1, _⟩ =>
        show j.val * 1 + ((⟨2, ![1, m + 1]⟩ : Shape).rowMajor.symm k 1).val - m = j.val + k.val - m
        rw [hw, Nat.mul_one]
    · next hin =>
      rw [if_neg fun hle => hin fun a => by
        match a with
        | ⟨0, _⟩ =>
          show 0 ≤ r.val * 1 + ((⟨2, ![1, m + 1]⟩ : Shape).rowMajor.symm k 0).val
            ∧ r.val * 1 + ((⟨2, ![1, m + 1]⟩ : Shape).rowMajor.symm k 0).val - 0 < R
          rw [hw0]
          have := r.isLt
          omega
        | ⟨1, _⟩ =>
          show m ≤ j.val * 1 + ((⟨2, ![1, m + 1]⟩ : Shape).rowMajor.symm k 1).val
            ∧ j.val * 1 + ((⟨2, ![1, m + 1]⟩ : Shape).rowMajor.symm k 1).val - m < m + 1
          rw [hw]
          omega]
  · rw [Finset.sum_fin_eq_sum_range, hnum]
    have e1 : ∀ k ∈ Finset.range (m + 1), (if h : k < m + 1 then
        (if m ≤ j.val + k then
          (if hl : j.val + k - m < m + 1 then x (ix2 r ⟨j.val + k - m, hl⟩) else 0) else 0) else 0)
        = if m ≤ j.val + k then (fun l => if hl : l < m + 1 then x (ix2 r ⟨l, hl⟩) else 0) (j.val + k - m) else 0 := by
      intro k hk
      rw [dif_pos (Finset.mem_range.mp hk)]
    refine (Finset.sum_congr rfl e1).trans ?_
    refine (range_window (fun l => if hl : l < m + 1 then x (ix2 r ⟨l, hl⟩) else 0) m j.val (by omega)).trans ?_
    rw [Finset.sum_fin_eq_sum_range]
    refine Eq.symm ((congrArg (fun q => ∑ i ∈ Finset.range q, if h : i < m + 1 then (if i < j.val + 1 then x (ix2 r ⟨i, h⟩) else 0) else 0)
      (show m + 1 = (j.val + 1) + (m - j.val) by omega)).trans ?_)
    rw [Finset.sum_range_add, Finset.sum_eq_zero (s := Finset.range (m - j.val)), add_zero]
    · refine Finset.sum_congr rfl fun l hl => ?_
      have := Finset.mem_range.mp hl
      rw [dif_pos (by omega), if_pos this, dif_pos (by omega)]
    · intro l hl
      have := Finset.mem_range.mp hl
      rw [dif_pos (by omega), if_neg (by omega)]

/-- The same with the row's length named apart. -/
theorem cumsum_row {R N m : ℕ} (hN : m + 1 = N) (x : (⟨2, ![R, N]⟩ : Shape).Idx → EReal) {u : Shape} (init : u.Idx → EReal)
    (hinit : ∀ i, init i = 0)
    (h : (⟨2, ![R, N]⟩ : Shape).ReduceWindows (![1, N] : Fin 2 → Nat) ![1, 1] ![0, m] ![0, 0] ⟨2, ![R, N]⟩)
    (hu : 0 < u.numel) (r : Fin R) (j : Fin N) :
    Host.reduceWindow (· + ·) ![1, N] ![1, 1] ![0, m] ![0, 0] x init h hu (ix2 r j)
      = ∑ l : Fin N, if l.val < j.val + 1 then x (ix2 r l) else 0 := by
  subst hN
  exact cumsum_read x init hinit h hu r j

/-- The running sum of a float row over the reals. -/
theorem cumsum_float {R N m : ℕ} (hN : m + 1 = N) (x : FVec Ideal ⟨2, ![R, N]⟩ .f32) {u : Shape} (init : FVec Ideal u .f32)
    (hinit : ∀ i, init i = (0 : EReal))
    (h : (⟨2, ![R, N]⟩ : Shape).ReduceWindows (![1, N] : Fin 2 → Nat) ![1, 1] ![0, m] ![0, 0] ⟨2, ![R, N]⟩)
    (hu : 0 < u.numel) (r : Fin R) (j : Fin N) :
    Host.reduceWindowAdd ![1, N] ![1, 1] ![0, m] ![0, 0] x init h hu (ix2 r j)
      = ∑ l : Fin N, if l.val < j.val + 1 then (x (ix2 r l) : EReal) else 0 :=
  cumsum_row hN x (fun _ : (⟨0, ![]⟩ : Shape).Idx => init (Shape.Idx.first hu)) (fun _ => hinit _) h (by decide) r j

end Cumsum

section Shift

/-- A column put before a matrix: entry `k` is the column at zero, the matrix one place back elsewhere. -/
theorem shift_read {R N M : ℕ} {α : Type} (hN : M + 1 = N) (z : (⟨2, ![R, 1]⟩ : Shape).Idx → α) (y : (⟨2, ![R, M]⟩ : Shape).Idx → α)
    (h : Shape.Concatenates [⟨2, ![R, 1]⟩, ⟨2, ![R, M]⟩] ⟨2, ![R, N]⟩ 1) (r : Fin R) (k : Fin N) :
    concatenate ⟨2, ![R, N]⟩ 1 [⟨⟨2, ![R, 1]⟩, z⟩, ⟨⟨2, ![R, M]⟩, y⟩] h (ix2 r k)
      = if hk : k.val = 0 then z (ix2 r 0) else y (ix2 r ⟨k.val - 1, by have := k.isLt; omega⟩) := by
  have hk := k.isLt
  split
  · next h0 =>
    refine concatenate_pair_apply_left 1 z y h (ix2 r k) rfl (ix2 r 0) fun b => ?_
    match b with
    | ⟨0, _⟩ => rfl
    | ⟨1, _⟩ => exact h0.symm
  · next h0 =>
    refine concatenate_pair_apply_right 1 z y h (ix2 r k) rfl rfl (ix2 r ⟨k.val - 1, by omega⟩) (fun b hb => ?_) ?_
    · match b with
      | ⟨0, _⟩ => rfl
      | ⟨1, _⟩ => exact absurd rfl hb
    · show k.val - 1 + 1 = k.val
      omega

/-- A slice from the start of every row. -/
theorem front_read {R N M : ℕ} {α : Type} (hM : M ≤ N) (x : (⟨2, ![R, N]⟩ : Shape).Idx → α)
    (h : (⟨2, ![R, N]⟩ : Shape).Slices ![0, 0] ⟨2, ![R, M]⟩) (r : Fin R) (k : Fin M) :
    extractStridedSlice ⟨2, ![R, M]⟩ ![0, 0] x h (ix2 r k) = x (ix2 r ⟨k.val, by have := k.isLt; omega⟩) := by
  pointwise []
  refine congrArg x (funext fun a => Fin.ext ?_)
  match a with
  | ⟨0, _⟩ => exact Nat.zero_add _
  | ⟨1, _⟩ => exact Nat.zero_add _

end Shift

section Reduce

/-- A fold along the row of a matrix. -/
theorem reduce_row {R N : ℕ} {α : Type} {u : Shape} (f : α → α → α) [Std.Commutative f] [Std.Associative f]
    (x : (⟨2, ![R, N]⟩ : Shape).Idx → α) (init : u.Idx → α) (h : (⟨2, ![R, N]⟩ : Shape).ReducesTo [1] ⟨1, ![R]⟩) (hu : 0 < u.numel)
    (r : Fin R) : Host.reduce f x init h hu (ix1 r) = Finset.univ.fold f (init (Shape.Idx.first hu)) fun k => x (ix2 r k) := by
  pointwise []

/-- A fold along a last axis of one entry. -/
theorem reduce_one {R N : ℕ} {α : Type} {u : Shape} (f : α → α → α) [Std.Commutative f] [Std.Associative f]
    (x : (⟨3, ![R, N, 1]⟩ : Shape).Idx → α) (init : u.Idx → α) (h : (⟨3, ![R, N, 1]⟩ : Shape).ReducesTo [2] ⟨2, ![R, N]⟩) (hu : 0 < u.numel)
    (r : Fin R) (c : Fin N) : Host.reduce f x init h hu (ix2 r c) = f (x (ix3 r c 0)) (init (Shape.Idx.first hu)) := by
  rw [Host.reduce_eq_fold]
  refine Eq.trans (b := (Finset.univ : Finset (Fin 1)).fold f (init (Shape.Idx.first hu)) fun k => x (ix3 r c k)) (by pointwise []) ?_
  rw [Finset.univ_unique, Finset.fold_singleton]
  rfl

theorem fold_and {N : ℕ} (x : Fin N → BitVec 1) : Finset.univ.fold IntOp.andi 1#1 x = 1#1 ↔ ∀ k, x k = 1#1 := by
  have hb : ∀ a b : BitVec 1, IntOp.andi a b = 1#1 ↔ a = 1#1 ∧ b = 1#1 := by decide
  have key : ∀ s : Finset (Fin N), s.fold IntOp.andi 1#1 x = 1#1 ↔ ∀ k ∈ s, x k = 1#1 := by
    intro s
    classical
    induction s using Finset.induction_on with
    | empty => simp
    | insert a s ha ih => rw [Finset.fold_insert ha, hb, ih, Finset.forall_mem_insert]
  rw [key]
  simp

end Reduce

end Cert.Row
-- ==== Proof.RefRead.lean ====
module

public import proofs.«01_k».proof.Pre_resolvable
public import proofs.«01_k».proof.Proof.HostRead
public import proofs.«01_k».proof.Proof.RowFloat

/-! The reference's functions read at one row. -/

@[expose] public section

set_option maxRecDepth 65536

noncomputable section

namespace Cert.Row.Ref

open Idealize.ShloMosaic Cert.Pre_resolvable Cert.Pre_resolvable.Facts

variable {F : FTy → Type} [FloatOps F] [Cert.Pre_resolvable.Facts]

/-! ### The whole-array functions -/

/-- A column spread over the row. -/
def wide (v : FVec F S64x1 .f32) : FVec F S64x100000 .f32 := broadcastInDim S64x100000 ![0, 1] bcast_S64x1_S64x100000_0_1 v

/-- A vector of row values as a column. -/
def col {α : Type} (v : S64.Idx → α) : S64x1.Idx → α := broadcastInDim S64x1 ![0] bcast_S64_S64x1_0 v

/-- One literal in every row. -/
def lit (b : BitVec 32) : FVec F S64x1 .f32 := broadcastInDim S64x1 ![] bcast_S_S64x1 (constant S_ .f32 b)

def logits (x0 : FVec F S64x100000 .f32) (x1 : FVec F S64x1 .f32) : FVec F S64x100000 .f32 :=
  Host.divf x0 (wide (fn_clip (F := F) x1 (constant S_ .f32 0x322BCC77#32)))

def maxOf (x : FVec F S64x100000 .f32) : FVec F S64 .f32 :=
  Host.reduce FloatOps.maximumf x (constant (F := F) S_ .f32 0xFF800000#32) reducesTo_S64x100000_S64_d1 h_S_

def sumOf (x : FVec F S64x100000 .f32) : FVec F S64 .f32 :=
  Host.reduceAdd x (constant S_ .f32 0x00000000#32) reducesTo_S64x100000_S64_d1 h_S_

def expd (s : FVec F S64x100000 .f32) : FVec F S64x100000 .f32 :=
  Host.exp (subf s (wide (col (maximumf (broadcastInDim S64 ![] bcast_S_S64 (constant S_ .f32 0xFF800000#32)) (maxOf s)))))

def share (e : FVec F S64x100000 .f32) : FVec F S64x100000 .f32 := Host.divf e (wide (col (sumOf e)))

def probs (x0 : FVec F S64x100000 .f32) (x1 : FVec F S64x1 .f32) : FVec F S64x100000 .f32 := share (expd (logits x0 x1))

def orderOf (p : FVec F S64x100000 .f32) : IVec S64x100000 32 := fn_argsort (F := F) (Host.negf p)

def sortedOf (p : FVec F S64x100000 .f32) : FVec F S64x100000 .f32 := fn_take_along_axis (F := F) p (orderOf p)

def dropped (s : FVec F S64x100000 .f32) (x2 : FVec F S64x1 .f32) : IVec S64x100000 1 :=
  concatenate S64x100000 1 [⟨S64x1, broadcastInDim S64x1 ![] bcast_S_S64x1 (constantI S_ 1 0#1)⟩,
    ⟨S64x99999, extractStridedSlice S64x99999 ![0, 0] (cmpf .ogt (fn_cumsum (F := F) s) (wide x2)) slices_S64x100000_S64x99999_0_0⟩]
    concatenates_S64x1_S64x99999_S64x100000_d1

def cdf (d : IVec S64x100000 1) (s : FVec F S64x100000 .f32) : FVec F S64x100000 .f32 :=
  fn_cumsum (F := F) (share (fn_where (F := F) d (constant S_ .f32 0x00000000#32) s))

def keyWords : IVec S2 32 :=
  concatenate S2 0 [⟨S1, broadcastInDim S1 ![] bcast_S_S1 (Host.shrui (constantI S_ 32 42#32) (constantI S_ 32 32#32))⟩,
    ⟨S1, broadcastInDim S1 ![] bcast_S_S1 (andi (constantI S_ 32 42#32) (constantI S_ 32 4294967295#32))⟩] concatenates_S1_S1_S2_d0

def unif (key : IVec S2 32) : FVec F S64x1 .f32 :=
  fn_uniform (F := F) key (constant S_ .f32 0x00000000#32) (constant S_ .f32 0x3F800000#32)

def place (c : FVec F S64x100000 .f32) (u : FVec F S64x1 .f32) : IVec S64x1 32 :=
  fn_clip_1 (F := F) (col (Host.reduce IntOp.addi (extui 32 (cmpf .olt c (wide u)) natLt_1_32) (constantI S_ 32 0#32)
    reducesTo_S64x100000_S64_d1 h_S_)) (constantI S_ 32 0#32) (constantI S_ 32 99999#32)

/-- One entry of every row, at the place the row's word names. -/
def takeOne {α : Type} (fill : S64x1.Idx → α) (x : S64x100000.Idx → α) (i : IVec S64x1 32) : S64x1.Idx → α :=
  let w : IVec S64x1x1 32 := shapeCast S64x1x1 (select (cmpi .slt i (broadcastInDim S64x1 ![] bcast_S_S64x1 (constantI S_ 32 0#32)))
    (addi i (broadcastInDim S64x1 ![] bcast_S_S64x1 (constantI S_ 32 100000#32))) i) shapeCasts_S64x1_S64x1x1
  select (Host.reduce IntOp.andi (andi (cmpi .sge w (broadcastInDim S64x1x1 ![] bcast_S_S64x1x1 (constantI S_ 32 0#32)))
      (cmpi .sle w (broadcastInDim S64x1x1 ![0, 1, 2] bcast_S1x1x1_S64x1x1_0_1_2
        (broadcastInDim S1x1x1 ![2] bcast_S1_S1x1x1_2 (constantI S1 32 99999#32)))))
      (constantI S_ 1 1#1) reducesTo_S64x1x1_S64x1_d2 h_S_)
    (Host.gather gather_S64x100000_S64x1x1_S64x1_n_1_0_0_1_2_11 x w) fill

theorem takeOne_eq (x : FVec F S64x100000 .f32) (i : IVec S64x1 32) : fn_take_along_axis_2 (F := F) x i
    = takeOne (broadcastInDim S64x1 ![] bcast_S_S64x1 (constant S_ .f32 0x7FC00000#32)) x i := rfl

/-- The drawn place in the row's order. -/
def placeOf (p : FVec F S64x100000 .f32) (x2 : FVec F S64x1 .f32) (u : FVec F S64x1 .f32) : IVec S64x1 32 :=
  place (cdf (dropped (sortedOf p) x2) (sortedOf p)) u

/-! ### The precondition's pieces -/

def least (d : IVec S64x100000 1) (s : FVec F S64x100000 .f32) : FVec F S64x1 .f32 :=
  col (Host.reduce FloatOps.minimumf (fn_where (F := F) d (constant S_ .f32 0x7F800000#32) s) (constant (F := F) S_ .f32 0x7F800000#32)
    reducesTo_S64x100000_S64_d1 h_S_)

def apart (p : FVec F S64x100000 .f32) (v : FVec F S64x1 .f32) : IVec S64x1 1 :=
  andi (cmpf .oge v (mulf (col (maxOf p)) (lit 0x00800000#32)))
    (col (Host.reduce IntOp.andi (ori (cmpf .ole p (wide v)) (cmpf .oge p (wide (mulf v (lit 0x3F800001#32))))) (constantI S_ 1 1#1)
      reducesTo_S64x100000_S64_d1 h_S_))

def good (x0 : FVec F S64x100000 .f32) (x1 x2 : FVec F S64x1 .f32) : IVec S64x1 1 :=
  let p := probs x0 x1
  let s := sortedOf p
  andi (andi (andi (andi (cmpf .ogt (col (maxOf x0)) (lit 0xFF800000#32)) (cmpf .olt (col (maxOf x0)) (lit 0x7F800000#32)))
      (cmpf .olt x1 (lit 0x7F800000#32)))
    (ori (cmpf .oge x2 (lit 0x3F800000#32)) (apart p (least (dropped s x2) s))))
    (apart p (fn_take_along_axis_2 (F := F) s (placeOf p x2 (unif keyWords))))

theorem fn_eq (x0 : FVec F S64x100000 .f32) (x1 x2 : FVec F S64x1 .f32) : fn (F := F) x0 x1 x2 = good x0 x1 x2 := rfl

end Cert.Row.Ref
-- ==== Proof.KHost.lean ====
module

public import proofs.«01_k».proof.Proof.KArr
public import proofs.«01_k».proof.Proof.RefRead
public import Idealize.ShloMosaic.Lib.StableHlo.RunRead

/-! The arrays the launch finds, as functions of the arguments. -/

@[expose] public section

set_option maxRecDepth 65536

noncomputable section

namespace Cert.KernelIdeal.Hand

open Cert.KernelIdeal Cert.KernelIdeal.Gen Idealize.ShloMosaic Idealize.ShloMosaic.TcCoe Idealize.ShloMosaic.StableHlo Idealize.SL.Sem Finset
open Cert.Row

section Reads

variable {F : FTy → Type} [FloatOps F] [Cert.Pre_resolvable.Facts]

set_option maxHeartbeats 4000000 in
theorem uniform_read (V : Valuation τ sig (Elt F)) :
    after hostOps0_3 V (Proc.devRef .tc main_v8) = Cert.Pre_resolvable.fn_uniform (F := F) (V (Proc.devRef .tc main_v7)) (V (Proc.devRef .tc main_cst_2)) (V (Proc.devRef .tc main_cst_3)) := by
  after_reads_simp
  simp -implicitDefEqProofs only [StableHlo.TRef.toBuf, StableHlo.TRef.ofBuf, cast_cast, cast_eq]
  rfl

set_option maxHeartbeats 4000000 in
theorem uniform_keeps (V : Valuation τ sig (Elt F)) : after hostOps0_3 V (Proc.devRef .tc main_v0) = V (Proc.devRef .tc main_v0) :=
  StableHlo.after_of_forall_not_mem (b := Proc.devRef .tc main_v0) _ _ (List.forall_iff_forall_mem.mp (by
    simp only [hostOps0_3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem key_read (V : Valuation τ sig (Elt F)) : after hostOps0_2 V (Proc.devRef .tc main_v7) = Cert.Row.Ref.keyWords := by
  after_reads_simp
  rfl

theorem low_read (V : Valuation τ sig (Elt F)) : after hostOps0_2 V (Proc.devRef .tc main_cst_2) = constant (F := F) S_ .f32 0x00000000#32 := by
  after_reads_simp

theorem high_read (V : Valuation τ sig (Elt F)) : after hostOps0_2 V (Proc.devRef .tc main_cst_3) = constant (F := F) S_ .f32 0x3F800000#32 := by
  after_reads_simp

theorem key_keeps (V : Valuation τ sig (Elt F)) : after hostOps0_2 V (Proc.devRef .tc main_v0) = V (Proc.devRef .tc main_v0) := by
  after_reads_simp

theorem pad_read (V : Valuation τ sig (Elt F)) : after hostOps0_1 V (Proc.devRef .tc main_v0)
    = pad S64x100096 ![0, 0] ![0, 96] ![0, 0] (V (Proc.devRef .tc main_arg0)) (V (Proc.devRef .tc main_cst)) pads_S64x100000_S64x100096_000_0960 h_S_ := by
  after_reads_simp
  simp -implicitDefEqProofs only [StableHlo.TRef.toBuf, StableHlo.TRef.ofBuf, cast_cast, cast_eq]
  rfl

theorem first_read (V : Valuation τ sig (Elt F)) : after hostOps0 V (Proc.devRef .tc main_cst) = constant (F := F) S_ .f32 0xFF800000#32 := by
  after_reads_simp

theorem first_keeps (V : Valuation τ sig (Elt F)) : after hostOps0 V (Proc.devRef .tc main_arg0) = V (Proc.devRef .tc main_arg0) := by
  after_reads_simp

theorem last_9 (V : Valuation τ sig (Elt F)) : after hostOps0_4 V (Proc.devRef .tc main_v9) = broadcastInDim S64x128 ![0, 1] bcast_S64x1_S64x128_0_1 (V (Proc.devRef .tc main_arg1)) := by
  after_reads_simp

theorem last_10 (V : Valuation τ sig (Elt F)) : after hostOps0_4 V (Proc.devRef .tc main_v10) = broadcastInDim S64x128 ![0, 1] bcast_S64x1_S64x128_0_1 (V (Proc.devRef .tc main_arg2)) := by
  after_reads_simp

theorem last_11 (V : Valuation τ sig (Elt F)) : after hostOps0_4 V (Proc.devRef .tc main_v11) = broadcastInDim S64x128 ![0, 1] bcast_S64x1_S64x128_0_1 (V (Proc.devRef .tc main_v8)) := by
  after_reads_simp

theorem last_0 (V : Valuation τ sig (Elt F)) : after hostOps0_4 V (Proc.devRef .tc main_v0) = V (Proc.devRef .tc main_v0) := by
  after_reads_simp

theorem last_arg1 (V : Valuation τ sig (Elt F)) : after hostOps0_4 V (Proc.devRef .tc main_arg1) = V (Proc.devRef .tc main_arg1) := by
  after_reads_simp

theorem last_arg2 (V : Valuation τ sig (Elt F)) : after hostOps0_4 V (Proc.devRef .tc main_arg2) = V (Proc.devRef .tc main_arg2) := by
  after_reads_simp

end Reads

theorem pad_at {R N P M : ℕ} {α : Type} {u : Shape} (x : (⟨2, ![R, N]⟩ : Shape).Idx → α) (v : u.Idx → α)
    (h : (⟨2, ![R, N]⟩ : Shape).Pads ![0, 0] ![0, P] ![0, 0] ⟨2, ![R, M]⟩) (hu : 0 < u.numel) (r : Fin R) (j : Fin M) :
    pad ⟨2, ![R, M]⟩ ![0, 0] ![0, P] ![0, 0] x v h hu (ix2 r j) = if hj : j.val < N then x (ix2 r ⟨j.val, hj⟩) else v (Shape.Idx.first hu) := by
  by_cases hj : j.val < N
  · rw [dif_pos hj]
    have hin : ∀ a : Fin 2, (![0, 0] : Fin 2 → Nat) a ≤ (ix2 r j (a.cast h.1)).val ∧ ((ix2 r j (a.cast h.1)).val - (![0, 0] : Fin 2 → Nat) a) % ((![0, 0] : Fin 2 → Nat) a + 1) = 0
        ∧ ((ix2 r j (a.cast h.1)).val - (![0, 0] : Fin 2 → Nat) a) / ((![0, 0] : Fin 2 → Nat) a + 1) < (![R, N] : Fin 2 → Nat) a := by
      intro a
      match a with
      | ⟨0, _⟩ => exact ⟨Nat.zero_le _, Nat.mod_one _, by show (r.val - 0) / 1 < R; rw [Nat.div_one]; exact r.isLt⟩
      | ⟨1, _⟩ => exact ⟨Nat.zero_le _, Nat.mod_one _, by show (j.val - 0) / 1 < N; rw [Nat.div_one]; exact hj⟩
    refine (dif_pos hin).trans (congrArg x (funext fun a => Fin.ext ?_))
    match a with
    | ⟨0, _⟩ => exact Nat.div_one _
    | ⟨1, _⟩ => exact Nat.div_one _
  · rw [dif_neg hj]
    refine dif_neg fun hin => hj ?_
    have h1 : (j.val - 0) / 1 < N := (hin 1).2.2
    rwa [Nat.div_one] at h1

theorem wide_at (x : FVec Ideal S64x1 .f32) (r : Fin 64) : broadcastInDim S64x128 ![0, 1] bcast_S64x1_S64x128_0_1 x (ix2 r 0) = x (ix2 r 0) := by
  pointwise []

/-! ### The launch's arrays -/

theorem five {F : FTy → Type} [FloatOps F] (a b c d e : List (HloOp τ sig (Elt F))) (V : Valuation τ sig (Elt F)) :
    after (List.flatten [a, b, c, d, e]) V = after e (after d (after c (after b (after a V)))) := by
  simp only [List.flatten_cons, List.flatten_nil, List.append_nil, StableHlo.after_append]

variable [Cert.Pre_resolvable.Facts]
variable (m : (ℓ : Loc nD τ sig) → Buf (Elt Ideal) ℓ)

theorem X0_eq (c : Dev nD) : X0 m c = pad S64x100096 ![0, 0] ![0, 96] ![0, 0] (m ((c : Thread nD τ).loc main_arg0) : FVec Ideal S64x100000 .f32)
    (constant (F := Ideal) S_ .f32 0xFF800000#32) pads_S64x100000_S64x100096_000_0960 h_S_ := by
  refine (congrFun (five _ _ _ _ _ _) (Proc.devRef .tc main_v0)).trans ?_
  rw [last_0, uniform_keeps, key_keeps, pad_read, first_read, first_keeps]

theorem X1_eq (c : Dev nD) : X1 m c = broadcastInDim S64x128 ![0, 1] bcast_S64x1_S64x128_0_1 (m ((c : Thread nD τ).loc main_arg1) : FVec Ideal S64x1 .f32) := by
  have h : _ = m ((c : Thread nD τ).loc main_arg1) := (congrFun (five _ _ _ _ _ _) (Proc.devRef .tc main_arg1)).symm.trans (V_main_arg1 m c)
  rw [last_arg1] at h
  refine (congrFun (five _ _ _ _ _ _) (Proc.devRef .tc main_v9)).trans ?_
  rw [last_9, h]

theorem X2_eq (c : Dev nD) : X2 m c = broadcastInDim S64x128 ![0, 1] bcast_S64x1_S64x128_0_1 (m ((c : Thread nD τ).loc main_arg2) : FVec Ideal S64x1 .f32) := by
  have h : _ = m ((c : Thread nD τ).loc main_arg2) := (congrFun (five _ _ _ _ _ _) (Proc.devRef .tc main_arg2)).symm.trans (V_main_arg2 m c)
  rw [last_arg2] at h
  refine (congrFun (five _ _ _ _ _ _) (Proc.devRef .tc main_v10)).trans ?_
  rw [last_10, h]

theorem X3_eq (c : Dev nD) : X3 m c = broadcastInDim S64x128 ![0, 1] bcast_S64x1_S64x128_0_1 (Ref.unif (F := Ideal) Ref.keyWords) := by
  refine (congrFun (five _ _ _ _ _ _) (Proc.devRef .tc main_v11)).trans ?_
  rw [last_11, uniform_read, key_read, low_read, high_read]
  rfl

end Cert.KernelIdeal.Hand
-- ==== Proof.RowPick.lean ====
module

public import proofs.«01_k».proof.Proof.RowKernel

@[expose] public section

/-!
The kernel's row returns the drawn token.
-/

noncomputable section

namespace Cert.Row

open Idealize.ShloMosaic Finset

variable {n N : ℕ} {w : Fin N → ℝ} {e : Fin n → Fin N}

theorem sle_iff {j : ℕ} (hj : j < 2 ^ 31) {m : BitVec 32} (hm : m.toNat < 2 ^ 31) :
    ((BitVec.ofNat 32 j).sle m = true) ↔ j ≤ m.toNat := by
  have h1 : (BitVec.ofNat 32 j).toNat = j := by rw [BitVec.toNat_ofNat, Nat.mod_eq_of_lt (by omega)]
  rw [BitVec.sle_iff_toInt_le, BitVec.toInt_eq_toNat_cond, BitVec.toInt_eq_toNat_cond, h1, if_pos (by omega), if_pos (by omega)]
  omega

theorem tieBefore_mono {a : Fin n → ℝ} {j k : Fin n} (hjk : j ≤ k) (h : a j = a k) : tieBefore a j ≤ tieBefore a k := by
  refine card_le_card fun l hl => ?_
  simp only [mem_filter, mem_univ, true_and] at hl ⊢
  exact ⟨lt_of_lt_of_le hl.1 hjk, hl.2.trans h⟩

/-- Enough ties lie at or before an index exactly when the tie of that rank does. -/
theorem IsRow.count_iff (h : IsRow w e) (hN : N ≤ 100096) (ks : Fin n) (hv : w (e ks) ≠ 0) {m : BitVec 32} (hm : m.toNat ≤ 99999) :
    (((tieBefore (fun k => w (e k)) ks + 1 : ℝ) : EReal) ≤ sCount (fun j => (w j : EReal)) ((w (e ks) : ℝ) : EReal) m)
      ↔ (e ks).val ≤ m.toNat := by
  unfold sCount
  rw [sum_indicator, EReal.coe_le_coe_iff]
  have hset : (univ.filter fun j : Fin N => (w j : EReal) = ((w (e ks) : ℝ) : EReal) ∧ (BitVec.ofNat 32 j.val).sle m = true)
      = univ.filter fun j : Fin N => w j = w (e ks) ∧ j.val ≤ m.toNat := by
    refine filter_congr fun j _ => ?_
    rw [EReal.coe_eq_coe_iff, sle_iff (by have := j.isLt; omega) (by omega)]
  rw [hset]
  have hcast : ∀ c : ℕ, ((tieBefore (fun k => w (e k)) ks + 1 : ℝ) ≤ (c : ℝ)) ↔ tieBefore (fun k => w (e k)) ks + 1 ≤ c := by
    intro c; exact_mod_cast Iff.rfl
  rw [hcast]
  constructor
  · intro hle
    by_contra hlt
    have hsub : (univ.filter fun j : Fin N => w j = w (e ks) ∧ j.val ≤ m.toNat)
        ⊆ (univ.filter fun l : Fin n => l < ks ∧ w (e l) = w (e ks)).image e := by
      intro j hj
      simp only [mem_filter, mem_univ, true_and] at hj
      have hr : j ∈ Set.range e := by
        by_contra hr
        exact hv (hj.1 ▸ h.pad j hr)
      obtain ⟨l, rfl⟩ := hr
      refine mem_image.mpr ⟨l, ?_, rfl⟩
      simp only [mem_filter, mem_univ, true_and]
      refine ⟨?_, hj.1⟩
      by_contra hl
      rcases lt_or_eq_of_le (not_lt.mp hl) with hl' | hl'
      · have := h.stable ks l hj.1.symm hl'
        have := Fin.lt_def.mp this
        omega
      · rw [hl'] at hlt; omega
    have h1 := (card_le_card hsub).trans card_image_le
    have : (univ.filter fun l : Fin n => l < ks ∧ w (e l) = w (e ks)).card = tieBefore (fun k => w (e k)) ks := rfl
    omega
  · intro hle
    have hsub : insert (e ks) ((univ.filter fun l : Fin n => l < ks ∧ w (e l) = w (e ks)).image e)
        ⊆ univ.filter fun j : Fin N => w j = w (e ks) ∧ j.val ≤ m.toNat := by
      intro j hj
      simp only [mem_filter, mem_univ, true_and]
      rcases mem_insert.mp hj with rfl | hj
      · exact ⟨rfl, hle⟩
      · obtain ⟨l, hl, rfl⟩ := mem_image.mp hj
        simp only [mem_filter, mem_univ, true_and] at hl
        exact ⟨hl.2, (Fin.lt_def.mp (h.stable l ks hl.2 hl.1)).le.trans hle⟩
    have h1 := card_le_card hsub
    rw [card_insert_of_notMem, card_image_of_injective _ h.inj] at h1
    · exact h1
    · intro hmem
      obtain ⟨l, hl, hl'⟩ := mem_image.mp hmem
      simp only [mem_filter, mem_univ, true_and] at hl
      exact absurd (h.inj hl') hl.1.ne

/-- The index search finds the tie of the rank. -/
theorem IsRow.sIx_eq (h : IsRow w e) (hN : N ≤ 100096) (ks : Fin n) (hv : w (e ks) ≠ 0) :
    sIx (fun j => (w j : EReal)) ((w (e ks) : ℝ) : EReal) ((tieBefore (fun k => w (e k)) ks + 1 : ℝ) : EReal)
      = BitVec.ofNat 32 (e ks).val := by
  have hi : (99999#32 : BitVec 32).toNat = 99999 := rfl
  have hek := h.small ks
  unfold sIx
  obtain ⟨h1, h2, h3⟩ := bis_found (fun m => ((tieBefore (fun k => w (e k)) ks + 1 : ℝ) : EReal)
      ≤ sCount (fun j => (w j : EReal)) ((w (e ks) : ℝ) : EReal) m) (hi := 99999#32) (by decide)
    (fun b b' hb hb' hc => (h.count_iff hN ks hv hb').mpr (((h.count_iff hN ks hv (hb.trans hb')).mp hc).trans hb)) 17 (by decide)
    ((h.count_iff hN ks hv le_rfl).mpr hek)
  refine BitVec.eq_of_toNat_eq ?_
  rw [BitVec.toNat_ofNat, Nat.mod_eq_of_lt (by omega)]
  refine le_antisymm (not_lt.mp fun hlt => ?_) ((h.count_iff hN ks hv h2).mp h1)
  have hb : (BitVec.ofNat 32 (e ks).val).toNat = (e ks).val := by rw [BitVec.toNat_ofNat, Nat.mod_eq_of_lt (by omega)]
  exact h3 (BitVec.ofNat 32 (e ks).val) (by rw [hb]; exact hlt) ((h.count_iff hN ks hv (by rw [hb]; exact hek)).mpr (by rw [hb]))

/-- The threshold searches. -/
theorem IsRow.sLe_eq (h : IsRow w e) (k : Fin n) {t : EReal} (hc : Clear w (w (e k)))
    (hlo : ((pre (fun k => w (e k)) k.val : ℝ) : EReal) ≤ t ∨ (k.val = 0 ∧ t < 0))
    (hhi : t < ((pre (fun k => w (e k)) (k.val + 1) : ℝ) : EReal)) :
    sLe (fun j => (w j : EReal)) t = ((w (e k) : ℝ) : EReal) := by
  unfold sLe
  rcases hlo with hlo | ⟨hk, ht⟩
  · refine h.snap_found k hc _ fun b hb => ?_
    rw [fb_coe b (by omega), sMass_coe, h.mass_eq]
    constructor
    · intro hle
      by_contra hlt
      have := pre_le_mass h.anti (fun l => h.nonneg _) k (not_le.mp hlt)
      exact absurd (hhi.trans_le ((EReal.coe_le_coe_iff.mpr this).trans hle)) (lt_irrefl _)
    · intro hle
      exact (EReal.coe_le_coe_iff.mpr (mass_le_pre h.anti (fun l => h.nonneg _) k hle)).trans hlo
  · refine h.snap_none k hk _ fun b hb hle => ?_
    rw [fb_coe b (by omega), sMass_coe] at hle
    have : (0 : EReal) ≤ ((mass w (fval b.toNat) : ℝ) : EReal) := by exact_mod_cast mass_nonneg h.nonneg _
    exact absurd (ht.trans_le (this.trans hle)) (lt_irrefl _)

theorem IsRow.sLt_eq (h : IsRow w e) (k : Fin n) {t : ℝ} (hc : Clear w (w (e k)))
    (hlo : pre (fun k => w (e k)) k.val < t ∨ (k.val = 0 ∧ t ≤ 0)) (hhi : t ≤ pre (fun k => w (e k)) (k.val + 1)) :
    sLt (fun j => (w j : EReal)) t = ((w (e k) : ℝ) : EReal) := by
  unfold sLt
  rcases hlo with hlo | ⟨hk, ht⟩
  · refine h.snap_found k hc _ fun b hb => ?_
    rw [fb_coe b (by omega), sMass_coe, h.mass_eq, EReal.coe_lt_coe_iff]
    constructor
    · intro hle
      by_contra hlt
      have := pre_le_mass h.anti (fun l => h.nonneg _) k (not_le.mp hlt)
      linarith
    · intro hle
      exact (mass_le_pre h.anti (fun l => h.nonneg _) k hle).trans_lt hlo
  · refine h.snap_none k hk _ fun b hb hle => ?_
    rw [fb_coe b (by omega), sMass_coe, EReal.coe_lt_coe_iff] at hle
    have := mass_nonneg h.nonneg (fval b.toNat)
    linarith

/-- What the first search leaves: the last kept weight with the number of its kept ties, or zero
    when every weight is kept. -/
theorem IsRow.first (h : IsRow w e) (k0 : Fin n) {P : EReal} {K : ℕ}
    (hK : (((pre (fun k => w (e k)) n : ℝ) : EReal) ≤ P * ((pre (fun k => w (e k)) n : ℝ) : EReal) ∧ K = n)
      ∨ ∃ k1 : Fin n, k1.val + 1 = K
        ∧ (((pre (fun k => w (e k)) k1.val : ℝ) : EReal) ≤ P * ((pre (fun k => w (e k)) n : ℝ) : EReal)
            ∨ (k1.val = 0 ∧ P * ((pre (fun k => w (e k)) n : ℝ) : EReal) < 0))
        ∧ P * ((pre (fun k => w (e k)) n : ℝ) : EReal) < ((pre (fun k => w (e k)) (k1.val + 1) : ℝ) : EReal)
        ∧ Clear w (w (e k1))) :
    ∃ a r : ℝ, sLe (fun j => (w j : EReal)) (P * ∑ j, (w j : EReal)) = (a : EReal)
      ∧ (if fb 0x00000000#32 < (a : EReal) then
            sRank1 (P * ∑ j, (w j : EReal)) a (sMass (fun j => (w j : EReal)) a) (sTies (fun j => (w j : EReal)) a)
          else sTies (fun j => (w j : EReal)) a) = (r : EReal)
      ∧ mass w a + r * a = pre (fun k => w (e k)) K
      ∧ ∀ ks : Fin n, ks.val < K → 0 < w (e ks) → a ≤ w (e ks) ∧ (w (e ks) = a → (tieBefore (fun k => w (e k)) ks + 1 : ℝ) ≤ r) := by
  have hZ : ∑ j, (w j : EReal) = ((pre (fun k => w (e k)) n : ℝ) : EReal) := by rw [← h.sum_eq, coe_sum]
  rw [hZ]
  rcases hK with ⟨hle, rfl⟩ | ⟨k1, rfl, hlo, hhi, hc⟩
  · have ha : sLe (fun j => (w j : EReal)) (P * ((pre (fun k => w (e k)) K : ℝ) : EReal)) = ((0 : ℝ) : EReal) := by
      refine h.snap_all k0 _ fun b hb => ?_
      rw [fb_coe b (by omega), sMass_coe, h.mass_eq]
      refine le_trans (EReal.coe_le_coe_iff.mpr ?_) hle
      rw [pre_all _ le_rfl]
      refine sum_le_sum fun l _ => ?_
      split_ifs
      · exact le_rfl
      · exact h.nonneg _
    refine ⟨0, tieCount w 0, ha, ?_, ?_, ?_⟩
    · rw [if_neg (by rw [fb_zero]; simp), sTies_coe]
    · rw [mul_zero, add_zero, h.mass_eq, pre_all _ le_rfl]
      refine sum_congr rfl fun l _ => ?_
      split_ifs with h1
      · rfl
      · exact le_antisymm (h.nonneg _) (not_lt.mp h1)
    · intro ks _ hpos
      exact ⟨hpos.le, fun he => absurd he hpos.ne'⟩
  · have ha := h.sLe_eq k1 hc hlo hhi
    have hv0 := pos_of_clear hc.1
    have hpre := pre_eq_mass_add h.anti k1
    have hpre' := pre_succ (fun k => w (e k)) k1
    refine ⟨w (e k1), tieBefore (fun k => w (e k)) k1 + 1, ha, ?_, ?_, ?_⟩
    · rw [if_pos (by rw [fb_zero]; exact_mod_cast hv0), sMass_coe, sTies_coe, h.ties_eq hv0.ne', h.mass_eq]
      refine sRank1_eq hc.1 (tieBefore_lt _ k1) ?_ ?_
      · rcases hlo with hlo | ⟨hk, ht⟩
        · left; rw [← hpre]; exact hlo
        · right
          refine ⟨ht, ?_, mass_nonneg (fun l => h.nonneg _) _⟩
          unfold tieBefore
          rw [card_eq_zero, filter_eq_empty_iff]
          intro l _ hl
          have := Fin.lt_def.mp hl.1
          omega
      · refine hhi.trans_eq ?_
        rw [hpre', hpre]; congr 1; ring
    · rw [hpre', hpre, h.mass_eq]; ring
    · intro ks hks _
      have hle : ks ≤ k1 := Fin.le_def.mpr (by omega)
      refine ⟨h.anti hle, fun he => ?_⟩
      have := tieBefore_mono (a := fun k => w (e k)) hle he
      have : (tieBefore (fun k => w (e k)) ks : ℝ) ≤ tieBefore (fun k => w (e k)) k1 := by exact_mod_cast this
      linarith

/-- The row's answer is the drawn token. -/
theorem IsRow.sPick_eq (h : IsRow w e) (hN : N ≤ 100096) {P : EReal} {u : ℝ} {K : ℕ} (ks : Fin n)
    (hK : (((pre (fun k => w (e k)) n : ℝ) : EReal) ≤ P * ((pre (fun k => w (e k)) n : ℝ) : EReal) ∧ K = n)
      ∨ ∃ k1 : Fin n, k1.val + 1 = K
        ∧ (((pre (fun k => w (e k)) k1.val : ℝ) : EReal) ≤ P * ((pre (fun k => w (e k)) n : ℝ) : EReal)
            ∨ (k1.val = 0 ∧ P * ((pre (fun k => w (e k)) n : ℝ) : EReal) < 0))
        ∧ P * ((pre (fun k => w (e k)) n : ℝ) : EReal) < ((pre (fun k => w (e k)) (k1.val + 1) : ℝ) : EReal)
        ∧ Clear w (w (e k1)))
    (hks : ks.val < K)
    (hlo : pre (fun k => w (e k)) ks.val < u * pre (fun k => w (e k)) K ∨ (ks.val = 0 ∧ u * pre (fun k => w (e k)) K ≤ 0))
    (hhi : u * pre (fun k => w (e k)) K ≤ pre (fun k => w (e k)) (ks.val + 1)) (hc : Clear w (w (e ks))) :
    sPick (fun j => (w j : EReal)) P (u : EReal) = BitVec.ofNat 32 (e ks).val := by
  have hv0 := pos_of_clear hc.1
  obtain ⟨a, r, h1, h2, h3, h4⟩ := h.first ks hK
  obtain ⟨h5, h6⟩ := h4 ks hks hv0
  have ht : (u : EReal) * (sMass (fun j => (w j : EReal)) a + (r : EReal) * (a : EReal)) = ((u * pre (fun k => w (e k)) K : ℝ) : EReal) := by
    rw [sMass_coe, ← EReal.coe_mul, ← EReal.coe_add, h3, ← EReal.coe_mul]
  have hb := h.sLt_eq ks hc hlo hhi
  have hpre := pre_eq_mass_add h.anti ks
  have hpre' := pre_succ (fun k => w (e k)) ks
  have hr2 : sRank2 ((u * pre (fun k => w (e k)) K : ℝ) : EReal) ((w (e ks) : ℝ) : EReal)
      (sMass (fun j => (w j : EReal)) ((w (e ks) : ℝ) : EReal)) (sTies (fun j => (w j : EReal)) ((w (e ks) : ℝ) : EReal))
      = ((tieBefore (fun k => w (e k)) ks + 1 : ℝ) : EReal) := by
    rw [sMass_coe, sTies_coe, h.ties_eq hv0.ne', h.mass_eq]
    refine sRank2_eq hc.1 (tieBefore_lt _ ks) ?_ ?_
    · rcases hlo with hlo | ⟨hk, ht⟩
      · left; rw [← hpre]; exact hlo
      · right
        refine ⟨ht, ?_, mass_nonneg (fun l => h.nonneg _) _⟩
        unfold tieBefore
        rw [card_eq_zero, filter_eq_empty_iff]
        intro l _ hl
        have := Fin.lt_def.mp hl.1
        omega
    · refine hhi.trans_eq ?_
      rw [hpre', hpre]; ring
  unfold sPick
  dsimp only
  rw [h1, h2, ht, hb, hr2]
  have hnlt : ¬ ((w (e ks) : ℝ) : EReal) < (a : EReal) := by
    rw [EReal.coe_lt_coe_iff]; exact not_lt.mpr h5
  rw [if_neg hnlt, if_neg hnlt]
  by_cases he : ((w (e ks) : ℝ) : EReal) = (a : EReal)
  · rw [if_pos he, min_eq_left (EReal.coe_le_coe_iff.mpr (h6 (EReal.coe_eq_coe_iff.mp he)))]
    exact h.sIx_eq hN ks hv0.ne'
  · rw [if_neg he]
    exact h.sIx_eq hN ks hv0.ne'

end Cert.Row
-- ==== Proof.RefRows.lean ====
module

public import proofs.«01_k».proof.Proof.RefRead
public import Idealize.ShloMosaic.Lib.StableHlo.Predicate

/-! The reference's functions over the reals, one row at a time. -/

@[expose] public section

set_option maxRecDepth 65536

noncomputable section

namespace Cert.Row.Ref

open Idealize.ShloMosaic Cert.Pre_resolvable Cert.Pre_resolvable.Facts Finset

variable [Cert.Pre_resolvable.Facts]

theorem divf_read {s : Shape} (x y : FVec Ideal s .f32) (i : s.Idx) : Host.divf x y i = Ideal.div (x i) (y i) := rfl
theorem exp_read {s : Shape} (x : FVec Ideal s .f32) (i : s.Idx) : Host.exp x i = Ideal.exp (x i) := rfl
theorem negf_read {s : Shape} (x : FVec Ideal s .f32) (i : s.Idx) : Host.negf x i = -(x i : EReal) := rfl
theorem subf_read {s : Shape} (x y : FVec Ideal s .f32) (i : s.Idx) : subf x y i = (x i - y i : EReal) := rfl
theorem mulf_read {s : Shape} (x y : FVec Ideal s .f32) (i : s.Idx) : mulf x y i = (x i * y i : EReal) := rfl
theorem max_read {s : Shape} (x y : FVec Ideal s .f32) (i : s.Idx) : maximumf x y i = (max (x i) (y i) : EReal) := rfl
theorem cmpf_read {s : Shape} (q : CmpFPredicate) (x y : FVec Ideal s .f32) (i : s.Idx) : cmpf q x y i = Ideal.cmp q (x i) (y i) := rfl
theorem iota_read (r : Fin 64) (k : Fin 100000) : iotaInDim S64x100000 32 1 (ix2 r k) = BitVec.ofNat 32 k.val := rfl

theorem wide_read (v : FVec Ideal S64x1 .f32) (r : Fin 64) (k : Fin 100000) : wide v (ix2 r k) = v (ix2 r 0) := by
  pointwise [wide]

theorem col_read {α : Type} (v : S64.Idx → α) (r : Fin 64) : col v (ix2 r 0) = v (ix1 r) := by
  pointwise [col]

theorem lit_read (b : BitVec 32) (r : Fin 64) : lit (F := Ideal) b (ix2 r 0) = Ideal.ofBits .f32 b := by
  pointwise [lit]

theorem clip_read (v : FVec Ideal S64x1 .f32) (b : BitVec 32) (r : Fin 64) :
    fn_clip (F := Ideal) v (constant S_ .f32 b) (ix2 r 0) = max (Ideal.ofBits .f32 b) (v (ix2 r 0)) := by
  pointwise [fn_clip, id]

theorem ninf : Ideal.ofBits .f32 0xFF800000#32 = ⊥ := by
  simp [Ideal.ofBits, Ideal.ieee]

theorem pinf : Ideal.ofBits .f32 0x7F800000#32 = ⊤ := by
  simp [Ideal.ofBits, Ideal.ieee]

theorem maxOf_read (x : FVec Ideal S64x100000 .f32) (r : Fin 64) : maxOf x (ix1 r) = univ.sup fun k => x (ix2 r k) := by
  unfold maxOf
  rw [show (FloatOps.maximumf : Ideal .f32 → Ideal .f32 → Ideal .f32) = (max : EReal → EReal → EReal) from rfl]
  refine (reduce_row (max : EReal → EReal → EReal) x _ _ _ r).trans ?_
  rw [show constant (F := Ideal) S_ .f32 0xFF800000#32 (Shape.Idx.first h_S_) = (⊥ : EReal) from ninf]
  rfl

theorem sumOf_read (x : FVec Ideal S64x100000 .f32) (r : Fin 64) : sumOf x (ix1 r) = ∑ k, x (ix2 r k) := by
  pointwise [sumOf]

theorem logits_read (x0 : FVec Ideal S64x100000 .f32) (x1 : FVec Ideal S64x1 .f32) (r : Fin 64) (k : Fin 100000) :
    logits x0 x1 (ix2 r k) = Ideal.div (x0 (ix2 r k)) (max (Ideal.ofBits .f32 0x322BCC77#32) (x1 (ix2 r 0))) := by
  unfold logits
  rw [divf_read, wide_read, clip_read]

theorem expd_read (s : FVec Ideal S64x100000 .f32) (r : Fin 64) (k : Fin 100000) :
    expd s (ix2 r k) = Ideal.exp (s (ix2 r k) - univ.sup fun k => s (ix2 r k)) := by
  unfold expd
  rw [exp_read, subf_read, wide_read, col_read, max_read, maxOf_read]
  rw [show broadcastInDim S64 ![] bcast_S_S64 (constant (F := Ideal) S_ .f32 0xFF800000#32) (ix1 r) = (⊥ : EReal) from ninf]
  rw [max_eq_right bot_le]

theorem share_read (e : FVec Ideal S64x100000 .f32) (r : Fin 64) (k : Fin 100000) :
    share e (ix2 r k) = Ideal.div (e (ix2 r k)) (∑ l, e (ix2 r l)) := by
  unfold share
  rw [divf_read, wide_read, col_read, sumOf_read]

/-- The order of a row: greatest first, equal ones in place. -/
def order (p : Fin 100000 → EReal) : Fin 100000 → Fin 100000 :=
  sortedFrom fun a b => decide (-p a < -p b)

theorem before_eq (l r : Ideal .f32 × BitVec 32) : (comparator_f32_i32_d1 (F := Ideal) l r == 1#1) = decide ((l.1 : EReal) < r.1) := by
  have hz : ∀ x : EReal, Scalar.select (Ideal.cmp .oeq x (Ideal.ofBits .f32 0x00000000#32)) (Ideal.ofBits .f32 0x00000000#32) x = x := by
    intro x
    by_cases h : x = Ideal.ofBits .f32 0x00000000#32
    · simp [Scalar.select, Ideal.cmp, ← h]
    · rw [show Ideal.cmp .oeq x (Ideal.ofBits .f32 0x00000000#32) = 0#1 from by simp only [Ideal.cmp, h]; rfl]
      rfl
  have hn : ∀ x y : EReal, Scalar.select (Ideal.cmp .une x x) (Ideal.ofBits .f32 0x7FC00000#32) y = y := by
    intro x y
    simp [Scalar.select, Ideal.cmp]
  refine Eq.trans (b := (Ideal.cmp .olt (Scalar.select (Ideal.cmp .une l.1 l.1) (Ideal.ofBits .f32 0x7FC00000#32)
    (Scalar.select (Ideal.cmp .oeq l.1 (Ideal.ofBits .f32 0x00000000#32)) (Ideal.ofBits .f32 0x00000000#32) l.1))
    (Scalar.select (Ideal.cmp .une r.1 r.1) (Ideal.ofBits .f32 0x7FC00000#32)
    (Scalar.select (Ideal.cmp .oeq r.1 (Ideal.ofBits .f32 0x00000000#32)) (Ideal.ofBits .f32 0x00000000#32) r.1)) == 1#1)) rfl ?_
  rw [hn, hn, hz, hz]
  by_cases h : (l.1 : EReal) < r.1 <;> simp [Ideal.cmp, h]

theorem orderOf_read (p : FVec Ideal S64x100000 .f32) (r : Fin 64) (k : Fin 100000) :
    orderOf p (ix2 r k) = BitVec.ofNat 32 (order (fun k => p (ix2 r k)) k).val := by
  have hal : ∀ j : Fin 100000, (ix2 r k : S64x100000.Idx).along 1 j = ix2 r j := by
    intro j
    funext a
    match a with
    | ⟨0, _⟩ => rfl
    | ⟨1, _⟩ => rfl
  unfold orderOf fn_argsort Host.sort2
  beta_reduce
  rw [dif_pos (show 1 < S64x100000.rank by decide)]
  dsimp only
  refine (congrArg (iotaInDim S64x100000 32 1) (hal _)).trans ((iota_read r _).trans ?_)
  simp only [before_eq]
  refine congrArg (fun f => BitVec.ofNat 32 (Fin.val (sortedFrom f k))) ?_
  funext a b
  exact congrArg₂ (fun i j => decide (-(p i : EReal) < -(p j : EReal))) (hal a) (hal b)

/-! ### Taking entries at an index word -/

theorem word_facts (j : Fin 100000) : (BitVec.ofNat 32 j.val).slt 0#32 = false ∧ (0#32).sle (BitVec.ofNat 32 j.val) = true
    ∧ (BitVec.ofNat 32 j.val).sle 99999#32 = true ∧ (BitVec.ofNat 32 j.val).toInt.toNat = j.val := by
  have hj := j.isLt
  have e : (BitVec.ofNat 32 j.val).toInt = (j.val : ℤ) := by
    rw [BitVec.toInt_eq_toNat_of_lt (by rw [BitVec.toNat_ofNat]; omega), BitVec.toNat_ofNat]
    omega
  refine ⟨?_, ?_, ?_, ?_⟩
  · rw [BitVec.slt, e]; simp
  · rw [BitVec.sle, e]; simp
  · rw [BitVec.sle, e]
    have : (99999#32 : BitVec 32).toInt = 99999 := by decide
    rw [this]
    exact decide_eq_true (by omega)
  · rw [e]; rfl

theorem takeOne_read {α : Type} (fill : S64x1.Idx → α) (x : S64x100000.Idx → α) (i : IVec S64x1 32) (r : Fin 64) (j : Fin 100000)
    (hi : i (ix2 r 0) = BitVec.ofNat 32 j.val) : takeOne fill x i (ix2 r 0) = x (ix2 r j) := by
  obtain ⟨h1, h2, h3, h4⟩ := word_facts j
  unfold takeOne
  dsimp only
  generalize hg : shapeCast S64x1x1 _ _ = w
  have hw : w (ix3 r 0 0) = BitVec.ofNat 32 j.val := by
    have e : w (ix3 r 0 0) = Scalar.select (IntOp.cmpi .slt (i (ix2 r 0)) 0#32) (IntOp.addi (i (ix2 r 0)) 100000#32) (i (ix2 r 0)) := by
      rw [← hg]
      pointwise []
    rw [e, hi, show IntOp.cmpi .slt (BitVec.ofNat 32 j.val) 0#32 = 0#1 by simp [IntOp.cmpi, h1]]
    rfl
  have hm : Host.reduce IntOp.andi (andi (cmpi .sge w (broadcastInDim S64x1x1 ![] bcast_S_S64x1x1 (constantI S_ 32 0#32)))
      (cmpi .sle w (broadcastInDim S64x1x1 ![0, 1, 2] bcast_S1x1x1_S64x1x1_0_1_2
        (broadcastInDim S1x1x1 ![2] bcast_S1_S1x1x1_2 (constantI S1 32 99999#32)))))
      (constantI S_ 1 1#1) reducesTo_S64x1x1_S64x1_d2 h_S_ (ix2 r 0) = 1#1 := by
    refine (reduce_one IntOp.andi _ _ _ _ r 0).trans ?_
    have e1 : cmpi .sge w (broadcastInDim S64x1x1 ![] bcast_S_S64x1x1 (constantI S_ 32 0#32)) (ix3 r 0 0) = 1#1 := by
      refine Eq.trans (b := IntOp.cmpi .sge (w (ix3 r 0 0)) 0#32) (by pointwise []) ?_
      rw [hw]; simp [IntOp.cmpi, h2]
    have e2 : cmpi .sle w (broadcastInDim S64x1x1 ![0, 1, 2] bcast_S1x1x1_S64x1x1_0_1_2
        (broadcastInDim S1x1x1 ![2] bcast_S1_S1x1x1_2 (constantI S1 32 99999#32))) (ix3 r 0 0) = 1#1 := by
      refine Eq.trans (b := IntOp.cmpi .sle (w (ix3 r 0 0)) 99999#32) (by pointwise []) ?_
      rw [hw]; simp [IntOp.cmpi, h3]
    exact congrArg₂ (fun a b => IntOp.andi (IntOp.andi a b) 1#1) e1 e2
  have hs : ∀ (c : IVec S64x1 1) (a b : S64x1.Idx → α), c (ix2 r 0) = 1#1 → select c a b (ix2 r 0) = a (ix2 r 0) := by
    intro c a b h
    refine Eq.trans (b := Scalar.select (c (ix2 r 0)) (a (ix2 r 0)) (b (ix2 r 0))) rfl ?_
    rw [h]; rfl
  refine (hs _ _ _ hm).trans ((along_read (by decide) gather_S64x100000_S64x1x1_S64x1_n_1_0_0_1_2_11_wf x w r 0).trans ?_)
  refine congrArg (fun q => x (ix2 r q)) (Fin.ext ?_)
  dsimp only
  rw [hw, h4]
  have := j.isLt
  omega

theorem takeAll_read (x : FVec Ideal S64x100000 .f32) (i : IVec S64x100000 32) (r : Fin 64) (k j : Fin 100000)
    (hi : i (ix2 r k) = BitVec.ofNat 32 j.val) : fn_take_along_axis (F := Ideal) x i (ix2 r k) = x (ix2 r j) := by
  obtain ⟨h1, h2, h3, h4⟩ := word_facts j
  unfold fn_take_along_axis
  beta_reduce
  generalize hg : shapeCast S64x100000x1 _ _ = w
  have hw : w (ix3 r k 0) = BitVec.ofNat 32 j.val := by
    have e : w (ix3 r k 0) = Scalar.select (IntOp.cmpi .slt (i (ix2 r k)) 0#32) (IntOp.addi (i (ix2 r k)) 100000#32) (i (ix2 r k)) := by
      rw [← hg]
      pointwise []
    rw [e, hi, show IntOp.cmpi .slt (BitVec.ofNat 32 j.val) 0#32 = 0#1 by simp [IntOp.cmpi, h1]]
    rfl
  have hm : Host.reduce IntOp.andi (andi (cmpi .sge w (broadcastInDim S64x100000x1 ![] bcast_S_S64x100000x1 (constantI S_ 32 0#32)))
      (cmpi .sle w (broadcastInDim S64x100000x1 ![0, 1, 2] bcast_S1x1x1_S64x100000x1_0_1_2
        (broadcastInDim S1x1x1 ![2] bcast_S1_S1x1x1_2 (constantI S1 32 99999#32)))))
      (constantI S_ 1 1#1) reducesTo_S64x100000x1_S64x100000_d2 h_S_ (ix2 r k) = 1#1 := by
    refine (reduce_one IntOp.andi _ _ _ _ r k).trans ?_
    have e1 : cmpi .sge w (broadcastInDim S64x100000x1 ![] bcast_S_S64x100000x1 (constantI S_ 32 0#32)) (ix3 r k 0) = 1#1 := by
      refine Eq.trans (b := IntOp.cmpi .sge (w (ix3 r k 0)) 0#32) (by pointwise []) ?_
      rw [hw]; simp [IntOp.cmpi, h2]
    have e2 : cmpi .sle w (broadcastInDim S64x100000x1 ![0, 1, 2] bcast_S1x1x1_S64x100000x1_0_1_2
        (broadcastInDim S1x1x1 ![2] bcast_S1_S1x1x1_2 (constantI S1 32 99999#32))) (ix3 r k 0) = 1#1 := by
      refine Eq.trans (b := IntOp.cmpi .sle (w (ix3 r k 0)) 99999#32) (by pointwise []) ?_
      rw [hw]; simp [IntOp.cmpi, h3]
    exact congrArg₂ (fun a b => IntOp.andi (IntOp.andi a b) 1#1) e1 e2
  have hs : ∀ (c : IVec S64x100000 1) (a b : S64x100000.Idx → EReal), c (ix2 r k) = 1#1 → select c a b (ix2 r k) = a (ix2 r k) := by
    intro c a b h
    refine Eq.trans (b := Scalar.select (c (ix2 r k)) (a (ix2 r k)) (b (ix2 r k))) rfl ?_
    rw [h]; rfl
  refine (hs _ _ _ hm).trans ((along_read (by decide) gather_S64x100000_S64x100000x1_S64x100000_n_1_0_0_1_2_11_wf x w r k).trans ?_)
  refine congrArg (fun q => x (ix2 r q)) (Fin.ext ?_)
  dsimp only
  rw [hw, h4]
  have := j.isLt
  omega

theorem sortedOf_read (p : FVec Ideal S64x100000 .f32) (r : Fin 64) (k : Fin 100000) :
    sortedOf p (ix2 r k) = p (ix2 r (order (fun k => p (ix2 r k)) k)) :=
  takeAll_read p _ r k _ (orderOf_read p r k)

/-! ### Running sums, the dropped tail, the drawn place -/

theorem fzero : Ideal.ofBits .f32 0x00000000#32 = 0 := by
  simp [Ideal.ofBits, Ideal.ieee]

theorem ofBool_iff {p : Prop} [Decidable p] : BitVec.ofBool (decide p) = 1#1 ↔ p := by
  by_cases h : p <;> simp [h]

theorem cumsum_at (x : FVec Ideal S64x100000 .f32) (r : Fin 64) (k : Fin 100000) :
    fn_cumsum (F := Ideal) x (ix2 r k) = ∑ l : Fin 100000, if l.val < k.val + 1 then (x (ix2 r l) : EReal) else 0 :=
  cumsum_float (R := 64) (N := 100000) (m := 99999) rfl x (u := S_) (broadcastInDim S_ ![] bcast_S_S_ (constant S_ .f32 0x00000000#32)) (fun _ => fzero) _ h_S_ r k

theorem where_read (d : IVec S64x100000 1) (b : BitVec 32) (x : FVec Ideal S64x100000 .f32) (r : Fin 64) (k : Fin 100000) :
    fn_where (F := Ideal) d (constant S_ .f32 b) x (ix2 r k) = if d (ix2 r k) = 1#1 then Ideal.ofBits .f32 b else x (ix2 r k) := by
  refine Eq.trans (b := Scalar.select (d (ix2 r k)) (Ideal.ofBits .f32 b) (x (ix2 r k))) (by pointwise [fn_where, id]) rfl

theorem dropped_read (s : FVec Ideal S64x100000 .f32) (x2 : FVec Ideal S64x1 .f32) (r : Fin 64) (k : Fin 100000) :
    dropped s x2 (ix2 r k) = 1#1 ↔ ∃ h : 0 < k.val, x2 (ix2 r 0) < fn_cumsum (F := Ideal) s (ix2 r ⟨k.val - 1, by omega⟩) := by
  have e : dropped s x2 (ix2 r k) = if h : k.val = 0 then 0#1 else
      Ideal.cmp .ogt (fn_cumsum (F := Ideal) s (ix2 r ⟨k.val - 1, by omega⟩)) (x2 (ix2 r 0)) := by
    unfold dropped
    rw [shift_read (R := 64) (N := 100000) (M := 99999) rfl]
    refine dite_congr rfl (fun _ => rfl) fun h => ?_
    rw [front_read (R := 64) (N := 100000) (M := 99999) (by omega)]
    rw [cmpf_read, wide_read]
  rw [e]
  by_cases h : k.val = 0
  · rw [dif_pos h]
    exact ⟨fun h => absurd h (by decide), fun ⟨h0, _⟩ => absurd h0 (by omega)⟩
  · rw [dif_neg h]
    have h0 : 0 < k.val := by omega
    exact ofBool_iff.trans ⟨fun h => ⟨h0, h⟩, fun ⟨_, h⟩ => h⟩

theorem clip1_read (v : IVec S64x1 32) (r : Fin 64) : fn_clip_1 (F := Ideal) v (constantI S_ 32 0#32) (constantI S_ 32 99999#32) (ix2 r 0)
    = IntOp.minsi 99999#32 (IntOp.maxsi 0#32 (v (ix2 r 0))) := by
  pointwise [fn_clip_1, id]

theorem clip_word (n : ℕ) (hn : n ≤ 99999) : IntOp.minsi 99999#32 (IntOp.maxsi 0#32 (BitVec.ofNat 32 n)) = BitVec.ofNat 32 n := by
  obtain ⟨h1, h2, h3, h4⟩ := word_facts ⟨n, by omega⟩
  dsimp only at h1 h2 h3 h4
  have e : IntOp.maxsi 0#32 (BitVec.ofNat 32 n) = BitVec.ofNat 32 n := by
    unfold IntOp.maxsi
    rw [h1]
    rfl
  rw [e]
  unfold IntOp.minsi
  have e1 : (BitVec.ofNat 32 n).toInt = (n : ℤ) := by
    rw [BitVec.toInt_eq_toNat_of_lt (by rw [BitVec.toNat_ofNat]; omega), BitVec.toNat_ofNat]
    omega
  have e2 : (99999#32 : BitVec 32).toInt = 99999 := by decide
  have e3 : (99999#32 : BitVec 32).slt (BitVec.ofNat 32 n) = false := by
    rw [BitVec.slt, e1, e2]
    exact decide_eq_false (by omega)
  rw [e3]
  rfl

theorem place_read (c : FVec Ideal S64x100000 .f32) (u : FVec Ideal S64x1 .f32) (r : Fin 64)
    (hn : (univ.filter fun k => (c (ix2 r k) : EReal) < u (ix2 r 0)).card ≤ 99999) :
    place c u (ix2 r 0) = BitVec.ofNat 32 (univ.filter fun k => (c (ix2 r k) : EReal) < u (ix2 r 0)).card := by
  have key : Host.reduce IntOp.addi (extui 32 (cmpf .olt c (wide u)) natLt_1_32) (constantI S_ 32 0#32)
      reducesTo_S64x100000_S64_d1 h_S_ (ix1 r) = BitVec.ofNat 32 (univ.filter fun k => (c (ix2 r k) : EReal) < u (ix2 r 0)).card := by
    refine BitVec.eq_of_toNat_eq ?_
    rw [StableHlo.Predicate.toNat_reduce_count_cols (by norm_num), BitVec.toNat_ofNat, Nat.mod_eq_of_lt (by omega)]
    refine congrArg Finset.card (Finset.filter_congr fun k _ => ?_)
    rw [show (StableHlo.Predicate.ij ((ix1 r : S64.Idx) 0) k : S64x100000.Idx) = ix2 r k from by
      funext a; match a with | ⟨0, _⟩ => rfl | ⟨1, _⟩ => rfl]
    rw [cmpf_read, wide_read]
    exact ofBool_iff
  unfold place
  rw [clip1_read, col_read, key, clip_word _ hn]

/-! ### The uniform draw -/

theorem fval_two : fval 0x40000000 = 2 := by norm_num [fval]

theorem unif_word (key : IVec S2 32) (r : Fin 64) : ∃ b : BitVec 32, unif (F := Ideal) key (ix2 r 0)
    = max 0 (Ideal.ofBits .f32 (IntOp.ori (IntOp.shrui .host b 9#32) 1065353216#32) - 1) := by
  have h : ∀ (a b : IVec S64x1 32), ∃ w : BitVec 32, fn_uniform_part1 (F := Ideal)
      (broadcastInDim S1x1 ![] bcast_S_S1x1 (constant (F := Ideal) S_ .f32 0x00000000#32)) (broadcastInDim S1x1 ![] bcast_S_S1x1 (constant (F := Ideal) S_ .f32 0x3F800000#32)) a b (ix2 r 0)
      = max 0 (Ideal.ofBits .f32 (IntOp.ori (IntOp.shrui .host w 9#32) 1065353216#32) - 1) := fun a b =>
    ⟨IntOp.xori (a (ix2 r 0)) (b (ix2 r 0)), by pointwise [fn_uniform_part1]⟩
  unfold unif fn_uniform
  exact h _ _

theorem unit_word (b : BitVec 32) : ∃ u : ℝ, 0 ≤ u ∧ u ≤ 1
    ∧ max 0 (Ideal.ofBits .f32 (IntOp.ori (IntOp.shrui .host b 9#32) 1065353216#32) - 1) = (u : EReal) := by
  have e : (IntOp.ori (IntOp.shrui .host b 9#32) 1065353216#32).toNat = (b.toNat >>> 9) ||| 1065353216 := by
    simp [IntOp.ori, IntOp.shrui]
  have h1 : b.toNat >>> 9 < 2 ^ 30 := by
    rw [Nat.shiftRight_eq_div_pow]
    have := b.isLt
    omega
  have hlt : (b.toNat >>> 9) ||| 1065353216 < 2 ^ 30 := Nat.or_lt_two_pow h1 (by norm_num)
  have hge : 1065353216 ≤ (b.toNat >>> 9) ||| 1065353216 := Nat.right_le_or
  generalize hw : (b.toNat >>> 9) ||| 1065353216 = w at e hlt hge
  rw [ofBits_eq_fval _ (by rw [e]; omega), e]
  have l1 : 1 ≤ fval w := fval_one ▸ fval_mono hge
  have l2 : fval w ≤ 2 := fval_two ▸ fval_mono (by omega)
  refine ⟨fval w - 1, by linarith, by linarith, ?_⟩
  rw [show (fval w : EReal) - 1 = ((fval w - 1 : ℝ) : EReal) by rw [EReal.coe_sub]; rfl]
  exact max_eq_right (EReal.coe_nonneg.mpr (by linarith))

theorem unif_read (key : IVec S2 32) (r : Fin 64) : ∃ u : ℝ, 0 ≤ u ∧ u ≤ 1 ∧ unif (F := Ideal) key (ix2 r 0) = (u : EReal) := by
  obtain ⟨b, hb⟩ := unif_word key r
  obtain ⟨u, h0, h1, hu⟩ := unit_word b
  exact ⟨u, h0, h1, hb.trans hu⟩

end Cert.Row.Ref
-- ==== Proof.RowRef.lean ====
module

public import proofs.«01_k».proof.Proof.RowKernel

@[expose] public section

/-!
The reference's row over the reals: how many tokens the nucleus keeps, and which one is drawn.
-/

noncomputable section

namespace Cert.Row

open Idealize.ShloMosaic Finset

variable {n N : ℕ}

theorem lt_div_coe_iff {P : EReal} {x Z : ℝ} (hZ : 0 < Z) : P < ((x / Z : ℝ) : EReal) ↔ P * (Z : EReal) < (x : EReal) := by
  induction P using EReal.rec with
  | bot => rw [EReal.bot_mul_coe_of_pos hZ]; simp [EReal.bot_lt_coe]
  | top => rw [EReal.top_mul_coe_of_pos hZ]; simp
  | coe p =>
    rw [← EReal.coe_mul, EReal.coe_lt_coe_iff, EReal.coe_lt_coe_iff, lt_div_iff₀ hZ]

theorem le_mul_of_one_le {P : EReal} {Z : ℝ} (hZ : 0 < Z) (h : 1 ≤ P) : (Z : EReal) ≤ P * (Z : EReal) := by
  rw [← not_lt]
  intro h'
  have := (lt_div_coe_iff (P := P) (x := Z) hZ).mpr h'
  rw [div_self hZ.ne'] at this
  exact absurd (this.trans_le h) (lt_irrefl _)

theorem sum_keep (a : Fin n → ℝ) (K : ℕ) (rem : Fin n → Prop) [DecidablePred rem] (h : ∀ k, rem k ↔ K ≤ k.val) (k : ℕ) :
    pre (fun l => if rem l then 0 else a l) k = pre a (min k K) := by
  refine sum_congr rfl fun l _ => ?_
  dsimp only
  by_cases h1 : l.val < k
  · by_cases h2 : K ≤ l.val
    · rw [if_pos h1, if_pos ((h l).mpr h2), if_neg (by omega)]
    · rw [if_pos h1, if_neg (fun h' => h2 ((h l).mp h')), if_pos (by omega)]
  · rw [if_neg h1, if_neg (by omega)]

theorem pre_div (a : Fin n → ℝ) (c : ℝ) (k : ℕ) : pre (fun l => a l / c) k = pre a k / c := by
  unfold pre
  rw [sum_div]
  refine sum_congr rfl fun l _ => ?_
  split_ifs <;> simp

variable {a : Fin n → ℝ}

/-- How many tokens the nucleus keeps. -/
theorem nucleus (h0 : ∀ l, 0 ≤ a l) (hn : 0 < n) (hpos : 0 < a ⟨0, hn⟩) {P : EReal}
    (rem : Fin n → Prop) [DecidablePred rem]
    (hrem : ∀ k : Fin n, rem k ↔ k.val ≠ 0 ∧ P < ((pre a k.val / pre a n : ℝ) : EReal)) :
    ∃ K, (∀ k : Fin n, rem k ↔ K ≤ k.val) ∧ 0 < K ∧ K ≤ n
      ∧ ((((pre a n : ℝ) : EReal) ≤ P * ((pre a n : ℝ) : EReal) ∧ K = n)
      ∨ ∃ k1 : Fin n, k1.val + 1 = K
        ∧ (((pre a k1.val : ℝ) : EReal) ≤ P * ((pre a n : ℝ) : EReal)
            ∨ (k1.val = 0 ∧ P * ((pre a n : ℝ) : EReal) < 0))
        ∧ P * ((pre a n : ℝ) : EReal) < ((pre a (k1.val + 1) : ℝ) : EReal) ∧ ¬ 1 ≤ P) := by
  have hZ : 0 < pre a n := by
    refine lt_of_lt_of_le ?_ (pre_mono h0 (show 1 ≤ n from hn))
    have := pre_succ a ⟨0, hn⟩
    simp only [pre_zero, zero_add] at this
    rw [this]; exact hpos
  have hrem' : ∀ k : Fin n, rem k ↔ k.val ≠ 0 ∧ P * ((pre a n : ℝ) : EReal) < ((pre a k.val : ℝ) : EReal) := fun k => by
    rw [hrem, lt_div_coe_iff hZ]
  have hdown : ∀ j k : Fin n, j ≤ k → ¬ rem k → ¬ rem j := by
    intro j k hjk hk hj
    refine hk ((hrem' k).mpr ?_)
    have hj' := (hrem' j).mp hj
    have := Fin.le_def.mp hjk
    exact ⟨by omega, hj'.2.trans_le (EReal.coe_le_coe_iff.mpr (pre_mono h0 this))⟩
  set K := (univ.filter fun k => ¬ rem k).card with hKdef
  have hK : ∀ k : Fin n, rem k ↔ K ≤ k.val := fun k => by
    have := iff_lt_card (fun k => ¬ rem k) hdown k
    rw [← not_iff_not, this]; exact (not_le).symm
  have hKn : K ≤ n := by
    have := card_filter_le (univ : Finset (Fin n)) fun k => ¬ rem k
    simpa using this
  have hK0 : 0 < K := by
    by_contra h
    have := (hK ⟨0, hn⟩).mpr (by omega)
    exact ((hrem' _).mp this).1 rfl
  refine ⟨K, hK, hK0, hKn, ?_⟩
  by_cases hP : ((pre a n : ℝ) : EReal) ≤ P * ((pre a n : ℝ) : EReal)
  · left
    refine ⟨hP, ?_⟩
    by_contra hne
    have h1 := (hK ⟨K, by omega⟩).mpr le_rfl
    have h2 := ((hrem' _).mp h1).2
    exact absurd (h2.trans_le ((EReal.coe_le_coe_iff.mpr (pre_mono h0 hKn)).trans hP)) (lt_irrefl _)
  · right
    refine ⟨⟨K - 1, by omega⟩, by dsimp only; omega, ?_, ?_, fun h1 => hP (le_mul_of_one_le hZ h1)⟩
    · by_cases hk : K - 1 = 0
      · by_cases ht : P * ((pre a n : ℝ) : EReal) < 0
        · exact Or.inr ⟨hk, ht⟩
        · left
          dsimp only
          rw [hk, pre_zero]; exact_mod_cast not_lt.mp ht
      · left
        have h1 : ¬ rem ⟨K - 1, by omega⟩ := fun h => by
          have := (hK _).mp h
          dsimp only at this; omega
        rw [hrem'] at h1
        by_contra h2
        exact h1 ⟨hk, not_le.mp h2⟩
    · dsimp only
      rw [Nat.sub_add_cancel hK0]
      by_cases hKn' : K = n
      · rw [hKn']; exact not_le.mp hP
      · exact ((hrem' _).mp ((hK ⟨K, by omega⟩).mpr le_rfl)).2

/-- Which of the kept tokens is drawn. -/
theorem draw (h0 : ∀ l, 0 ≤ a l) (hn : 0 < n) (hpos : 0 < a ⟨0, hn⟩) {u : ℝ} (hu : u ≤ 1)
    (rem : Fin n → Prop) [DecidablePred rem] {K : ℕ} (hK : ∀ k : Fin n, rem k ↔ K ≤ k.val) (hK0 : 0 < K) (hKn : K ≤ n)
    (cdf : Fin n → ℝ)
    (hcdf : ∀ k, cdf k = pre (fun l => (if rem l then 0 else a l / pre a n) / ∑ m, if rem m then 0 else a m / pre a n) (k.val + 1)) :
    ∃ ks : Fin n, ks.val = (univ.filter fun k => cdf k < u).card ∧ ks.val < K
      ∧ (pre a ks.val < u * pre a K ∨ (ks.val = 0 ∧ u * pre a K ≤ 0)) ∧ u * pre a K ≤ pre a (ks.val + 1) := by
  have hone : 0 < pre a 1 := by
    have := pre_succ a ⟨0, hn⟩
    simp only [pre_zero, zero_add] at this
    rw [this]; exact hpos
  have hZ : 0 < pre a n := lt_of_lt_of_le hone (pre_mono h0 (show 1 ≤ n from hn))
  have hS : 0 < pre a K := lt_of_lt_of_le hone (pre_mono h0 (show 1 ≤ K from hK0))
  have hsum : (∑ m, if rem m then 0 else a m / pre a n) = pre a K / pre a n := by
    rw [← pre_all (fun m => if rem m then 0 else a m / pre a n) le_rfl, sum_keep (fun m => a m / pre a n) K rem hK, pre_div,
      min_eq_right hKn]
  have hc : ∀ k : Fin n, cdf k < u ↔ pre a (min (k.val + 1) K) < u * pre a K := by
    intro k
    rw [hcdf, hsum, pre_div, sum_keep (fun m => a m / pre a n) K rem hK, pre_div,
      div_div_div_cancel_right₀ hZ.ne', div_lt_iff₀ hS]
  have hdown : ∀ j k : Fin n, j ≤ k → cdf k < u → cdf j < u := by
    intro j k hjk hk
    rw [hc] at hk ⊢
    have := Fin.le_def.mp hjk
    exact lt_of_le_of_lt (pre_mono h0 (by omega)) hk
  set c := (univ.filter fun k => cdf k < u).card with hcdef
  have hiff : ∀ k : Fin n, cdf k < u ↔ k.val < c := iff_lt_card (fun k => cdf k < u) hdown
  have hcK : c < K := by
    by_contra h
    have h1 := (hiff ⟨K - 1, by omega⟩).mpr (by dsimp only; omega)
    rw [hc] at h1
    dsimp only at h1
    rw [Nat.sub_add_cancel hK0, min_self] at h1
    have := mul_le_mul_of_nonneg_right hu hS.le
    linarith
  refine ⟨⟨c, by omega⟩, rfl, hcK, ?_, ?_⟩
  · by_cases h : c = 0
    · dsimp only
      rw [h, pre_zero]
      rcases lt_or_ge 0 (u * pre a K) with h1 | h1
      · exact Or.inl h1
      · exact Or.inr ⟨rfl, h1⟩
    · left
      have h1 := (hiff ⟨c - 1, by omega⟩).mpr (by dsimp only; omega)
      rw [hc] at h1
      dsimp only at h1
      rw [Nat.sub_add_cancel (by omega), min_eq_left (by omega)] at h1
      exact h1
  · have h1 : ¬ cdf ⟨c, by omega⟩ < u := fun h => lt_irrefl _ ((hiff _).mp h)
    rw [hc, min_eq_left (by dsimp only; omega)] at h1
    exact not_lt.mp h1

end Cert.Row
-- ==== Proof.RowOrder.lean ====
module

public import proofs.«01_k».proof.Proof.RowRef
public import proofs.«01_k».proof.Proof.HostRead

/-! The reference's row, from its probabilities to the drawn place in their order. -/

@[expose] public section

noncomputable section

namespace Cert.Row

open Idealize.ShloMosaic Finset

variable {n : ℕ}

/-- The row's places, greatest probability first and equal ones in their first order. -/
def rank (q : Fin n → EReal) : Fin n → Fin n := sortedFrom fun a b => decide (-q a < -q b)

theorem pre_coe (f : Fin n → ℝ) (j : ℕ) : (∑ l : Fin n, if l.val < j then (f l : EReal) else 0) = ((pre f j : ℝ) : EReal) := by
  unfold pre
  rw [coe_sum]
  refine sum_congr rfl fun l _ => ?_
  split_ifs <;> simp

/-- A row of weights, its greatest being one, and its probabilities. -/
structure IsProb (v : Fin n → ℝ) (q : Fin n → EReal) : Prop where
  nonneg : ∀ k, 0 ≤ v k
  le_one : ∀ k, v k ≤ 1
  one : ∃ k, v k = 1
  eq : ∀ k, q k = ((v k / ∑ l, v l : ℝ) : EReal)

variable {v : Fin n → ℝ} {q : Fin n → EReal}

theorem rank_injective (q : Fin n → EReal) : Function.Injective (rank q) := sortedFrom_injective _

theorem rank_bijective (q : Fin n → EReal) : Function.Bijective (rank q) := ⟨sortedFrom_injective _, sortedFrom_surjective _⟩

theorem IsProb.sum_pos (h : IsProb v q) : 0 < ∑ l, v l := by
  obtain ⟨k, hk⟩ := h.one
  exact lt_of_lt_of_le one_pos (hk ▸ single_le_sum (f := v) (fun l _ => h.nonneg l) (mem_univ k))

theorem IsProb.pre_eq (h : IsProb v q) : pre (fun k => v (rank q k)) n = ∑ l, v l := by
  rw [pre_all _ le_rfl]
  exact (rank_bijective q).sum_comp v

theorem IsProb.ahead (h : IsProb v q) {i j : Fin n} (hij : i < j) :
    v (rank q j) < v (rank q i) ∨ (v (rank q j) = v (rank q i) ∧ rank q i < rank q j) := by
  have hZ := h.sum_pos
  rcases ahead_sortedFrom (fun k => -q k) hij with h1 | ⟨h1, h2⟩
  · left
    have h3 : q (rank q j) < q (rank q i) := EReal.neg_lt_neg_iff.mp h1
    rw [h.eq, h.eq, EReal.coe_lt_coe_iff, div_lt_div_iff_of_pos_right hZ] at h3
    exact h3
  · right
    refine ⟨?_, h2⟩
    have h3 : q (rank q i) = q (rank q j) := neg_injective h1
    rw [h.eq, h.eq, EReal.coe_eq_coe_iff, div_left_inj' hZ.ne'] at h3
    exact h3.symm

theorem IsProb.anti (h : IsProb v q) : Antitone fun k => v (rank q k) := by
  intro i j hij
  rcases hij.lt_or_eq with h1 | rfl
  · rcases h.ahead h1 with h2 | ⟨h2, _⟩
    · exact h2.le
    · exact h2.le
  · exact le_rfl

theorem IsProb.stable (h : IsProb v q) (k l : Fin n) (he : v (rank q k) = v (rank q l)) (hkl : k < l) : rank q k < rank q l := by
  rcases h.ahead hkl with h2 | ⟨_, h2⟩
  · exact absurd he.symm h2.ne
  · exact h2

theorem IsProb.top (h : IsProb v q) (k : Fin n) (hk : k.val = 0) : v (rank q k) = 1 := by
  obtain ⟨j, hj⟩ := h.one
  obtain ⟨i, rfl⟩ := (rank_bijective q).2 j
  exact le_antisymm (h.le_one _) (hj ▸ h.anti (show k ≤ i from by rw [Fin.le_def]; omega))

/-- The drawn place: how many entries of the running sum lie below the draw. -/
theorem IsProb.drawn (h : IsProb v q) {P : EReal} {u : ℝ} (hu : u ≤ 1) (D : Fin n → Prop) [DecidablePred D]
    (hD : ∀ k : Fin n, D k ↔ ∃ _ : 0 < k.val, P < ∑ l : Fin n, if l.val < k.val - 1 + 1 then q (rank q l) else 0)
    (kept : Fin n → EReal) (hkept : ∀ k, kept k = if D k then 0 else q (rank q k))
    (cdf : Fin n → EReal) (hcdf : ∀ k, cdf k = ∑ l : Fin n, if l.val < k.val + 1 then Ideal.div (kept l) (∑ m, kept m) else 0) :
    ∃ (K : ℕ) (ks : Fin n), (univ.filter fun k => cdf k < (u : EReal)).card = ks.val ∧ ks.val < K
      ∧ (pre (fun k => v (rank q k)) ks.val < u * pre (fun k => v (rank q k)) K ∨ (ks.val = 0 ∧ u * pre (fun k => v (rank q k)) K ≤ 0))
      ∧ u * pre (fun k => v (rank q k)) K ≤ pre (fun k => v (rank q k)) (ks.val + 1)
      ∧ ((((pre (fun k => v (rank q k)) n : ℝ) : EReal) ≤ P * ((pre (fun k => v (rank q k)) n : ℝ) : EReal) ∧ K = n)
        ∨ ∃ k1 : Fin n, k1.val + 1 = K
          ∧ (((pre (fun k => v (rank q k)) k1.val : ℝ) : EReal) ≤ P * ((pre (fun k => v (rank q k)) n : ℝ) : EReal)
              ∨ (k1.val = 0 ∧ P * ((pre (fun k => v (rank q k)) n : ℝ) : EReal) < 0))
          ∧ P * ((pre (fun k => v (rank q k)) n : ℝ) : EReal) < ((pre (fun k => v (rank q k)) (k1.val + 1) : ℝ) : EReal)
          ∧ ¬ 1 ≤ P ∧ (univ.inf fun k => if D k then ⊤ else q (rank q k)) = q (rank q k1)) := by
  obtain ⟨j0, _⟩ := h.one
  have hn : 0 < n := j0.pos
  have hZ := h.sum_pos
  have hpre := h.pre_eq
  have hanti := h.anti
  have htop := h.top ⟨0, hn⟩ rfl
  have hs : ∀ k, q (rank q k) = (((fun k => v (rank q k)) k / pre (fun k => v (rank q k)) n : ℝ) : EReal) := by
    intro k
    rw [hpre]
    exact h.eq _
  have h0 : ∀ l, 0 ≤ (fun k => v (rank q k)) l := fun l => h.nonneg _
  generalize ha : (fun k => v (rank q k)) = a at *
  have htop' : a ⟨0, hn⟩ = 1 := by rw [← ha]; exact htop
  have hpos : 0 < a ⟨0, hn⟩ := by rw [htop']; exact one_pos
  have hrem : ∀ k : Fin n, D k ↔ k.val ≠ 0 ∧ P < ((pre a k.val / pre a n : ℝ) : EReal) := by
    intro k
    rw [hD]
    have e : 0 < k.val → (∑ l : Fin n, if l.val < k.val - 1 + 1 then q (rank q l) else 0) = ((pre a k.val / pre a n : ℝ) : EReal) := by
      intro hk
      simp only [hs]
      rw [pre_coe (fun l => a l / pre a n), pre_div, Nat.sub_add_cancel hk]
    constructor
    · rintro ⟨hk, hP⟩
      exact ⟨hk.ne', e hk ▸ hP⟩
    · rintro ⟨hk, hP⟩
      exact ⟨Nat.pos_of_ne_zero hk, (e (Nat.pos_of_ne_zero hk)).symm ▸ hP⟩
  obtain ⟨K, hK, hK0, hKn, hKK⟩ := nucleus h0 hn hpos D hrem
  have hk' : ∀ k, kept k = (((if D k then 0 else a k / pre a n : ℝ)) : EReal) := by
    intro k
    rw [hkept, hs]
    split_ifs <;> simp
  have hsum : (∑ m, kept m) = ((∑ m, (if D m then 0 else a m / pre a n) : ℝ) : EReal) := by
    rw [coe_sum]
    exact sum_congr rfl fun m _ => hk' m
  have hZ' : 0 < pre a n := by rw [hpre]; exact hZ
  have hS : 0 < ∑ m, (if D m then 0 else a m / pre a n) := by
    refine sum_pos' (fun m _ => ?_) ⟨⟨0, hn⟩, mem_univ _, ?_⟩
    · split_ifs
      · exact le_rfl
      · exact div_nonneg (h0 m) hZ'.le
    · rw [if_neg (by rw [hK]; exact Nat.not_le.mpr hK0)]
      exact div_pos hpos hZ'
  have hc : ∀ k, cdf k = ((pre (fun l => (if D l then 0 else a l / pre a n) / ∑ m, if D m then 0 else a m / pre a n) (k.val + 1) : ℝ) : EReal) := by
    intro k
    rw [hcdf, ← pre_coe]
    refine sum_congr rfl fun l _ => ?_
    rw [hsum, hk', div_coe _ hS.ne']
  obtain ⟨ks, h1, h2, h3, h4⟩ := draw h0 hn hpos hu D hK hK0 hKn _ fun k => rfl
  refine ⟨K, ks, ?_, h2, h3, h4, ?_⟩
  · rw [h1]
    refine congrArg card (filter_congr fun k _ => ?_)
    rw [hc, EReal.coe_lt_coe_iff]
  · rcases hKK with hKK | ⟨k1, e1, e2, e3, e4⟩
    · exact .inl hKK
    · refine .inr ⟨k1, e1, e2, e3, e4, ?_⟩
      refine le_antisymm ?_ (Finset.le_inf fun k _ => ?_)
      · refine (Finset.inf_le (mem_univ k1)).trans ?_
        rw [if_neg (by rw [hK]; omega)]
      · split_ifs with hd
        · exact le_top
        · rw [hK] at hd
          rw [hs, hs, EReal.coe_le_coe_iff, div_le_div_iff_of_pos_right hZ']
          exact hanti (show k ≤ k1 from by rw [Fin.le_def]; omega)

/-- A probability set apart from the others has a weight set apart from the others. -/
theorem IsProb.clear (h : IsProb v q) {x : ℝ} (hx : ((x / ∑ l, v l : ℝ) : EReal) ≥ (univ.sup q) * ((fval 0x00800000 : ℝ) : EReal))
    (hg : ∀ k, q k ≤ ((x / ∑ l, v l : ℝ) : EReal) ∨ q k ≥ ((x / ∑ l, v l : ℝ) : EReal) * ((fval 0x3F800001 : ℝ) : EReal)) :
    (2 : ℝ) ^ (-126 : ℤ) ≤ x ∧ ∀ k, v k ≤ x ∨ x * (1 + (2 : ℝ) ^ (-23 : ℤ)) ≤ v k := by
  have hZ := h.sum_pos
  have hsup : univ.sup q = ((1 / ∑ l, v l : ℝ) : EReal) := by
    obtain ⟨k, hk⟩ := h.one
    refine le_antisymm (Finset.sup_le fun j _ => ?_) ?_
    · rw [h.eq, EReal.coe_le_coe_iff, div_le_div_iff_of_pos_right hZ]
      exact h.le_one j
    · refine le_trans (le_of_eq ?_) (Finset.le_sup (mem_univ k))
      rw [h.eq, hk]
  constructor
  · rw [hsup, ge_iff_le, ← EReal.coe_mul, EReal.coe_le_coe_iff, fval_small, div_mul_eq_mul_div, one_mul,
      div_le_div_iff_of_pos_right hZ] at hx
    exact hx
  · intro k
    rcases hg k with h1 | h1
    · left
      rw [h.eq, EReal.coe_le_coe_iff, div_le_div_iff_of_pos_right hZ] at h1
      exact h1
    · right
      rw [h.eq, ge_iff_le, ← EReal.coe_mul, EReal.coe_le_coe_iff, fval_gap, div_mul_eq_mul_div, div_le_div_iff_of_pos_right hZ] at h1
      exact h1

end Cert.Row
-- ==== Proof.RefMain.lean ====
module

public import proofs.«01_k».proof.Proof.RefRows
public import proofs.«01_k».proof.Proof.RowOrder

/-! The reference's result in every row, where the precondition holds. -/

@[expose] public section

set_option maxRecDepth 65536

noncomputable section

namespace Cert.Row

open Idealize.ShloMosaic Finset

theorem fb_floor : ∃ c : ℝ, 0 < c ∧ Ideal.ofBits .f32 0x322BCC77#32 = (c : EReal) := by
  refine ⟨fval 0x322BCC77, ?_, ofBits_eq_fval _ (by decide)⟩
  norm_num [fval]

/-- The temperature's divisor is a positive real. -/
theorem divisor_real {T : EReal} (hT : T < ⊤) : ∃ d : ℝ, 0 < d ∧ max (Ideal.ofBits .f32 0x322BCC77#32) T = (d : EReal) := by
  obtain ⟨c, hc, e⟩ := fb_floor
  rw [e]
  induction T using EReal.rec with
  | bot => exact ⟨c, hc, max_eq_left bot_le⟩
  | top => exact absurd hT (lt_irrefl _)
  | coe t => exact ⟨max c t, lt_max_of_lt_left hc, (EReal.coe_strictMono.monotone.map_max).symm⟩

theorem div_pos_mono {d : ℝ} (hd : 0 < d) : Monotone fun x : EReal => Ideal.div x (d : EReal) := by
  intro x y h
  have hne : (d : EReal) ≠ 0 := by exact_mod_cast hd.ne'
  simp only [Ideal.div, if_neg hne]
  rw [← EReal.coe_inv]
  exact mul_le_mul_of_nonneg_right h (EReal.coe_nonneg.mpr (inv_nonneg.mpr hd.le))

theorem div_bot {d : ℝ} (hd : 0 < d) : Ideal.div ⊥ (d : EReal) = ⊥ := by
  have hne : (d : EReal) ≠ 0 := by exact_mod_cast hd.ne'
  simp only [Ideal.div, if_neg hne]
  rw [← EReal.coe_inv]
  exact EReal.bot_mul_coe_of_pos (inv_pos.mpr hd)

/-- A row whose greatest entry is real has real weights in the unit interval, the greatest being one. -/
theorem exp_row {n : ℕ} (s : Fin n → EReal) {M : ℝ} (hM : univ.sup s = (M : EReal)) (k : Fin n) :
    ∃ x : ℝ, Ideal.exp (s k - univ.sup s) = (x : EReal) ∧ 0 ≤ x ∧ x ≤ 1 ∧ (s k = (M : EReal) → x = 1) ∧ (s k = ⊥ → x = 0) := by
  have hle : s k ≤ (M : EReal) := hM ▸ Finset.le_sup (mem_univ k)
  rw [hM]
  generalize s k = y at hle
  induction y using EReal.rec with
  | bot =>
    refine ⟨0, ?_, le_rfl, zero_le_one, fun h => absurd h (by simp), fun _ => rfl⟩
    rw [EReal.bot_sub]
    rfl
  | top => exact absurd hle (by simp)
  | coe y =>
    have hy : y ≤ M := EReal.coe_le_coe_iff.mp hle
    refine ⟨Real.exp (y - M), ?_, (Real.exp_pos _).le, Real.exp_le_one_iff.mpr (by linarith), fun h => ?_, fun h => absurd h (by simp)⟩
    · rw [← EReal.coe_sub]
      rfl
    · rw [EReal.coe_eq_coe_iff.mp h, sub_self, Real.exp_zero]

/-- The weights of a row of logits over a divisor. -/
theorem weight_row {n : ℕ} (x : Fin n → EReal) {L d : ℝ} (hL : univ.sup x = (L : EReal)) (hd : 0 < d) (hn : 0 < n) :
    ∃ v : Fin n → ℝ, (∀ k, Ideal.exp (Ideal.div (x k) (d : EReal) - univ.sup fun k => Ideal.div (x k) (d : EReal)) = (v k : EReal))
      ∧ (∀ k, 0 ≤ v k) ∧ (∀ k, v k ≤ 1) ∧ (∃ k, v k = 1) ∧ (∀ k, x k = ⊥ → v k = 0)
      ∧ (univ.sup fun k => Ideal.div (x k) (d : EReal)) = ((L / d : ℝ) : EReal) := by
  have hne : (univ : Finset (Fin n)).Nonempty := ⟨⟨0, hn⟩, mem_univ _⟩
  obtain ⟨k0, _, hk0⟩ := Finset.exists_mem_eq_sup univ hne x
  have hsup : (univ.sup fun k => Ideal.div (x k) (d : EReal)) = ((L / d : ℝ) : EReal) := by
    refine le_antisymm (Finset.sup_le fun k _ => ?_) ?_
    · rw [← div_coe L hd.ne', ← hL]
      exact div_pos_mono hd (Finset.le_sup (mem_univ k))
    · rw [← div_coe L hd.ne', ← hL, hk0]
      exact Finset.le_sup (f := fun k => Ideal.div (x k) (d : EReal)) (mem_univ k0)
  choose v h1 h2 h3 h4 h5 using fun k => exp_row (fun k => Ideal.div (x k) (d : EReal)) hsup k
  refine ⟨v, h1, h2, h3, ⟨k0, h4 k0 ?_⟩, fun k hk => h5 k ?_, hsup⟩
  · rw [← hk0, hL, div_coe L hd.ne']
  · rw [hk, div_bot hd]

end Cert.Row

namespace Cert.Row.Ref

open Idealize.ShloMosaic Cert.Pre_resolvable Cert.Pre_resolvable.Facts Finset

variable [Cert.Pre_resolvable.Facts]

theorem and_iff (a b : BitVec 1) : IntOp.andi a b = 1#1 ↔ a = 1#1 ∧ b = 1#1 := by revert a b; decide
theorem or_iff (a b : BitVec 1) : IntOp.ori a b = 1#1 ↔ a = 1#1 ∨ b = 1#1 := by revert a b; decide
theorem andi_read {s : Shape} (x y : IVec s 1) (i : s.Idx) : andi x y i = 1#1 ↔ x i = 1#1 ∧ y i = 1#1 := and_iff _ _
theorem ori_read {s : Shape} (x y : IVec s 1) (i : s.Idx) : ori x y i = 1#1 ↔ x i = 1#1 ∨ y i = 1#1 := or_iff _ _
theorem ogt_iff {s : Shape} (x y : FVec Ideal s .f32) (i : s.Idx) : cmpf .ogt x y i = 1#1 ↔ (y i : EReal) < x i := ofBool_iff
theorem olt_iff {s : Shape} (x y : FVec Ideal s .f32) (i : s.Idx) : cmpf .olt x y i = 1#1 ↔ (x i : EReal) < y i := ofBool_iff
theorem oge_iff {s : Shape} (x y : FVec Ideal s .f32) (i : s.Idx) : cmpf .oge x y i = 1#1 ↔ (y i : EReal) ≤ x i := ofBool_iff
theorem ole_iff {s : Shape} (x y : FVec Ideal s .f32) (i : s.Idx) : cmpf .ole x y i = 1#1 ↔ (x i : EReal) ≤ y i := ofBool_iff

theorem apart_read (p : FVec Ideal S64x100000 .f32) (v : FVec Ideal S64x1 .f32) (r : Fin 64) :
    apart p v (ix2 r 0) = 1#1 ↔ (univ.sup fun k => (p (ix2 r k) : EReal)) * ((fval 0x00800000 : ℝ) : EReal) ≤ v (ix2 r 0)
      ∧ ∀ k, (p (ix2 r k) : EReal) ≤ v (ix2 r 0) ∨ (v (ix2 r 0) : EReal) * ((fval 0x3F800001 : ℝ) : EReal) ≤ p (ix2 r k) := by
  unfold apart
  rw [andi_read, oge_iff, mulf_read, col_read, col_read, lit_read, maxOf_read, ofBits_eq_fval _ (by decide)]
  refine and_congr Iff.rfl ?_
  rw [reduce_row (R := 64) (N := 100000) IntOp.andi]
  refine (fold_and _).trans (forall_congr' fun k => ?_)
  rw [ori_read, ole_iff, oge_iff, wide_read, wide_read, mulf_read, lit_read, ofBits_eq_fval _ (by decide)]
  rfl

theorem least_read (d : IVec S64x100000 1) (s : FVec Ideal S64x100000 .f32) (r : Fin 64) :
    least d s (ix2 r 0) = univ.inf fun k => if d (ix2 r k) = 1#1 then (⊤ : EReal) else s (ix2 r k) := by
  unfold least
  rw [col_read]
  refine (reduce_row (R := 64) (N := 100000) (min : EReal → EReal → EReal) _ _ _ _ r).trans ?_
  rw [show constant (F := Ideal) S_ .f32 0x7F800000#32 (Shape.Idx.first h_S_) = (⊤ : EReal) from pinf]
  refine Eq.trans (b := univ.inf fun k => fn_where (F := Ideal) d (constant S_ .f32 0x7F800000#32) s (ix2 r k)) rfl ?_
  refine Finset.inf_congr rfl fun k _ => ?_
  rw [where_read, pinf]

/-- What the precondition gives in a row, and the reference's result there. -/
theorem row_main (x0 : FVec Ideal S64x100000 .f32) (x1 x2 : FVec Ideal S64x1 .f32)
    (hg : good (F := Ideal) x0 x1 x2 = fun _ => 1#1) (r : Fin 64) :
    ∃ (L d u : ℝ) (v : Fin 100000 → ℝ) (q : Fin 100000 → EReal) (K : ℕ) (ks : Fin 100000),
      (univ.sup fun k => (x0 (ix2 r k) : EReal)) = (L : EReal) ∧ 0 < d ∧ max (Ideal.ofBits .f32 0x322BCC77#32) (x1 (ix2 r 0)) = (d : EReal)
      ∧ (∀ k, Ideal.exp (Ideal.div (x0 (ix2 r k)) (d : EReal) - univ.sup fun k => Ideal.div (x0 (ix2 r k)) (d : EReal)) = (v k : EReal))
      ∧ IsProb v q ∧ unif (F := Ideal) keyWords (ix2 r 0) = (u : EReal)
      ∧ ((((pre (fun k => v (rank q k)) 100000 : ℝ) : EReal) ≤ x2 (ix2 r 0) * ((pre (fun k => v (rank q k)) 100000 : ℝ) : EReal) ∧ K = 100000)
        ∨ ∃ k1 : Fin 100000, k1.val + 1 = K
          ∧ (((pre (fun k => v (rank q k)) k1.val : ℝ) : EReal) ≤ x2 (ix2 r 0) * ((pre (fun k => v (rank q k)) 100000 : ℝ) : EReal)
              ∨ (k1.val = 0 ∧ x2 (ix2 r 0) * ((pre (fun k => v (rank q k)) 100000 : ℝ) : EReal) < 0))
          ∧ x2 (ix2 r 0) * ((pre (fun k => v (rank q k)) 100000 : ℝ) : EReal) < ((pre (fun k => v (rank q k)) (k1.val + 1) : ℝ) : EReal)
          ∧ ((2 : ℝ) ^ (-126 : ℤ) ≤ v (rank q k1) ∧ ∀ k, v k ≤ v (rank q k1) ∨ v (rank q k1) * (1 + (2 : ℝ) ^ (-23 : ℤ)) ≤ v k))
      ∧ ks.val < K
      ∧ (pre (fun k => v (rank q k)) ks.val < u * pre (fun k => v (rank q k)) K ∨ (ks.val = 0 ∧ u * pre (fun k => v (rank q k)) K ≤ 0))
      ∧ u * pre (fun k => v (rank q k)) K ≤ pre (fun k => v (rank q k)) (ks.val + 1)
      ∧ ((2 : ℝ) ^ (-126 : ℤ) ≤ v (rank q ks) ∧ ∀ k, v k ≤ v (rank q ks) ∨ v (rank q ks) * (1 + (2 : ℝ) ^ (-23 : ℤ)) ≤ v k)
      ∧ ∀ fill, takeOne fill (orderOf (probs x0 x1)) (placeOf (probs x0 x1) x2 (unif keyWords)) (ix2 r 0)
          = BitVec.ofNat 32 (rank q ks).val := by
  have hr : good (F := Ideal) x0 x1 x2 (ix2 r 0) = 1#1 := congrFun hg _
  unfold good at hr
  simp only [andi_read, ori_read, ogt_iff, olt_iff, oge_iff, apart_read] at hr
  rw [col_read, maxOf_read, lit_read, lit_read, lit_read, ninf, pinf, least_read] at hr
  obtain ⟨⟨⟨⟨hl, hh⟩, hT⟩, hA⟩, hB⟩ := hr
  obtain ⟨d, hd, hde⟩ := divisor_real hT
  obtain ⟨L, hL⟩ : ∃ L : ℝ, (univ.sup fun k => (x0 (ix2 r k) : EReal)) = (L : EReal) :=
    ⟨_, (EReal.coe_toReal hh.ne hl.ne').symm⟩
  obtain ⟨v, hv, h0, h1, hone, _, _⟩ := weight_row (fun k => (x0 (ix2 r k) : EReal)) hL hd (by norm_num)
  obtain ⟨u, _, hu1, hu⟩ := unif_read (keyWords) r
  have hp : ∀ k, probs x0 x1 (ix2 r k) = ((v k / ∑ l, v l : ℝ) : EReal) := by
    intro k
    have he : ∀ k, expd (logits x0 x1) (ix2 r k) = (v k : EReal) := by
      intro k
      rw [expd_read]
      simp only [logits_read, hde]
      exact hv k
    have hsum : 0 < ∑ l, v l := by
      obtain ⟨j, hj⟩ := hone
      exact lt_of_lt_of_le one_pos (hj ▸ single_le_sum (f := v) (fun l _ => h0 l) (mem_univ j))
    unfold probs
    rw [share_read]
    simp only [he]
    rw [← coe_sum, div_coe _ hsum.ne']
  have hq : IsProb v (fun k => probs x0 x1 (ix2 r k)) := ⟨h0, h1, hone, hp⟩
  generalize hpp : probs x0 x1 = p at *
  have hs : ∀ k, sortedOf p (ix2 r k) = p (ix2 r (rank (fun k => p (ix2 r k)) k)) := sortedOf_read p r
  obtain ⟨K, ks, c1, c2, c3, c4, c5⟩ := hq.drawn (P := x2 (ix2 r 0)) hu1
    (fun k => dropped (sortedOf p) x2 (ix2 r k) = 1#1)
    (fun k => by rw [dropped_read]; simp only [cumsum_at, hs])
    (fun k => fn_where (F := Ideal) (dropped (sortedOf p) x2) (constant S_ .f32 0x00000000#32) (sortedOf p) (ix2 r k))
    (fun k => by rw [where_read, fzero, hs])
    (fun k => cdf (dropped (sortedOf p) x2) (sortedOf p) (ix2 r k))
    (fun k => by unfold cdf; rw [cumsum_at]; simp only [share_read])
  have hplace : placeOf p x2 (unif keyWords) (ix2 r 0) = BitVec.ofNat 32 ks.val := by
    unfold placeOf
    have hks := ks.isLt
    rw [place_read, hu, c1]
    rw [hu, c1]
    omega
  have hdrawn : ∀ fill, takeOne (α := EReal) fill (sortedOf p) (placeOf p x2 (unif keyWords)) (ix2 r 0)
      = ((v (rank (fun k => p (ix2 r k)) ks) / ∑ l, v l : ℝ) : EReal) := by
    intro fill
    rw [takeOne_read fill _ _ r ks hplace, hs, hp]
  rw [takeOne_eq, hdrawn] at hB
  refine ⟨L, d, u, v, fun k => p (ix2 r k), K, ks, hL, hd, hde, hv, hq, hu, ?_, c2, c3, c4, hq.clear hB.1 hB.2, ?_⟩
  · rcases c5 with c5 | ⟨k1, e1, e2, e3, e4, e5⟩
    · exact .inl c5
    · refine .inr ⟨k1, e1, e2, e3, ?_⟩
      have e6 : (univ.inf fun k => if dropped (sortedOf p) x2 (ix2 r k) = 1#1 then (⊤ : EReal) else sortedOf p (ix2 r k))
          = ((v (rank (fun k => p (ix2 r k)) k1) / ∑ l, v l : ℝ) : EReal) := by
        simp only [hs]
        exact e5.trans (hp _)
      rw [e6] at hA
      rcases hA with hA | hA
      · refine absurd ?_ e4
        rw [ofBits_eq_fval _ (by decide)] at hA
        rw [show (0x3F800000#32 : BitVec 32).toNat = 0x3F800000 from rfl, fval_one] at hA
        exact hA
      · exact hq.clear hA.1 hA.2
  · intro fill
    rw [takeOne_read fill _ _ r ks hplace]
    exact orderOf_read p r ks

end Cert.Row.Ref
-- ==== Proof.RowPad.lean ====
module

public import proofs.«01_k».proof.Proof.RowPick
public import proofs.«01_k».proof.Proof.RefMain

/-! A row widened by entries of no weight: the kernel's answer on it is the reference's on the row. -/

@[expose] public section

noncomputable section

namespace Cert.Row

open Idealize.ShloMosaic Finset

variable {n N : ℕ}

/-- The weights of a row: every entry over the divisor, less the greatest, exponentiated. -/
def heavyOf (x : Fin N → EReal) (d : EReal) (j : Fin N) : EReal := Ideal.exp (Ideal.div (x j) d - univ.sup fun l => Ideal.div (x l) d)

theorem sup_wide (hn : n ≤ N) (x : Fin n → EReal) (X : Fin N → EReal) (hin : ∀ k, X (Fin.castLE hn k) = x k) (hout : ∀ j : Fin N, n ≤ j.val → X j = ⊥) :
    univ.sup X = univ.sup x := by
  refine le_antisymm (Finset.sup_le fun j _ => ?_) (Finset.sup_le fun k _ => ?_)
  · by_cases h : j.val < n
    · rw [show j = Fin.castLE hn ⟨j.val, h⟩ from rfl, hin]
      exact Finset.le_sup (mem_univ _)
    · rw [hout j (Nat.not_lt.mp h)]
      exact bot_le
  · rw [← hin k]
    exact Finset.le_sup (mem_univ _)

theorem pick_wide (hn : n ≤ N) (hN : N ≤ 100096) (hs : n ≤ 100000) (x : Fin n → EReal) (X : Fin N → EReal)
    (hin : ∀ k, X (Fin.castLE hn k) = x k) (hout : ∀ j : Fin N, n ≤ j.val → X j = ⊥)
    {L d u : ℝ} {P : EReal} {v : Fin n → ℝ} {q : Fin n → EReal} {K : ℕ} (ks : Fin n)
    (hL : univ.sup x = (L : EReal)) (hd : 0 < d) (hv : ∀ k, heavyOf x (d : EReal) k = (v k : EReal)) (hq : IsProb v q)
    (hK : (((pre (fun k => v (rank q k)) n : ℝ) : EReal) ≤ P * ((pre (fun k => v (rank q k)) n : ℝ) : EReal) ∧ K = n)
      ∨ ∃ k1 : Fin n, k1.val + 1 = K
        ∧ (((pre (fun k => v (rank q k)) k1.val : ℝ) : EReal) ≤ P * ((pre (fun k => v (rank q k)) n : ℝ) : EReal)
            ∨ (k1.val = 0 ∧ P * ((pre (fun k => v (rank q k)) n : ℝ) : EReal) < 0))
        ∧ P * ((pre (fun k => v (rank q k)) n : ℝ) : EReal) < ((pre (fun k => v (rank q k)) (k1.val + 1) : ℝ) : EReal)
        ∧ ((2 : ℝ) ^ (-126 : ℤ) ≤ v (rank q k1) ∧ ∀ k, v k ≤ v (rank q k1) ∨ v (rank q k1) * (1 + (2 : ℝ) ^ (-23 : ℤ)) ≤ v k))
    (hks : ks.val < K)
    (hlo : pre (fun k => v (rank q k)) ks.val < u * pre (fun k => v (rank q k)) K ∨ (ks.val = 0 ∧ u * pre (fun k => v (rank q k)) K ≤ 0))
    (hhi : u * pre (fun k => v (rank q k)) K ≤ pre (fun k => v (rank q k)) (ks.val + 1))
    (hc : (2 : ℝ) ^ (-126 : ℤ) ≤ v (rank q ks) ∧ ∀ k, v k ≤ v (rank q ks) ∨ v (rank q ks) * (1 + (2 : ℝ) ^ (-23 : ℤ)) ≤ v k) :
    sPick (heavyOf X (d : EReal)) P (u : EReal) = BitVec.ofNat 32 (rank q ks).val := by
  have h0 : 0 < n := lt_of_le_of_lt (Nat.zero_le _) ks.isLt
  obtain ⟨_, _, _, _, _, _, hsx⟩ := weight_row x hL hd h0
  obtain ⟨w, hw, hw0, hw1, _, hwb, hsX⟩ := weight_row X ((sup_wide hn x X hin hout).trans hL) hd (lt_of_lt_of_le h0 hn)
  have hwv : ∀ k, w (Fin.castLE hn k) = v k := by
    intro k
    refine EReal.coe_injective ?_
    rw [← hw, ← hv, heavyOf, hsx, hsX, hin]
  have hwz : ∀ j : Fin N, n ≤ j.val → w j = 0 := fun j hj => hwb j (hout j hj)
  have hcl : ∀ k1 : Fin n, ((2 : ℝ) ^ (-126 : ℤ) ≤ v (rank q k1) ∧ ∀ k, v k ≤ v (rank q k1) ∨ v (rank q k1) * (1 + (2 : ℝ) ^ (-23 : ℤ)) ≤ v k)
      → Clear w (w (Fin.castLE hn (rank q k1))) := by
    intro k1 hk1
    rw [hwv]
    refine ⟨hk1.1, fun j => ?_⟩
    by_cases h : j.val < n
    · rw [show j = Fin.castLE hn ⟨j.val, h⟩ from rfl, hwv]
      exact hk1.2 _
    · rw [hwz j (Nat.not_lt.mp h)]
      exact Or.inl (hq.nonneg _)
  have hrow : IsRow w fun k => Fin.castLE hn (rank q k) := {
    inj := fun a b hab => rank_injective q (Fin.castLE_injective hn hab)
    pad := fun j hj => by
      refine hwz j (Nat.not_lt.mp fun h => hj ?_)
      obtain ⟨k, hk⟩ := (rank_bijective q).2 ⟨j.val, h⟩
      exact ⟨k, Fin.ext (show (rank q k).val = j.val from congrArg Fin.val hk)⟩
    nonneg := hw0
    le_one := hw1
    anti := by
      have h := hq.anti
      intro a b hab
      have := h hab
      simpa only [hwv] using this
    stable := fun k l he hkl => by
      rw [hwv, hwv] at he
      exact hq.stable k l he hkl
    top := fun k hk => by rw [hwv]; exact hq.top k hk
    small := fun k => by
      have := (rank q k).isLt
      show (rank q k).val ≤ 99999
      omega }
  have hpre : (fun k => w (Fin.castLE hn (rank q k))) = fun k => v (rank q k) := funext fun k => hwv _
  have hX : heavyOf X (d : EReal) = fun j => (w j : EReal) := funext hw
  rw [hX]
  refine hrow.sPick_eq (K := K) hN ks ?_ hks ?_ ?_ (hcl ks hc)
  · rw [hpre]
    rcases hK with h | ⟨k1, h1, h2, h3, h4⟩
    · exact Or.inl h
    · exact Or.inr ⟨k1, h1, h2, h3, hcl k1 h4⟩
  · rw [hpre]; exact hlo
  · rw [hpre]; exact hhi

end Cert.Row
-- ==== Proof.RefValue.lean ====
module

public import proofs.«01_k».proof.Proof.RefRun
public import proofs.«01_k».proof.Proof.RefRead
public import Idealize.ShloMosaic.Lib.Pipeline.Frame

/-! The reference's result as a function of its arguments. -/

@[expose] public section

set_option maxRecDepth 65536

noncomputable section

namespace Cert.ReferenceIdeal.Hand

open Cert.ReferenceIdeal Idealize.ShloMosaic Idealize.ShloMosaic.TcCoe Idealize.SL.Sem Idealize.ShloMosaic.StableHlo
open Cert.Pre_resolvable (fn_clip fn_argsort fn_take_along_axis fn_cumsum fn_where fn_uniform fn_clip_1)
open Cert.Pre_resolvable.Facts
open Cert.Row.Ref

variable {F : FTy → Type} [FloatOps F] [Cert.Pre_resolvable.Facts]

theorem s0_cst (V : Valuation τ sig (Elt F)) : after ops0 V (Proc.devRef .tc main_cst) = constant (F := F) S_ .f32 0x322BCC77#32 := by
  after_reads_simp
  try simp -implicitDefEqProofs only [StableHlo.TRef.toBuf, StableHlo.TRef.ofBuf, cast_cast, cast_eq]
  try rfl

theorem s0_arg0 (V : Valuation τ sig (Elt F)) : after ops0 V (Proc.devRef .tc main_arg0) = V (Proc.devRef .tc main_arg0) := by
  after_reads_simp
  try simp -implicitDefEqProofs only [StableHlo.TRef.toBuf, StableHlo.TRef.ofBuf, cast_cast, cast_eq]
  try rfl

theorem s0_arg1 (V : Valuation τ sig (Elt F)) : after ops0 V (Proc.devRef .tc main_arg1) = V (Proc.devRef .tc main_arg1) := by
  after_reads_simp
  try simp -implicitDefEqProofs only [StableHlo.TRef.toBuf, StableHlo.TRef.ofBuf, cast_cast, cast_eq]
  try rfl

theorem s0_arg2 (V : Valuation τ sig (Elt F)) : after ops0 V (Proc.devRef .tc main_arg2) = V (Proc.devRef .tc main_arg2) := by
  after_reads_simp
  try simp -implicitDefEqProofs only [StableHlo.TRef.toBuf, StableHlo.TRef.ofBuf, cast_cast, cast_eq]
  try rfl

theorem s1_v0 (V : Valuation τ sig (Elt F)) : after ops1 V (Proc.devRef .tc main_v0) = fn_clip (F := F) (V (Proc.devRef .tc main_arg1)) (V (Proc.devRef .tc main_cst)) := by
  after_reads_simp
  try simp -implicitDefEqProofs only [StableHlo.TRef.toBuf, StableHlo.TRef.ofBuf, cast_cast, cast_eq]
  try rfl

theorem s1_arg0 (V : Valuation τ sig (Elt F)) : after ops1 V (Proc.devRef .tc main_arg0) = V (Proc.devRef .tc main_arg0) := by
  after_reads_simp
  try simp -implicitDefEqProofs only [StableHlo.TRef.toBuf, StableHlo.TRef.ofBuf, cast_cast, cast_eq]
  try rfl

theorem s1_arg2 (V : Valuation τ sig (Elt F)) : after ops1 V (Proc.devRef .tc main_arg2) = V (Proc.devRef .tc main_arg2) := by
  after_reads_simp
  try simp -implicitDefEqProofs only [StableHlo.TRef.toBuf, StableHlo.TRef.ofBuf, cast_cast, cast_eq]
  try rfl

theorem s2_v13 (V : Valuation τ sig (Elt F)) : after ops2 V (Proc.devRef .tc main_v13) = share (expd (Host.divf (V (Proc.devRef .tc main_arg0)) (wide (V (Proc.devRef .tc main_v0))))) := by
  after_reads_simp
  try simp -implicitDefEqProofs only [StableHlo.TRef.toBuf, StableHlo.TRef.ofBuf, cast_cast, cast_eq]
  try rfl

theorem s2_v14 (V : Valuation τ sig (Elt F)) : after ops2 V (Proc.devRef .tc main_v14) = Host.negf (share (expd (Host.divf (V (Proc.devRef .tc main_arg0)) (wide (V (Proc.devRef .tc main_v0)))))) := by
  after_reads_simp
  try simp -implicitDefEqProofs only [StableHlo.TRef.toBuf, StableHlo.TRef.ofBuf, cast_cast, cast_eq]
  try rfl

theorem s2_arg2 (V : Valuation τ sig (Elt F)) : after ops2 V (Proc.devRef .tc main_arg2) = V (Proc.devRef .tc main_arg2) := by
  after_reads_simp
  try simp -implicitDefEqProofs only [StableHlo.TRef.toBuf, StableHlo.TRef.ofBuf, cast_cast, cast_eq]
  try rfl

theorem s3_v15 (V : Valuation τ sig (Elt F)) : after ops3 V (Proc.devRef .tc main_v15) = fn_argsort (F := F) (V (Proc.devRef .tc main_v14)) := by
  after_reads_simp
  try simp -implicitDefEqProofs only [StableHlo.TRef.toBuf, StableHlo.TRef.ofBuf, cast_cast, cast_eq]
  try rfl

theorem s3_v13 (V : Valuation τ sig (Elt F)) : after ops3 V (Proc.devRef .tc main_v13) = V (Proc.devRef .tc main_v13) := by
  after_reads_simp
  try simp -implicitDefEqProofs only [StableHlo.TRef.toBuf, StableHlo.TRef.ofBuf, cast_cast, cast_eq]
  try rfl

theorem s3_arg2 (V : Valuation τ sig (Elt F)) : after ops3 V (Proc.devRef .tc main_arg2) = V (Proc.devRef .tc main_arg2) := by
  after_reads_simp
  try simp -implicitDefEqProofs only [StableHlo.TRef.toBuf, StableHlo.TRef.ofBuf, cast_cast, cast_eq]
  try rfl

theorem s4_v16 (V : Valuation τ sig (Elt F)) : after ops4 V (Proc.devRef .tc main_v16) = fn_take_along_axis (F := F) (V (Proc.devRef .tc main_v13)) (V (Proc.devRef .tc main_v15)) := by
  after_reads_simp
  try simp -implicitDefEqProofs only [StableHlo.TRef.toBuf, StableHlo.TRef.ofBuf, cast_cast, cast_eq]
  try rfl

theorem s4_v15 (V : Valuation τ sig (Elt F)) : after ops4 V (Proc.devRef .tc main_v15) = V (Proc.devRef .tc main_v15) := by
  after_reads_simp
  try simp -implicitDefEqProofs only [StableHlo.TRef.toBuf, StableHlo.TRef.ofBuf, cast_cast, cast_eq]
  try rfl

theorem s4_arg2 (V : Valuation τ sig (Elt F)) : after ops4 V (Proc.devRef .tc main_arg2) = V (Proc.devRef .tc main_arg2) := by
  after_reads_simp
  try simp -implicitDefEqProofs only [StableHlo.TRef.toBuf, StableHlo.TRef.ofBuf, cast_cast, cast_eq]
  try rfl

theorem s5_v17 (V : Valuation τ sig (Elt F)) : after ops5 V (Proc.devRef .tc main_v17) = fn_cumsum (F := F) (V (Proc.devRef .tc main_v16)) := by
  after_reads_simp
  try simp -implicitDefEqProofs only [StableHlo.TRef.toBuf, StableHlo.TRef.ofBuf, cast_cast, cast_eq]
  try rfl

theorem s5_v15 (V : Valuation τ sig (Elt F)) : after ops5 V (Proc.devRef .tc main_v15) = V (Proc.devRef .tc main_v15) := by
  after_reads_simp
  try simp -implicitDefEqProofs only [StableHlo.TRef.toBuf, StableHlo.TRef.ofBuf, cast_cast, cast_eq]
  try rfl

theorem s5_v16 (V : Valuation τ sig (Elt F)) : after ops5 V (Proc.devRef .tc main_v16) = V (Proc.devRef .tc main_v16) := by
  after_reads_simp
  try simp -implicitDefEqProofs only [StableHlo.TRef.toBuf, StableHlo.TRef.ofBuf, cast_cast, cast_eq]
  try rfl

theorem s5_arg2 (V : Valuation τ sig (Elt F)) : after ops5 V (Proc.devRef .tc main_arg2) = V (Proc.devRef .tc main_arg2) := by
  after_reads_simp
  try simp -implicitDefEqProofs only [StableHlo.TRef.toBuf, StableHlo.TRef.ofBuf, cast_cast, cast_eq]
  try rfl

theorem s6_v23 (V : Valuation τ sig (Elt F)) : after ops6 V (Proc.devRef .tc main_v23) = concatenate S64x100000 1 [⟨S64x1, broadcastInDim S64x1 ![] bcast_S_S64x1 (constantI S_ 1 0#1)⟩,
    ⟨S64x99999, extractStridedSlice S64x99999 ![0, 0] (cmpf .ogt (V (Proc.devRef .tc main_v17)) (wide (V (Proc.devRef .tc main_arg2)))) slices_S64x100000_S64x99999_0_0⟩]
    concatenates_S64x1_S64x99999_S64x100000_d1 := by
  after_reads_simp
  try simp -implicitDefEqProofs only [StableHlo.TRef.toBuf, StableHlo.TRef.ofBuf, cast_cast, cast_eq]
  try rfl

theorem s6_cst_3 (V : Valuation τ sig (Elt F)) : after ops6 V (Proc.devRef .tc main_cst_3) = constant (F := F) S_ .f32 0x00000000#32 := by
  after_reads_simp
  try simp -implicitDefEqProofs only [StableHlo.TRef.toBuf, StableHlo.TRef.ofBuf, cast_cast, cast_eq]
  try rfl

theorem s6_v15 (V : Valuation τ sig (Elt F)) : after ops6 V (Proc.devRef .tc main_v15) = V (Proc.devRef .tc main_v15) := by
  after_reads_simp
  try simp -implicitDefEqProofs only [StableHlo.TRef.toBuf, StableHlo.TRef.ofBuf, cast_cast, cast_eq]
  try rfl

theorem s6_v16 (V : Valuation τ sig (Elt F)) : after ops6 V (Proc.devRef .tc main_v16) = V (Proc.devRef .tc main_v16) := by
  after_reads_simp
  try simp -implicitDefEqProofs only [StableHlo.TRef.toBuf, StableHlo.TRef.ofBuf, cast_cast, cast_eq]
  try rfl

theorem s7_v24 (V : Valuation τ sig (Elt F)) : after ops7 V (Proc.devRef .tc main_v24) = fn_where (F := F) (V (Proc.devRef .tc main_v23)) (V (Proc.devRef .tc main_cst_3)) (V (Proc.devRef .tc main_v16)) := by
  after_reads_simp
  try simp -implicitDefEqProofs only [StableHlo.TRef.toBuf, StableHlo.TRef.ofBuf, cast_cast, cast_eq]
  try rfl

theorem s7_v15 (V : Valuation τ sig (Elt F)) : after ops7 V (Proc.devRef .tc main_v15) = V (Proc.devRef .tc main_v15) := by
  after_reads_simp
  try simp -implicitDefEqProofs only [StableHlo.TRef.toBuf, StableHlo.TRef.ofBuf, cast_cast, cast_eq]
  try rfl

theorem s8_v28 (V : Valuation τ sig (Elt F)) : after ops8 V (Proc.devRef .tc main_v28) = share (V (Proc.devRef .tc main_v24)) := by
  after_reads_simp
  try simp -implicitDefEqProofs only [StableHlo.TRef.toBuf, StableHlo.TRef.ofBuf, cast_cast, cast_eq]
  try rfl

theorem s8_v15 (V : Valuation τ sig (Elt F)) : after ops8 V (Proc.devRef .tc main_v15) = V (Proc.devRef .tc main_v15) := by
  after_reads_simp
  try simp -implicitDefEqProofs only [StableHlo.TRef.toBuf, StableHlo.TRef.ofBuf, cast_cast, cast_eq]
  try rfl

theorem s9_v29 (V : Valuation τ sig (Elt F)) : after ops9 V (Proc.devRef .tc main_v29) = fn_cumsum (F := F) (V (Proc.devRef .tc main_v28)) := by
  after_reads_simp
  try simp -implicitDefEqProofs only [StableHlo.TRef.toBuf, StableHlo.TRef.ofBuf, cast_cast, cast_eq]
  try rfl

theorem s9_v15 (V : Valuation τ sig (Elt F)) : after ops9 V (Proc.devRef .tc main_v15) = V (Proc.devRef .tc main_v15) := by
  after_reads_simp
  try simp -implicitDefEqProofs only [StableHlo.TRef.toBuf, StableHlo.TRef.ofBuf, cast_cast, cast_eq]
  try rfl

theorem s10_v36 (V : Valuation τ sig (Elt F)) : after ops10 V (Proc.devRef .tc main_v36) = keyWords := by
  after_reads_simp
  try simp -implicitDefEqProofs only [StableHlo.TRef.toBuf, StableHlo.TRef.ofBuf, cast_cast, cast_eq]
  try rfl

theorem s10_cst_8 (V : Valuation τ sig (Elt F)) : after ops10 V (Proc.devRef .tc main_cst_8) = constant (F := F) S_ .f32 0x00000000#32 := by
  after_reads_simp
  try simp -implicitDefEqProofs only [StableHlo.TRef.toBuf, StableHlo.TRef.ofBuf, cast_cast, cast_eq]
  try rfl

theorem s10_cst_9 (V : Valuation τ sig (Elt F)) : after ops10 V (Proc.devRef .tc main_cst_9) = constant (F := F) S_ .f32 0x3F800000#32 := by
  after_reads_simp
  try simp -implicitDefEqProofs only [StableHlo.TRef.toBuf, StableHlo.TRef.ofBuf, cast_cast, cast_eq]
  try rfl

theorem s10_v15 (V : Valuation τ sig (Elt F)) : after ops10 V (Proc.devRef .tc main_v15) = V (Proc.devRef .tc main_v15) := by
  after_reads_simp
  try simp -implicitDefEqProofs only [StableHlo.TRef.toBuf, StableHlo.TRef.ofBuf, cast_cast, cast_eq]
  try rfl

theorem s10_v29 (V : Valuation τ sig (Elt F)) : after ops10 V (Proc.devRef .tc main_v29) = V (Proc.devRef .tc main_v29) := by
  after_reads_simp
  try simp -implicitDefEqProofs only [StableHlo.TRef.toBuf, StableHlo.TRef.ofBuf, cast_cast, cast_eq]
  try rfl

set_option maxHeartbeats 4000000 in
theorem s11_v37 (V : Valuation τ sig (Elt F)) : after ops11 V (Proc.devRef .tc main_v37) = fn_uniform (F := F) (V (Proc.devRef .tc main_v36)) (V (Proc.devRef .tc main_cst_8)) (V (Proc.devRef .tc main_cst_9)) := by
  after_reads_simp
  try simp -implicitDefEqProofs only [StableHlo.TRef.toBuf, StableHlo.TRef.ofBuf, cast_cast, cast_eq]
  try rfl

set_option maxHeartbeats 4000000 in
theorem s11_v15 (V : Valuation τ sig (Elt F)) : after ops11 V (Proc.devRef .tc main_v15) = V (Proc.devRef .tc main_v15) :=
  StableHlo.after_of_forall_not_mem (b := Proc.devRef .tc main_v15) _ _ (List.forall_iff_forall_mem.mp (by
    simp only [ops11, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 4000000 in
theorem s11_v29 (V : Valuation τ sig (Elt F)) : after ops11 V (Proc.devRef .tc main_v29) = V (Proc.devRef .tc main_v29) :=
  StableHlo.after_of_forall_not_mem (b := Proc.devRef .tc main_v29) _ _ (List.forall_iff_forall_mem.mp (by
    simp only [ops11, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem s12_v42 (V : Valuation τ sig (Elt F)) : after ops12 V (Proc.devRef .tc main_v42) = col (Host.reduce IntOp.addi (extui 32 (cmpf .olt (V (Proc.devRef .tc main_v29)) (wide (V (Proc.devRef .tc main_v37)))) natLt_1_32) (constantI S_ 32 0#32)
    reducesTo_S64x100000_S64_d1 h_S_) := by
  after_reads_simp
  try simp -implicitDefEqProofs only [StableHlo.TRef.toBuf, StableHlo.TRef.ofBuf, cast_cast, cast_eq]
  try rfl

theorem s12_c_11 (V : Valuation τ sig (Elt F)) : after ops12 V (Proc.devRef .tc main_c_11) = constantI S_ 32 0#32 := by
  after_reads_simp
  try simp -implicitDefEqProofs only [StableHlo.TRef.toBuf, StableHlo.TRef.ofBuf, cast_cast, cast_eq]
  try rfl

theorem s12_c_12 (V : Valuation τ sig (Elt F)) : after ops12 V (Proc.devRef .tc main_c_12) = constantI S_ 32 99999#32 := by
  after_reads_simp
  try simp -implicitDefEqProofs only [StableHlo.TRef.toBuf, StableHlo.TRef.ofBuf, cast_cast, cast_eq]
  try rfl

theorem s12_v15 (V : Valuation τ sig (Elt F)) : after ops12 V (Proc.devRef .tc main_v15) = V (Proc.devRef .tc main_v15) := by
  after_reads_simp
  try simp -implicitDefEqProofs only [StableHlo.TRef.toBuf, StableHlo.TRef.ofBuf, cast_cast, cast_eq]
  try rfl

theorem s13_v43 (V : Valuation τ sig (Elt F)) : after ops13 V (Proc.devRef .tc main_v43) = fn_clip_1 (F := F) (V (Proc.devRef .tc main_v42)) (V (Proc.devRef .tc main_c_11)) (V (Proc.devRef .tc main_c_12)) := by
  after_reads_simp
  try simp -implicitDefEqProofs only [StableHlo.TRef.toBuf, StableHlo.TRef.ofBuf, cast_cast, cast_eq]
  try rfl

theorem s13_v15 (V : Valuation τ sig (Elt F)) : after ops13 V (Proc.devRef .tc main_v15) = V (Proc.devRef .tc main_v15) := by
  after_reads_simp
  try simp -implicitDefEqProofs only [StableHlo.TRef.toBuf, StableHlo.TRef.ofBuf, cast_cast, cast_eq]
  try rfl

theorem s14_v44 (V : Valuation τ sig (Elt F)) : after ops14 V (Proc.devRef .tc main_v44) = takeOne (broadcastInDim S64x1 ![] bcast_S_S64x1 (constantI S_ 32 2147483648#32)) (V (Proc.devRef .tc main_v15)) (V (Proc.devRef .tc main_v43)) := by
  after_reads_simp
  try simp -implicitDefEqProofs only [StableHlo.TRef.toBuf, StableHlo.TRef.ofBuf, cast_cast, cast_eq]
  try rfl

theorem segments (V : Valuation τ sig (Elt F)) : after ops V = after ops14 (after ops13 (after ops12 (after ops11 (after ops10 (after ops9 (after ops8
    (after ops7 (after ops6 (after ops5 (after ops4 (after ops3 (after ops2 (after ops1 (after ops0 V)))))))))))))) := by
  have key : ∀ a b c d e f g h i j k l m n o : List (HloOp τ sig (Elt F)), after (a ++ b ++ c ++ d ++ e ++ f ++ g ++ h ++ i ++ j ++ k ++ l ++ m ++ n ++ o) V
      = after o (after n (after m (after l (after k (after j (after i (after h (after g (after f (after e (after d (after c (after b (after a V)))))))))))))) := by
    intros
    simp only [StableHlo.after_append]
  exact key _ _ _ _ _ _ _ _ _ _ _ _ _ _ _

/-- The reference's answers. -/
def drawn (x0 : FVec F S64x100000 .f32) (x1 x2 : FVec F S64x1 .f32) : IVec S64x1 32 :=
  takeOne (broadcastInDim S64x1 ![] bcast_S_S64x1 (constantI S_ 32 2147483648#32)) (orderOf (probs x0 x1)) (placeOf (probs x0 x1) x2 (unif keyWords))

theorem value (V : Valuation τ sig (Elt F)) : after ops V (Proc.devRef .tc main_v44)
    = drawn (F := F) (V (Proc.devRef .tc main_arg0)) (V (Proc.devRef .tc main_arg1)) (V (Proc.devRef .tc main_arg2)) := by
  rw [segments, s14_v44, s13_v15, s12_v15, s11_v15, s10_v15, s9_v15, s8_v15, s7_v15, s6_v15, s5_v15, s4_v15, s13_v43, s12_v42, s12_c_11, s12_c_12,
    s11_v29, s11_v37, s10_v29, s10_v36, s10_cst_8, s10_cst_9, s9_v29, s8_v28, s7_v24, s6_v23, s6_cst_3, s6_v16, s5_v16, s5_v17, s5_arg2, s4_v16, s4_arg2,
    s3_v15, s3_v13, s3_arg2, s2_v13, s2_v14, s2_arg2, s1_v0, s1_arg0, s1_arg2, s0_cst, s0_arg0, s0_arg1, s0_arg2]
  rfl

end Cert.ReferenceIdeal.Hand
-- ==== Proof.KValue.lean ====
module

public import proofs.«01_k».proof.Proof.KHost
public import proofs.«01_k».proof.Proof.RowPad
public import proofs.«01_k».proof.Proof.RefValue

/-! The kernel's run, its result read, and that result against the reference's. -/

@[expose] public section

set_option maxRecDepth 65536

noncomputable section

namespace Cert.KernelIdeal.Hand

open Cert.KernelIdeal Cert.KernelIdeal.Gen Idealize.ShloMosaic Idealize.ShloMosaic.TcCoe Idealize.ShloMosaic.StableHlo Idealize.SL.Sem Finset
open Cert.Row

section Run

variable (m : (ℓ : Loc nD τ sig) → Buf (Elt Ideal) ℓ) (ρ : Dev nD → PrngReg)

/-- The buffers at the region's end. -/
def exitV (c : Dev nD) : Valuation τ sig (Elt Ideal) :=
  Pipeline.withArrays spec0 c (V0 m c) fun w => (dats m 0 c).arrAt w cfg0.N

theorem exit_v12 (c : Dev nD) : exitV m c (Proc.devRef .tc main_v12) = result m c :=
  Pipeline.withArrays_arr spec0 launch0.win.arr_inj c (V0 m c) _ 4

theorem tail_read (V : Valuation τ sig (Elt Ideal)) : after (List.flatten [hostOps1]) V (Proc.devRef .tc main_v13)
    = extractStridedSlice S64x1 ![0, 0] (V (Proc.devRef .tc main_v12)) slices_S64x128_S64x1_0_0 := by
  simp only [hostOps1, List.flatten_cons, List.flatten_nil, List.append_nil, List.cons_append, List.nil_append]
  after_results

theorem fin_read (c : Dev nD) : Pipeline.afterTail₀ cfgs (dats m) 0 (V0 m) [hostOps1] c main_v13
    = extractStridedSlice S64x1 ![0, 0] (result m c) slices_S64x128_S64x1_0_0 :=
  (tail_read (exitV m c)).trans (by rw [exit_v12])

/-- The kernel's run: the first column of the result array, the arguments unchanged. -/
theorem run_value : θ_run defs (onTc (τ := τ) (main (F := Ideal))) ⟨m, fun _ => 0, ρ⟩ fun r => ∀ c : Dev nD,
    r.2.mem ((c : Thread nD τ).loc main_v13) = extractStridedSlice S64x1 ![0, 0] (result m c) slices_S64x128_S64x1_0_0
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun _ h c =>
    ⟨((h c).2 main_v13 (Pipeline.mem_restRefs_of main_v13 (by decide) (by decide))).trans (fin_read m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩) (run_frame m ρ)

end Run

theorem column_read {α : Type} (x : S64x128.Idx → α) (r : Fin 64) :
    extractStridedSlice S64x1 ![0, 0] x slices_S64x128_S64x1_0_0 (ix2 r 0) = x (ix2 r 0) := by
  pointwise []

variable [Cert.Pre_resolvable.Facts]

/-- A row's answer over any padded row. -/
theorem answer_row (x0 : FVec Ideal S64x100000 .f32) (x1 x2 : FVec Ideal S64x1 .f32)
    (hg : Ref.good (F := Ideal) x0 x1 x2 = fun _ => 1#1) (r : Fin 64) (X : Fin 100096 → EReal) (D P U : EReal)
    (hX : ∀ j, X j = if hj : j.val < 100000 then x0 (ix2 r ⟨j.val, hj⟩) else ⊥)
    (hD : D = x1 (ix2 r 0)) (hP : P = x2 (ix2 r 0)) (hU : U = Ref.unif (F := Ideal) Ref.keyWords (ix2 r 0)) :
    sPick (heavy X (max D (fb 0x322BCC77#32))) P U = Cert.ReferenceIdeal.Hand.drawn (F := Ideal) x0 x1 x2 (ix2 r 0) := by
  obtain ⟨L, d, u, v, q, K, ks, hL, hd, hde, hv, hq, hu, hK, hks, hlo, hhi, hc, ht⟩ := Ref.row_main x0 x1 x2 hg r
  unfold Cert.ReferenceIdeal.Hand.drawn
  rw [ht, hU, hu, hP, hD, max_comm, show max (fb 0x322BCC77#32) (x1 (ix2 r 0)) = (d : EReal) from hde]
  exact pick_wide (n := 100000) (N := 100096) (by norm_num) le_rfl le_rfl (fun k => x0 (ix2 r k)) X
    (fun k => (hX _).trans (dif_pos k.isLt)) (fun j hj => (hX j).trans (dif_neg (Nat.not_lt.mpr hj))) ks hL hd hv hq hK hks hlo hhi hc

variable (m : (ℓ : Loc nD τ sig) → Buf (Elt Ideal) ℓ)

theorem X0_read (c : Dev nD) (r : Fin 64) (j : Fin 100096) :
    X0 m c (ix2 r j) = if hj : j.val < 100000 then (m ((c : Thread nD τ).loc main_arg0) : FVec Ideal S64x100000 .f32) (ix2 r ⟨j.val, hj⟩) else (⊥ : EReal) := by
  rw [X0_eq]
  refine (pad_at _ _ _ _ r j).trans ?_
  rw [show constant (F := Ideal) S_ .f32 0xFF800000#32 (Shape.Idx.first h_S_) = (⊥ : EReal) from Ref.ninf]

/-- The kernel's first column is the reference's answers. -/
theorem column_eq (c : Dev nD) (hg : Cert.Pre_resolvable.fn (F := Ideal) (m ((c : Thread nD τ).loc main_arg0)) (m ((c : Thread nD τ).loc main_arg1)) (m ((c : Thread nD τ).loc main_arg2)) = fun _ => 1#1) :
    extractStridedSlice S64x1 ![0, 0] (result m c) slices_S64x128_S64x1_0_0
      = Cert.ReferenceIdeal.Hand.drawn (F := Ideal) (m ((c : Thread nD τ).loc main_arg0)) (m ((c : Thread nD τ).loc main_arg1)) (m ((c : Thread nD τ).loc main_arg2)) := by
  funext y
  obtain ⟨r, j, rfl⟩ := ix2_eta (A := 64) (B := 1) y
  obtain rfl : j = 0 := Subsingleton.elim _ _
  refine (column_read _ r).trans ((result_read m c r).trans ?_)
  unfold answer
  exact answer_row _ _ _ ((Ref.fn_eq _ _ _).symm.trans hg) r _ _ _ _ (fun j => X0_read m c r j)
    (by rw [X1_eq]; exact wide_at _ r) (by rw [X2_eq]; exact wide_at _ r) (by rw [X3_eq]; exact wide_at _ r)

end Cert.KernelIdeal.Hand
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KFrame
public import proofs.«01_k».proof.Proof.FFrame
public import proofs.«01_k».proof.Proof.RefRun
public import proofs.«01_k».proof.Proof.PreFacts
public import proofs.«01_k».proof.Proof.KValue

@[expose] public section

noncomputable section

namespace Cert.Proof

open Idealize.ShloMosaic Idealize.ShloMosaic.TcCoe Idealize.SL.Sem

/-- The reference's run: the drawn tokens, the arguments unchanged. -/
theorem reference_value [Cert.Pre_resolvable.Facts]
    (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v44)
          = Cert.ReferenceIdeal.Hand.drawn (F := Ideal) (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run _ _ _).mono (fun _ h c =>
    ⟨(h c Cert.ReferenceIdeal.main_v44).trans (Cert.ReferenceIdeal.Hand.value _),
     (h c Cert.ReferenceIdeal.main_arg0).trans (Cert.ReferenceIdeal.Hand.arg0_kept _),
     (h c Cert.ReferenceIdeal.main_arg1).trans (Cert.ReferenceIdeal.Hand.arg1_kept _),
     (h c Cert.ReferenceIdeal.main_arg2).trans (Cert.ReferenceIdeal.Hand.arg2_kept _)⟩)
    (Cert.ReferenceIdeal.Hand.run_after m ρ)

/-- The kernel and the reference end with the same drawn tokens. -/
theorem values [Cert.Pre_resolvable.Facts] : Cert.algebraic_KernelIdeal_ReferenceIdeal_pre_resolvable := by
  intro m g m' g' hpre hargs
  refine ⟨fun c => Cert.ReferenceIdeal.Hand.drawn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run _ _ _).mono (fun _ h c => ⟨(h c).1.trans (Cert.KernelIdeal.Hand.column_eq m c (hpre c)), (h c).2⟩)
      (Cert.KernelIdeal.Hand.run_value m g)
  · refine (θ_run _ _ _).mono (fun _ h c => ⟨(h c).1.trans ?_, (h c).2⟩) (reference_value m' g')
    obtain ⟨h0, h1, h2⟩ := hargs c
    rw [h0, h1, h2]

theorem claim : Cert.Claim :=
  ⟨Cert.Kernel.Gen.facts, Cert.KernelIdeal.Gen.facts, Cert.ReferenceIdeal.Gen.facts, Cert.Row.Ref.preFacts,
    fun m ρ _ => Cert.Kernel.Hand.frame m ρ,
    fun m ρ _ => Cert.KernelIdeal.Hand.frame m ρ,
    fun m ρ _ => Cert.KernelIdeal.Hand.frame m ρ,
    fun m ρ _ => Cert.ReferenceIdeal.Hand.frame m ρ,
    fun m ρ _ => Cert.ReferenceIdeal.Hand.frame m ρ,
    trivial,
    @values Cert.Row.Ref.preFacts⟩

end Cert.Proof

end
